-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90_0) = v0 c
          ∧ r.2.mem ((c.tc : Thread Cert.ReferenceIdeal.nD Cert.ReferenceIdeal.τ).loc Cert.ReferenceIdeal.main_v90_1) = v1 c
          ∧ r.2.mem ((c.tc : Thread Cert.ReferenceIdeal.nD Cert.ReferenceIdeal.τ).loc Cert.ReferenceIdeal.main_v90_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x4096x5120 : Shape := ⟨3, ![3, 4096, 5120]⟩
abbrev S5120x2560 : Shape := ⟨2, ![5120, 2560]⟩
abbrev S320x5120 : Shape := ⟨2, ![320, 5120]⟩
abbrev S_ : Shape := ⟨0, ![]⟩

class Facts : Prop where
  bcast_S_S3x4096x5120 : S_.BroadcastsInDim S3x4096x5120 (![] : Fin 0 → Fin S3x4096x5120.rank)

variable [Facts]

def fn {F : FTy → Type} [FloatOps F] (main_arg0 : FVec F S3x4096x5120 .bf16) (main_arg1 : IVec S5120x2560 8) (main_arg2 : FVec F S320x5120 .fp8e4m3) (main_arg3 : FVec F S_ .f32) : IVec S3x4096x5120 1 :=
  let main_v0 : FVec F S3x4096x5120 .bf16 := Host.absf main_arg0
  let main_cst : FVec F S_ .bf16 := constant S_ .bf16 0x7F7F#16
  let main_v1 : FVec F S3x4096x5120 .bf16 := broadcastInDim S3x4096x5120 ![] bcast_S_S3x4096x5120 main_cst
  let main_v2 : IVec S3x4096x5120 1 := cmpf .ole main_v0 main_v1
  main_v2
-- ==== Kernel.lean ====
abbrev S3x4096x5120 : Shape := ⟨3, ![3, 4096, 5120]⟩
abbrev S5120x2560 : Shape := ⟨2, ![5120, 2560]⟩
abbrev S320x5120 : Shape := ⟨2, ![320, 5120]⟩
abbrev S_ : Shape := ⟨0, ![]⟩
abbrev S5120x5120 : Shape := ⟨2, ![5120, 5120]⟩
abbrev S1280x128 : Shape := ⟨2, ![1280, 128]⟩
abbrev S80x256 : Shape := ⟨2, ![80, 256]⟩
abbrev S1280x256 : Shape := ⟨2, ![1280, 256]⟩
abbrev S8x128 : Shape := ⟨2, ![8, 128]⟩
abbrev S320x128 : Shape := ⟨2, ![320, 128]⟩
abbrev S8x128x1 : Shape := ⟨3, ![8, 128, 1]⟩
abbrev S32x128 : Shape := ⟨2, ![32, 128]⟩
abbrev S1x128 : Shape := ⟨2, ![1, 128]⟩
abbrev S16x128 : Shape := ⟨2, ![16, 128]⟩
abbrev S1 : Shape := ⟨1, ![1]⟩
abbrev S12288x5120 : Shape := ⟨2, ![12288, 5120]⟩
abbrev S12288x1 : Shape := ⟨2, ![12288, 1]⟩
abbrev S512x5120 : Shape := ⟨2, ![512, 5120]⟩
abbrev S5120x1280 : Shape := ⟨2, ![5120, 1280]⟩
abbrev S512x1280 : Shape := ⟨2, ![512, 1280]⟩
abbrev S512x1 : Shape := ⟨2, ![512, 1]⟩
abbrev S512 : Shape := ⟨1, ![512]⟩
abbrev S1x256 : Shape := ⟨2, ![1, 256]⟩
abbrev S512x256 : Shape := ⟨2, ![512, 256]⟩

abbrev nBuf : Space → Nat
  | .hbm => 10
  | .vmem => 18
  | .smem => 1
  | _ => 0

abbrev bufTy : (tb : Table) → Fin (tcTables nBuf tb) → BufTy
  | .hbm, ⟨0, _⟩ => ⟨S3x4096x5120, .bf16⟩
  | .hbm, ⟨1, _⟩ => ⟨S5120x2560, .i8⟩
  | .hbm, ⟨2, _⟩ => ⟨S320x5120, .fp8e4m3⟩
  | .hbm, ⟨3, _⟩ => ⟨S_, .f32⟩
  | .hbm, ⟨4, _⟩ => ⟨S5120x5120, .bf16⟩
  | .hbm, ⟨5, _⟩ => ⟨S1, .f32⟩
  | .hbm, ⟨6, _⟩ => ⟨S12288x5120, .bf16⟩
  | .hbm, ⟨7, _⟩ => ⟨S12288x5120, .bf16⟩
  | .hbm, ⟨8, _⟩ => ⟨S12288x5120, .fp8e4m3⟩
  | .hbm, ⟨9, _⟩ => ⟨S12288x1, .f32⟩
  | .local _ .vmem, ⟨0, _⟩ => ⟨S1280x128, .i8⟩
  | .local _ .vmem, ⟨1, _⟩ => ⟨S1280x128, .i8⟩
  | .local _ .vmem, ⟨2, _⟩ => ⟨S80x256, .fp8e4m3⟩
  | .local _ .vmem, ⟨3, _⟩ => ⟨S80x256, .fp8e4m3⟩
  | .local _ .vmem, ⟨4, _⟩ => ⟨S1280x256, .bf16⟩
  | .local _ .vmem, ⟨5, _⟩ => ⟨S1280x256, .bf16⟩
  | .local _ .vmem, ⟨6, _⟩ => ⟨S512x5120, .bf16⟩
  | .local _ .vmem, ⟨7, _⟩ => ⟨S512x5120, .bf16⟩
  | .local _ .vmem, ⟨8, _⟩ => ⟨S5120x1280, .bf16⟩
  | .local _ .vmem, ⟨9, _⟩ => ⟨S5120x1280, .bf16⟩
  | .local _ .vmem, ⟨10, _⟩ => ⟨S512x1280, .bf16⟩
  | .local _ .vmem, ⟨11, _⟩ => ⟨S512x1280, .bf16⟩
  | .local _ .vmem, ⟨12, _⟩ => ⟨S512x5120, .fp8e4m3⟩
  | .local _ .vmem, ⟨13, _⟩ => ⟨S512x5120, .fp8e4m3⟩
  | .local _ .vmem, ⟨14, _⟩ => ⟨S512x1, .f32⟩
  | .local _ .vmem, ⟨15, _⟩ => ⟨S512x1, .f32⟩
  | .local _ .vmem, ⟨16, _⟩ => ⟨S512x5120, .bf16⟩
  | .local _ .vmem, ⟨17, _⟩ => ⟨S512x1, .f32⟩
  | .local _ .smem, ⟨0, _⟩ => ⟨S1, .f32⟩
  | _, _ => ⟨S3x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![4, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S80x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1280x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![24, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S512x5120 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S5120x1280 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1280 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x5120 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== ReferenceIdeal.lean ====
abbrev S3x4096x5120 : Shape := ⟨3, ![3, 4096, 5120]⟩
abbrev S5120x2560 : Shape := ⟨2, ![5120, 2560]⟩
abbrev S320x5120 : Shape := ⟨2, ![320, 5120]⟩
abbrev S_ : Shape := ⟨0, ![]⟩
abbrev S12288x5120 : Shape := ⟨2, ![12288, 5120]⟩
abbrev S12288 : Shape := ⟨1, ![12288]⟩
abbrev S12288x1 : Shape := ⟨2, ![12288, 1]⟩
abbrev S5120x2560x1 : Shape := ⟨3, ![5120, 2560, 1]⟩
abbrev S5120x2560x2 : Shape := ⟨3, ![5120, 2560, 2]⟩
abbrev S5120x5120 : Shape := ⟨2, ![5120, 5120]⟩
abbrev S320x16x5120 : Shape := ⟨3, ![320, 16, 5120]⟩
abbrev S1x1 : Shape := ⟨2, ![1, 1]⟩

abbrev nBuf : Space → Nat
  | .hbm => 168
  | .vmem => 8
  | .smem => 0
  | _ => 0

abbrev hbmTy0_0 (i : Nat) : BufTy := match i % 128 with
  | 0 => ⟨S3x4096x5120, .bf16⟩
  | 1 => ⟨S5120x2560, .i8⟩
  | 2 => ⟨S320x5120, .fp8e4m3⟩
  | 3 => ⟨S_, .f32⟩
  | 4 => ⟨S12288x5120, .bf16⟩
  | 5 => ⟨S12288x5120, .f32⟩
  | 6 => ⟨S12288x5120, .f32⟩
  | 7 => ⟨S_, .f32⟩
  | 8 => ⟨S12288, .f32⟩
  | 9 => ⟨S12288x1, .f32⟩
  | 10 => ⟨S_, .f32⟩
  | 11 => ⟨S12288x1, .f32⟩
  | 12 => ⟨S12288x1, .f32⟩
  | 13 => ⟨S_, .f32⟩
  | 14 => ⟨S12288x1, .f32⟩
  | 15 => ⟨S12288x1, .i1⟩
  | 16 => ⟨S_, .f32⟩
  | 17 => ⟨S_, .f32⟩
  | 18 => ⟨S12288x1, .f32⟩
  | 19 => ⟨S12288x1, .f32⟩
  | 20 => ⟨S_, .f32⟩
  | 21 => ⟨S12288x1, .f32⟩
  | 22 => ⟨S12288x1, .i1⟩
  | 23 => ⟨S12288x1, .f32⟩
  | 24 => ⟨S_, .f32⟩
  | 25 => ⟨S12288x1, .f32⟩
  | 26 => ⟨S12288x1, .f32⟩
  | 27 => ⟨S12288x1, .f32⟩
  | 28 => ⟨S12288x1, .f32⟩
  | 29 => ⟨S_, .f32⟩
  | 30 => ⟨S12288x1, .f32⟩
  | 31 => ⟨S12288x1, .f32⟩
  | 32 => ⟨S_, .f32⟩
  | 33 => ⟨S_, .f32⟩
  | 34 => ⟨S12288x1, .f32⟩
  | 35 => ⟨S12288x1, .f32⟩
  | 36 => ⟨S_, .f32⟩
  | 37 => ⟨S12288x1, .f32⟩
  | 38 => ⟨S12288x1, .f32⟩
  | 39 => ⟨S12288x1, .f32⟩
  | 40 => ⟨S_, .f32⟩
  | 41 => ⟨S12288x1, .f32⟩
  | 42 => ⟨S12288x1, .f32⟩
  | 43 => ⟨S12288x5120, .f32⟩
  | 44 => ⟨S12288x5120, .f32⟩
  | 45 => ⟨S_, .f32⟩
  | 46 => ⟨S_, .f32⟩
  | 47 => ⟨S_, .f32⟩
  | 48 => ⟨S12288x5120, .f32⟩
  | 49 => ⟨S12288x5120, .f32⟩
  | 50 => ⟨S_, .f32⟩
  | 51 => ⟨S12288x5120, .f32⟩
  | 52 => ⟨S12288x5120, .f32⟩
  | 53 => ⟨S5120x2560, .i32⟩
  | 54 => ⟨S_, .i32⟩
  | 55 => ⟨S5120x2560, .i32⟩
  | 56 => ⟨S5120x2560, .i32⟩
  | 57 => ⟨S_, .i32⟩
  | 58 => ⟨S5120x2560, .i32⟩
  | 59 => ⟨S5120x2560, .i32⟩
  | 60 => ⟨S_, .i32⟩
  | 61 => ⟨S5120x2560, .i32⟩
  | 62 => ⟨S5120x2560, .i1⟩
  | 63 => ⟨S_, .i32⟩
  | 64 => ⟨S5120x2560, .i32⟩
  | 65 => ⟨S5120x2560, .i32⟩
  | 66 => ⟨S_, .i32⟩
  | 67 => ⟨S5120x2560, .i32⟩
  | 68 => ⟨S5120x2560, .i1⟩
  | 69 => ⟨S_, .i32⟩
  | 70 => ⟨S5120x2560, .i32⟩
  | 71 => ⟨S5120x2560, .i32⟩
  | 72 => ⟨S_, .i32⟩
  | 73 => ⟨S5120x2560, .i32⟩
  | 74 => ⟨S5120x2560, .i1⟩
  | 75 => ⟨S_, .i32⟩
  | 76 => ⟨S5120x2560, .i32⟩
  | 77 => ⟨S5120x2560, .i32⟩
  | 78 => ⟨S_, .i32⟩
  | 79 => ⟨S5120x2560, .i32⟩
  | 80 => ⟨S5120x2560, .i1⟩
  | 81 => ⟨S_, .bf16⟩
  | 82 => ⟨S_, .bf16⟩
  | 83 => ⟨S5120x2560, .bf16⟩
  | 84 => ⟨S5120x2560, .bf16⟩
  | 85 => ⟨S5120x2560, .bf16⟩
  | 86 => ⟨S_, .bf16⟩
  | 87 => ⟨S_, .bf16⟩
  | 88 => ⟨S5120x2560, .bf16⟩
  | 89 => ⟨S5120x2560, .bf16⟩
  | 90 => ⟨S5120x2560, .bf16⟩
  | 91 => ⟨S_, .bf16⟩
  | 92 => ⟨S_, .bf16⟩
  | 93 => ⟨S5120x2560, .bf16⟩
  | 94 => ⟨S5120x2560, .bf16⟩
  | 95 => ⟨S5120x2560, .bf16⟩
  | 96 => ⟨S_, .bf16⟩
  | 97 => ⟨S_, .bf16⟩
  | 98 => ⟨S5120x2560, .bf16⟩
  | 99 => ⟨S5120x2560, .bf16⟩
  | 100 => ⟨S5120x2560, .bf16⟩
  | 101 => ⟨S5120x2560, .bf16⟩
  | 102 => ⟨S5120x2560, .bf16⟩
  | 103 => ⟨S5120x2560, .bf16⟩
  | 104 => ⟨S5120x2560, .bf16⟩
  | 105 => ⟨S5120x2560, .bf16⟩
  | 106 => ⟨S_, .i32⟩
  | 107 => ⟨S5120x2560, .i32⟩
  | 108 => ⟨S5120x2560, .i32⟩
  | 109 => ⟨S_, .i32⟩
  | 110 => ⟨S5120x2560, .i32⟩
  | 111 => ⟨S5120x2560, .i32⟩
  | 112 => ⟨S_, .i32⟩
  | 113 => ⟨S5120x2560, .i32⟩
  | 114 => ⟨S5120x2560, .i1⟩
  | 115 => ⟨S_, .i32⟩
  | 116 => ⟨S5120x2560, .i32⟩
  | 117 => ⟨S5120x2560, .i32⟩
  | 118 => ⟨S_, .i32⟩
  | 119 => ⟨S5120x2560, .i32⟩
  | 120 => ⟨S5120x2560, .i1⟩
  | 121 => ⟨S_, .i32⟩
  | 122 => ⟨S5120x2560, .i32⟩
  | 123 => ⟨S5120x2560, .i32⟩
  | 124 => ⟨S_, .i32⟩
  | 125 => ⟨S5120x2560, .i32⟩
  | 126 => ⟨S5120x2560, .i1⟩
  | 127 => ⟨S_, .i32⟩
  | _ => ⟨S3x4096x5120, .bf16⟩

abbrev hbmTy0_1 (i : Nat) : BufTy := match i % 128 with
  | 0 => ⟨S5120x2560, .i32⟩
  | 1 => ⟨S5120x2560, .i32⟩
  | 2 => ⟨S_, .i32⟩
  | 3 => ⟨S5120x2560, .i32⟩
  | 4 => ⟨S5120x2560, .i1⟩
  | 5 => ⟨S_, .bf16⟩
  | 6 => ⟨S_, .bf16⟩
  | 7 => ⟨S5120x2560, .bf16⟩
  | 8 => ⟨S5120x2560, .bf16⟩
  | 9 => ⟨S5120x2560, .bf16⟩
  | 10 => ⟨S_, .bf16⟩
  | 11 => ⟨S_, .bf16⟩
  | 12 => ⟨S5120x2560, .bf16⟩
  | 13 => ⟨S5120x2560, .bf16⟩
  | 14 => ⟨S5120x2560, .bf16⟩
  | 15 => ⟨S_, .bf16⟩
  | 16 => ⟨S_, .bf16⟩
  | 17 => ⟨S5120x2560, .bf16⟩
  | 18 => ⟨S5120x2560, .bf16⟩
  | 19 => ⟨S5120x2560, .bf16⟩
  | 20 => ⟨S_, .bf16⟩
  | 21 => ⟨S_, .bf16⟩
  | 22 => ⟨S5120x2560, .bf16⟩
  | 23 => ⟨S5120x2560, .bf16⟩
  | 24 => ⟨S5120x2560, .bf16⟩
  | 25 => ⟨S5120x2560, .bf16⟩
  | 26 => ⟨S5120x2560, .bf16⟩
  | 27 => ⟨S5120x2560, .bf16⟩
  | 28 => ⟨S5120x2560, .bf16⟩
  | 29 => ⟨S5120x2560, .bf16⟩
  | 30 => ⟨S5120x2560x1, .bf16⟩
  | 31 => ⟨S5120x2560x1, .bf16⟩
  | 32 => ⟨S5120x2560x2, .bf16⟩
  | 33 => ⟨S5120x5120, .bf16⟩
  | 34 => ⟨S320x16x5120, .fp8e4m3⟩
  | 35 => ⟨S5120x5120, .fp8e4m3⟩
  | 36 => ⟨S1x1, .f32⟩
  | 37 => ⟨S12288x5120, .bf16⟩
  | 38 => ⟨S12288x5120, .fp8e4m3⟩
  | 39 => ⟨S12288x1, .f32⟩
  | _ => ⟨S3x4096x5120, .bf16⟩

abbrev hbmTy (i : Nat) : BufTy := match i / 128 with
  | 0 => hbmTy0_0 i
  | 1 => hbmTy0_1 i
  | _ => ⟨S3x4096x5120, .bf16⟩

abbrev bufTy : (tb : Table) → Fin (tcTables nBuf tb) → BufTy
  | .hbm, ⟨i, _⟩ => hbmTy i
  | .local _ .vmem, ⟨0, _⟩ => ⟨S12288x5120, .f32⟩
  | .local _ .vmem, ⟨1, _⟩ => ⟨S12288x1, .f32⟩
  | .local _ .vmem, ⟨2, _⟩ => ⟨S5120x5120, .bf16⟩
  | .local _ .vmem, ⟨3, _⟩ => ⟨S5120x5120, .fp8e4m3⟩
  | .local _ .vmem, ⟨4, _⟩ => ⟨S1x1, .f32⟩
  | .local _ .vmem, ⟨5, _⟩ => ⟨S12288x5120, .bf16⟩
  | .local _ .vmem, ⟨6, _⟩ => ⟨S12288x5120, .fp8e4m3⟩
  | .local _ .vmem, ⟨7, _⟩ => ⟨S12288x1, .f32⟩
  | _, _ => ⟨S3x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_9 : Ref sig .tc := ⟨.hbm, 45, rfl⟩
abbrev main_cst_10 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v27 : Ref sig .tc := ⟨.hbm, 52, rfl⟩
abbrev main_v28 : Ref sig .tc := ⟨.hbm, 53, rfl⟩
abbrev main_c : Ref sig .tc := ⟨.hbm, 54, rfl⟩
abbrev main_v29 : Ref sig .tc := ⟨.hbm, 55, rfl⟩
abbrev main_v30 : Ref sig .tc := ⟨.hbm, 56, rfl⟩
abbrev main_c_11 : Ref sig .tc := ⟨.hbm, 57, rfl⟩
abbrev main_v31 : Ref sig .tc := ⟨.hbm, 58, rfl⟩
abbrev main_v32 : Ref sig .tc := ⟨.hbm, 59, rfl⟩
abbrev main_c_12 : Ref sig .tc := ⟨.hbm, 60, rfl⟩
abbrev main_v33 : Ref sig .tc := ⟨.hbm, 61, rfl⟩
abbrev main_v34 : Ref sig .tc := ⟨.hbm, 62, rfl⟩
abbrev main_c_13 : Ref sig .tc := ⟨.hbm, 63, rfl⟩
abbrev main_v35 : Ref sig .tc := ⟨.hbm, 64, rfl⟩
abbrev main_v36 : Ref sig .tc := ⟨.hbm, 65, rfl⟩
abbrev main_c_14 : Ref sig .tc := ⟨.hbm, 66, rfl⟩
abbrev main_v37 : Ref sig .tc := ⟨.hbm, 67, rfl⟩
abbrev main_v38 : Ref sig .tc := ⟨.hbm, 68, rfl⟩
abbrev main_c_15 : Ref sig .tc := ⟨.hbm, 69, rfl⟩
abbrev main_v39 : Ref sig .tc := ⟨.hbm, 70, rfl⟩
abbrev main_v40 : Ref sig .tc := ⟨.hbm, 71, rfl⟩
abbrev main_c_16 : Ref sig .tc := ⟨.hbm, 72, rfl⟩
abbrev main_v41 : Ref sig .tc := ⟨.hbm, 73, rfl⟩
abbrev main_v42 : Ref sig .tc := ⟨.hbm, 74, rfl⟩
abbrev main_c_17 : Ref sig .tc := ⟨.hbm, 75, rfl⟩
abbrev main_v43 : Ref sig .tc := ⟨.hbm, 76, rfl⟩
abbrev main_v44 : Ref sig .tc := ⟨.hbm, 77, rfl⟩
abbrev main_c_18 : Ref sig .tc := ⟨.hbm, 78, rfl⟩
abbrev main_v45 : Ref sig .tc := ⟨.hbm, 79, rfl⟩
abbrev main_v46 : Ref sig .tc := ⟨.hbm, 80, rfl⟩
abbrev main_cst_19 : Ref sig .tc := ⟨.hbm, 81, rfl⟩
abbrev main_cst_20 : Ref sig .tc := ⟨.hbm, 82, rfl⟩
abbrev main_call3_v0 : Ref sig .tc := ⟨.hbm, 83, rfl⟩
abbrev main_call3_v1 : Ref sig .tc := ⟨.hbm, 84, rfl⟩
abbrev main_v47 : Ref sig .tc := ⟨.hbm, 85, rfl⟩
abbrev main_cst_21 : Ref sig .tc := ⟨.hbm, 86, rfl⟩
abbrev main_cst_22 : Ref sig .tc := ⟨.hbm, 87, rfl⟩
abbrev main_call4_v0 : Ref sig .tc := ⟨.hbm, 88, rfl⟩
abbrev main_call4_v1 : Ref sig .tc := ⟨.hbm, 89, rfl⟩
abbrev main_v48 : Ref sig .tc := ⟨.hbm, 90, rfl⟩
abbrev main_cst_23 : Ref sig .tc := ⟨.hbm, 91, rfl⟩
abbrev main_cst_24 : Ref sig .tc := ⟨.hbm, 92, rfl⟩
abbrev main_call5_v0 : Ref sig .tc := ⟨.hbm, 93, rfl⟩
abbrev main_call5_v1 : Ref sig .tc := ⟨.hbm, 94, rfl⟩
abbrev main_v49 : Ref sig .tc := ⟨.hbm, 95, rfl⟩
abbrev main_cst_25 : Ref sig .tc := ⟨.hbm, 96, rfl⟩
abbrev main_cst_26 : Ref sig .tc := ⟨.hbm, 97, rfl⟩
abbrev main_call6_v0 : Ref sig .tc := ⟨.hbm, 98, rfl⟩
abbrev main_call6_v1 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_c_27 : Ref sig .tc := ⟨.hbm, 106, rfl⟩
abbrev main_v56 : Ref sig .tc := ⟨.hbm, 107, rfl⟩
abbrev main_v57 : Ref sig .tc := ⟨.hbm, 108, rfl⟩
abbrev main_c_28 : Ref sig .tc := ⟨.hbm, 109, rfl⟩
abbrev main_v58 : Ref sig .tc := ⟨.hbm, 110, rfl⟩
abbrev main_v59 : Ref sig .tc := ⟨.hbm, 111, rfl⟩
abbrev main_c_29 : Ref sig .tc := ⟨.hbm, 112, rfl⟩
abbrev main_v60 : Ref sig .tc := ⟨.hbm, 113, rfl⟩
abbrev main_v61 : Ref sig .tc := ⟨.hbm, 114, rfl⟩
abbrev main_c_30 : Ref sig .tc := ⟨.hbm, 115, rfl⟩
abbrev main_v62 : Ref sig .tc := ⟨.hbm, 116, rfl⟩
abbrev main_v63 : Ref sig .tc := ⟨.hbm, 117, rfl⟩
abbrev main_c_31 : Ref sig .tc := ⟨.hbm, 118, rfl⟩
abbrev main_v64 : Ref sig .tc := ⟨.hbm, 119, rfl⟩
abbrev main_v65 : Ref sig .tc := ⟨.hbm, 120, rfl⟩
abbrev main_c_32 : Ref sig .tc := ⟨.hbm, 121, rfl⟩
abbrev main_v66 : Ref sig .tc := ⟨.hbm, 122, rfl⟩
abbrev main_v67 : Ref sig .tc := ⟨.hbm, 123, rfl⟩
abbrev main_c_33 : Ref sig .tc := ⟨.hbm, 124, rfl⟩
abbrev main_v68 : Ref sig .tc := ⟨.hbm, 125, rfl⟩
abbrev main_v69 : Ref sig .tc := ⟨.hbm, 126, rfl⟩
abbrev main_c_34 : Ref sig .tc := ⟨.hbm, 127, rfl⟩
abbrev main_v70 : Ref sig .tc := ⟨.hbm, 128, rfl⟩
abbrev main_v71 : Ref sig .tc := ⟨.hbm, 129, rfl⟩
abbrev main_c_35 : Ref sig .tc := ⟨.hbm, 130, rfl⟩
abbrev main_v72 : Ref sig .tc := ⟨.hbm, 131, rfl⟩
abbrev main_v73 : Ref sig .tc := ⟨.hbm, 132, rfl⟩
abbrev main_cst_36 : Ref sig .tc := ⟨.hbm, 133, rfl⟩
abbrev main_cst_37 : Ref sig .tc := ⟨.hbm, 134, rfl⟩
abbrev main_call11_v0 : Ref sig .tc := ⟨.hbm, 135, rfl⟩
abbrev main_call11_v1 : Ref sig .tc := ⟨.hbm, 136, rfl⟩
abbrev main_v74 : Ref sig .tc := ⟨.hbm, 137, rfl⟩
abbrev main_cst_38 : Ref sig .tc := ⟨.hbm, 138, rfl⟩
abbrev main_cst_39 : Ref sig .tc := ⟨.hbm, 139, rfl⟩
abbrev main_call12_v0 : Ref sig .tc := ⟨.hbm, 140, rfl⟩
abbrev main_call12_v1 : Ref sig .tc := ⟨.hbm, 141, rfl⟩
abbrev main_v75 : Ref sig .tc := ⟨.hbm, 142, rfl⟩
abbrev main_cst_40 : Ref sig .tc := ⟨.hbm, 143, rfl⟩
abbrev main_cst_41 : Ref sig .tc := ⟨.hbm, 144, rfl⟩
abbrev main_call13_v0 : Ref sig .tc := ⟨.hbm, 145, rfl⟩
abbrev main_call13_v1 : Ref sig .tc := ⟨.hbm, 146, rfl⟩
abbrev main_v76 : Ref sig .tc := ⟨.hbm, 147, rfl⟩
abbrev main_cst_42 : Ref sig .tc := ⟨.hbm, 148, rfl⟩
abbrev main_cst_43 : Ref sig .tc := ⟨.hbm, 149, rfl⟩
abbrev main_call14_v0 : Ref sig .tc := ⟨.hbm, 150, rfl⟩
abbrev main_call14_v1 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90_0 : Ref sig .tc := ⟨.hbm, 165, rfl⟩
abbrev main_v90_1 : Ref sig .tc := ⟨.hbm, 166, rfl⟩
abbrev main_v90_2 : Ref sig .tc := ⟨.hbm, 167, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S12288x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Machine.Region0.lean ====
/- Region 0 of the program, the decoder of the packed weights: what its body leaves in the output block (`out0_2`), the
   body's triple, the proof data at any entry contents, and the body obligation. The text follows the generated
   certificates of one-kernel programs. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_decode` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1280x128 := Rect.unit (s := S1280x128) ![0, 0] S1280x128.size inb_S1280x128_S1280x128_0_0
abbrev r0_1 : Rect S80x256 := Rect.unit (s := S80x256) ![0, 0] S80x256.size inb_S80x256_S80x256_0_0
abbrev r0_2 : Rect S1280x256 := Rect.unit (s := S1280x256) ![0, 0] S16x128.size inb_S1280x256_S16x128_0_0
abbrev r0_3 : Rect S1280x256 := Rect.unit (s := S1280x256) ![16, 0] S16x128.size inb_S1280x256_S16x128_16_0
abbrev r0_4 : Rect S1280x256 := Rect.unit (s := S1280x256) ![0, 128] S16x128.size inb_S1280x256_S16x128_0_128
abbrev r0_5 : Rect S1280x256 := Rect.unit (s := S1280x256) ![16, 128] S16x128.size inb_S1280x256_S16x128_16_128
abbrev r0_6 : Rect S1280x256 := Rect.unit (s := S1280x256) ![32, 0] S16x128.size inb_S1280x256_S16x128_32_0
abbrev r0_7 : Rect S1280x256 := Rect.unit (s := S1280x256) ![48, 0] S16x128.size inb_S1280x256_S16x128_48_0
abbrev r0_8 : Rect S1280x256 := Rect.unit (s := S1280x256) ![32, 128] S16x128.size inb_S1280x256_S16x128_32_128
abbrev r0_9 : Rect S1280x256 := Rect.unit (s := S1280x256) ![48, 128] S16x128.size inb_S1280x256_S16x128_48_128
abbrev r0_10 : Rect S1280x256 := Rect.unit (s := S1280x256) ![64, 0] S16x128.size inb_S1280x256_S16x128_64_0
abbrev r0_11 : Rect S1280x256 := Rect.unit (s := S1280x256) ![80, 0] S16x128.size inb_S1280x256_S16x128_80_0
abbrev r0_12 : Rect S1280x256 := Rect.unit (s := S1280x256) ![64, 128] S16x128.size inb_S1280x256_S16x128_64_128
abbrev r0_13 : Rect S1280x256 := Rect.unit (s := S1280x256) ![80, 128] S16x128.size inb_S1280x256_S16x128_80_128
abbrev r0_14 : Rect S1280x256 := Rect.unit (s := S1280x256) ![96, 0] S16x128.size inb_S1280x256_S16x128_96_0
abbrev r0_15 : Rect S1280x256 := Rect.unit (s := S1280x256) ![112, 0] S16x128.size inb_S1280x256_S16x128_112_0
abbrev r0_16 : Rect S1280x256 := Rect.unit (s := S1280x256) ![96, 128] S16x128.size inb_S1280x256_S16x128_96_128
abbrev r0_17 : Rect S1280x256 := Rect.unit (s := S1280x256) ![112, 128] S16x128.size inb_S1280x256_S16x128_112_128
abbrev r0_18 : Rect S1280x256 := Rect.unit (s := S1280x256) ![128, 0] S16x128.size inb_S1280x256_S16x128_128_0
abbrev r0_19 : Rect S1280x256 := Rect.unit (s := S1280x256) ![144, 0] S16x128.size inb_S1280x256_S16x128_144_0
abbrev r0_20 : Rect S1280x256 := Rect.unit (s := S1280x256) ![128, 128] S16x128.size inb_S1280x256_S16x128_128_128
abbrev r0_21 : Rect S1280x256 := Rect.unit (s := S1280x256) ![144, 128] S16x128.size inb_S1280x256_S16x128_144_128
abbrev r0_22 : Rect S1280x256 := Rect.unit (s := S1280x256) ![160, 0] S16x128.size inb_S1280x256_S16x128_160_0
abbrev r0_23 : Rect S1280x256 := Rect.unit (s := S1280x256) ![176, 0] S16x128.size inb_S1280x256_S16x128_176_0
abbrev r0_24 : Rect S1280x256 := Rect.unit (s := S1280x256) ![160, 128] S16x128.size inb_S1280x256_S16x128_160_128
abbrev r0_25 : Rect S1280x256 := Rect.unit (s := S1280x256) ![176, 128] S16x128.size inb_S1280x256_S16x128_176_128
abbrev r0_26 : Rect S1280x256 := Rect.unit (s := S1280x256) ![192, 0] S16x128.size inb_S1280x256_S16x128_192_0
abbrev r0_27 : Rect S1280x256 := Rect.unit (s := S1280x256) ![208, 0] S16x128.size inb_S1280x256_S16x128_208_0
abbrev r0_28 : Rect S1280x256 := Rect.unit (s := S1280x256) ![192, 128] S16x128.size inb_S1280x256_S16x128_192_128
abbrev r0_29 : Rect S1280x256 := Rect.unit (s := S1280x256) ![208, 128] S16x128.size inb_S1280x256_S16x128_208_128
abbrev r0_30 : Rect S1280x256 := Rect.unit (s := S1280x256) ![224, 0] S16x128.size inb_S1280x256_S16x128_224_0
abbrev r0_31 : Rect S1280x256 := Rect.unit (s := S1280x256) ![240, 0] S16x128.size inb_S1280x256_S16x128_240_0
abbrev r0_32 : Rect S1280x256 := Rect.unit (s := S1280x256) ![224, 128] S16x128.size inb_S1280x256_S16x128_224_128
abbrev r0_33 : Rect S1280x256 := Rect.unit (s := S1280x256) ![240, 128] S16x128.size inb_S1280x256_S16x128_240_128
abbrev r0_34 : Rect S1280x256 := Rect.unit (s := S1280x256) ![256, 0] S16x128.size inb_S1280x256_S16x128_256_0
abbrev r0_35 : Rect S1280x256 := Rect.unit (s := S1280x256) ![272, 0] S16x128.size inb_S1280x256_S16x128_272_0
abbrev r0_36 : Rect S1280x256 := Rect.unit (s := S1280x256) ![256, 128] S16x128.size inb_S1280x256_S16x128_256_128
abbrev r0_37 : Rect S1280x256 := Rect.unit (s := S1280x256) ![272, 128] S16x128.size inb_S1280x256_S16x128_272_128
abbrev r0_38 : Rect S1280x256 := Rect.unit (s := S1280x256) ![288, 0] S16x128.size inb_S1280x256_S16x128_288_0
abbrev r0_39 : Rect S1280x256 := Rect.unit (s := S1280x256) ![304, 0] S16x128.size inb_S1280x256_S16x128_304_0
abbrev r0_40 : Rect S1280x256 := Rect.unit (s := S1280x256) ![288, 128] S16x128.size inb_S1280x256_S16x128_288_128
abbrev r0_41 : Rect S1280x256 := Rect.unit (s := S1280x256) ![304, 128] S16x128.size inb_S1280x256_S16x128_304_128
abbrev r0_42 : Rect S1280x256 := Rect.unit (s := S1280x256) ![320, 0] S16x128.size inb_S1280x256_S16x128_320_0
abbrev r0_43 : Rect S1280x256 := Rect.unit (s := S1280x256) ![336, 0] S16x128.size inb_S1280x256_S16x128_336_0
abbrev r0_44 : Rect S1280x256 := Rect.unit (s := S1280x256) ![320, 128] S16x128.size inb_S1280x256_S16x128_320_128
abbrev r0_45 : Rect S1280x256 := Rect.unit (s := S1280x256) ![336, 128] S16x128.size inb_S1280x256_S16x128_336_128
abbrev r0_46 : Rect S1280x256 := Rect.unit (s := S1280x256) ![352, 0] S16x128.size inb_S1280x256_S16x128_352_0
abbrev r0_47 : Rect S1280x256 := Rect.unit (s := S1280x256) ![368, 0] S16x128.size inb_S1280x256_S16x128_368_0
abbrev r0_48 : Rect S1280x256 := Rect.unit (s := S1280x256) ![352, 128] S16x128.size inb_S1280x256_S16x128_352_128
abbrev r0_49 : Rect S1280x256 := Rect.unit (s := S1280x256) ![368, 128] S16x128.size inb_S1280x256_S16x128_368_128
abbrev r0_50 : Rect S1280x256 := Rect.unit (s := S1280x256) ![384, 0] S16x128.size inb_S1280x256_S16x128_384_0
abbrev r0_51 : Rect S1280x256 := Rect.unit (s := S1280x256) ![400, 0] S16x128.size inb_S1280x256_S16x128_400_0
abbrev r0_52 : Rect S1280x256 := Rect.unit (s := S1280x256) ![384, 128] S16x128.size inb_S1280x256_S16x128_384_128
abbrev r0_53 : Rect S1280x256 := Rect.unit (s := S1280x256) ![400, 128] S16x128.size inb_S1280x256_S16x128_400_128
abbrev r0_54 : Rect S1280x256 := Rect.unit (s := S1280x256) ![416, 0] S16x128.size inb_S1280x256_S16x128_416_0
abbrev r0_55 : Rect S1280x256 := Rect.unit (s := S1280x256) ![432, 0] S16x128.size inb_S1280x256_S16x128_432_0
abbrev r0_56 : Rect S1280x256 := Rect.unit (s := S1280x256) ![416, 128] S16x128.size inb_S1280x256_S16x128_416_128
abbrev r0_57 : Rect S1280x256 := Rect.unit (s := S1280x256) ![432, 128] S16x128.size inb_S1280x256_S16x128_432_128
abbrev r0_58 : Rect S1280x256 := Rect.unit (s := S1280x256) ![448, 0] S16x128.size inb_S1280x256_S16x128_448_0
abbrev r0_59 : Rect S1280x256 := Rect.unit (s := S1280x256) ![464, 0] S16x128.size inb_S1280x256_S16x128_464_0
abbrev r0_60 : Rect S1280x256 := Rect.unit (s := S1280x256) ![448, 128] S16x128.size inb_S1280x256_S16x128_448_128
abbrev r0_61 : Rect S1280x256 := Rect.unit (s := S1280x256) ![464, 128] S16x128.size inb_S1280x256_S16x128_464_128
abbrev r0_62 : Rect S1280x256 := Rect.unit (s := S1280x256) ![480, 0] S16x128.size inb_S1280x256_S16x128_480_0
abbrev r0_63 : Rect S1280x256 := Rect.unit (s := S1280x256) ![496, 0] S16x128.size inb_S1280x256_S16x128_496_0
abbrev r0_64 : Rect S1280x256 := Rect.unit (s := S1280x256) ![480, 128] S16x128.size inb_S1280x256_S16x128_480_128
abbrev r0_65 : Rect S1280x256 := Rect.unit (s := S1280x256) ![496, 128] S16x128.size inb_S1280x256_S16x128_496_128
abbrev r0_66 : Rect S1280x256 := Rect.unit (s := S1280x256) ![512, 0] S16x128.size inb_S1280x256_S16x128_512_0
abbrev r0_67 : Rect S1280x256 := Rect.unit (s := S1280x256) ![528, 0] S16x128.size inb_S1280x256_S16x128_528_0
abbrev r0_68 : Rect S1280x256 := Rect.unit (s := S1280x256) ![512, 128] S16x128.size inb_S1280x256_S16x128_512_128
abbrev r0_69 : Rect S1280x256 := Rect.unit (s := S1280x256) ![528, 128] S16x128.size inb_S1280x256_S16x128_528_128
abbrev r0_70 : Rect S1280x256 := Rect.unit (s := S1280x256) ![544, 0] S16x128.size inb_S1280x256_S16x128_544_0
abbrev r0_71 : Rect S1280x256 := Rect.unit (s := S1280x256) ![560, 0] S16x128.size inb_S1280x256_S16x128_560_0
abbrev r0_72 : Rect S1280x256 := Rect.unit (s := S1280x256) ![544, 128] S16x128.size inb_S1280x256_S16x128_544_128
abbrev r0_73 : Rect S1280x256 := Rect.unit (s := S1280x256) ![560, 128] S16x128.size inb_S1280x256_S16x128_560_128
abbrev r0_74 : Rect S1280x256 := Rect.unit (s := S1280x256) ![576, 0] S16x128.size inb_S1280x256_S16x128_576_0
abbrev r0_75 : Rect S1280x256 := Rect.unit (s := S1280x256) ![592, 0] S16x128.size inb_S1280x256_S16x128_592_0
abbrev r0_76 : Rect S1280x256 := Rect.unit (s := S1280x256) ![576, 128] S16x128.size inb_S1280x256_S16x128_576_128
abbrev r0_77 : Rect S1280x256 := Rect.unit (s := S1280x256) ![592, 128] S16x128.size inb_S1280x256_S16x128_592_128
abbrev r0_78 : Rect S1280x256 := Rect.unit (s := S1280x256) ![608, 0] S16x128.size inb_S1280x256_S16x128_608_0
abbrev r0_79 : Rect S1280x256 := Rect.unit (s := S1280x256) ![624, 0] S16x128.size inb_S1280x256_S16x128_624_0
abbrev r0_80 : Rect S1280x256 := Rect.unit (s := S1280x256) ![608, 128] S16x128.size inb_S1280x256_S16x128_608_128
abbrev r0_81 : Rect S1280x256 := Rect.unit (s := S1280x256) ![624, 128] S16x128.size inb_S1280x256_S16x128_624_128
abbrev r0_82 : Rect S1280x256 := Rect.unit (s := S1280x256) ![640, 0] S16x128.size inb_S1280x256_S16x128_640_0
abbrev r0_83 : Rect S1280x256 := Rect.unit (s := S1280x256) ![656, 0] S16x128.size inb_S1280x256_S16x128_656_0
abbrev r0_84 : Rect S1280x256 := Rect.unit (s := S1280x256) ![640, 128] S16x128.size inb_S1280x256_S16x128_640_128
abbrev r0_85 : Rect S1280x256 := Rect.unit (s := S1280x256) ![656, 128] S16x128.size inb_S1280x256_S16x128_656_128
abbrev r0_86 : Rect S1280x256 := Rect.unit (s := S1280x256) ![672, 0] S16x128.size inb_S1280x256_S16x128_672_0
abbrev r0_87 : Rect S1280x256 := Rect.unit (s := S1280x256) ![688, 0] S16x128.size inb_S1280x256_S16x128_688_0
abbrev r0_88 : Rect S1280x256 := Rect.unit (s := S1280x256) ![672, 128] S16x128.size inb_S1280x256_S16x128_672_128
abbrev r0_89 : Rect S1280x256 := Rect.unit (s := S1280x256) ![688, 128] S16x128.size inb_S1280x256_S16x128_688_128
abbrev r0_90 : Rect S1280x256 := Rect.unit (s := S1280x256) ![704, 0] S16x128.size inb_S1280x256_S16x128_704_0
abbrev r0_91 : Rect S1280x256 := Rect.unit (s := S1280x256) ![720, 0] S16x128.size inb_S1280x256_S16x128_720_0
abbrev r0_92 : Rect S1280x256 := Rect.unit (s := S1280x256) ![704, 128] S16x128.size inb_S1280x256_S16x128_704_128
abbrev r0_93 : Rect S1280x256 := Rect.unit (s := S1280x256) ![720, 128] S16x128.size inb_S1280x256_S16x128_720_128
abbrev r0_94 : Rect S1280x256 := Rect.unit (s := S1280x256) ![736, 0] S16x128.size inb_S1280x256_S16x128_736_0
abbrev r0_95 : Rect S1280x256 := Rect.unit (s := S1280x256) ![752, 0] S16x128.size inb_S1280x256_S16x128_752_0
abbrev r0_96 : Rect S1280x256 := Rect.unit (s := S1280x256) ![736, 128] S16x128.size inb_S1280x256_S16x128_736_128
abbrev r0_97 : Rect S1280x256 := Rect.unit (s := S1280x256) ![752, 128] S16x128.size inb_S1280x256_S16x128_752_128
abbrev r0_98 : Rect S1280x256 := Rect.unit (s := S1280x256) ![768, 0] S16x128.size inb_S1280x256_S16x128_768_0
abbrev r0_99 : Rect S1280x256 := Rect.unit (s := S1280x256) ![784, 0] S16x128.size inb_S1280x256_S16x128_784_0
abbrev r0_100 : Rect S1280x256 := Rect.unit (s := S1280x256) ![768, 128] S16x128.size inb_S1280x256_S16x128_768_128
abbrev r0_101 : Rect S1280x256 := Rect.unit (s := S1280x256) ![784, 128] S16x128.size inb_S1280x256_S16x128_784_128
abbrev r0_102 : Rect S1280x256 := Rect.unit (s := S1280x256) ![800, 0] S16x128.size inb_S1280x256_S16x128_800_0
abbrev r0_103 : Rect S1280x256 := Rect.unit (s := S1280x256) ![816, 0] S16x128.size inb_S1280x256_S16x128_816_0
abbrev r0_104 : Rect S1280x256 := Rect.unit (s := S1280x256) ![800, 128] S16x128.size inb_S1280x256_S16x128_800_128
abbrev r0_105 : Rect S1280x256 := Rect.unit (s := S1280x256) ![816, 128] S16x128.size inb_S1280x256_S16x128_816_128
abbrev r0_106 : Rect S1280x256 := Rect.unit (s := S1280x256) ![832, 0] S16x128.size inb_S1280x256_S16x128_832_0
abbrev r0_107 : Rect S1280x256 := Rect.unit (s := S1280x256) ![848, 0] S16x128.size inb_S1280x256_S16x128_848_0
abbrev r0_108 : Rect S1280x256 := Rect.unit (s := S1280x256) ![832, 128] S16x128.size inb_S1280x256_S16x128_832_128
abbrev r0_109 : Rect S1280x256 := Rect.unit (s := S1280x256) ![848, 128] S16x128.size inb_S1280x256_S16x128_848_128
abbrev r0_110 : Rect S1280x256 := Rect.unit (s := S1280x256) ![864, 0] S16x128.size inb_S1280x256_S16x128_864_0
abbrev r0_111 : Rect S1280x256 := Rect.unit (s := S1280x256) ![880, 0] S16x128.size inb_S1280x256_S16x128_880_0
abbrev r0_112 : Rect S1280x256 := Rect.unit (s := S1280x256) ![864, 128] S16x128.size inb_S1280x256_S16x128_864_128
abbrev r0_113 : Rect S1280x256 := Rect.unit (s := S1280x256) ![880, 128] S16x128.size inb_S1280x256_S16x128_880_128
abbrev r0_114 : Rect S1280x256 := Rect.unit (s := S1280x256) ![896, 0] S16x128.size inb_S1280x256_S16x128_896_0
abbrev r0_115 : Rect S1280x256 := Rect.unit (s := S1280x256) ![912, 0] S16x128.size inb_S1280x256_S16x128_912_0
abbrev r0_116 : Rect S1280x256 := Rect.unit (s := S1280x256) ![896, 128] S16x128.size inb_S1280x256_S16x128_896_128
abbrev r0_117 : Rect S1280x256 := Rect.unit (s := S1280x256) ![912, 128] S16x128.size inb_S1280x256_S16x128_912_128
abbrev r0_118 : Rect S1280x256 := Rect.unit (s := S1280x256) ![928, 0] S16x128.size inb_S1280x256_S16x128_928_0
abbrev r0_119 : Rect S1280x256 := Rect.unit (s := S1280x256) ![944, 0] S16x128.size inb_S1280x256_S16x128_944_0
abbrev r0_120 : Rect S1280x256 := Rect.unit (s := S1280x256) ![928, 128] S16x128.size inb_S1280x256_S16x128_928_128
abbrev r0_121 : Rect S1280x256 := Rect.unit (s := S1280x256) ![944, 128] S16x128.size inb_S1280x256_S16x128_944_128
abbrev r0_122 : Rect S1280x256 := Rect.unit (s := S1280x256) ![960, 0] S16x128.size inb_S1280x256_S16x128_960_0
abbrev r0_123 : Rect S1280x256 := Rect.unit (s := S1280x256) ![976, 0] S16x128.size inb_S1280x256_S16x128_976_0
abbrev r0_124 : Rect S1280x256 := Rect.unit (s := S1280x256) ![960, 128] S16x128.size inb_S1280x256_S16x128_960_128
abbrev r0_125 : Rect S1280x256 := Rect.unit (s := S1280x256) ![976, 128] S16x128.size inb_S1280x256_S16x128_976_128
abbrev r0_126 : Rect S1280x256 := Rect.unit (s := S1280x256) ![992, 0] S16x128.size inb_S1280x256_S16x128_992_0
abbrev r0_127 : Rect S1280x256 := Rect.unit (s := S1280x256) ![1008, 0] S16x128.size inb_S1280x256_S16x128_1008_0
abbrev r0_128 : Rect S1280x256 := Rect.unit (s := S1280x256) ![992, 128] S16x128.size inb_S1280x256_S16x128_992_128
abbrev r0_129 : Rect S1280x256 := Rect.unit (s := S1280x256) ![1008, 128] S16x128.size inb_S1280x256_S16x128_1008_128
abbrev r0_130 : Rect S1280x256 := Rect.unit (s := S1280x256) ![1024, 0] S16x128.size inb_S1280x256_S16x128_1024_0
abbrev r0_131 : Rect S1280x256 := Rect.unit (s := S1280x256) ![1040, 0] S16x128.size inb_S1280x256_S16x128_1040_0
abbrev r0_132 : Rect S1280x256 := Rect.unit (s := S1280x256) ![1024, 128] S16x128.size inb_S1280x256_S16x128_1024_128
abbrev r0_133 : Rect S1280x256 := Rect.unit (s := S1280x256) ![1040, 128] S16x128.size inb_S1280x256_S16x128_1040_128
abbrev r0_134 : Rect S1280x256 := Rect.unit (s := S1280x256) ![1056, 0] S16x128.size inb_S1280x256_S16x128_1056_0
abbrev r0_135 : Rect S1280x256 := Rect.unit (s := S1280x256) ![1072, 0] S16x128.size inb_S1280x256_S16x128_1072_0
abbrev r0_136 : Rect S1280x256 := Rect.unit (s := S1280x256) ![1056, 128] S16x128.size inb_S1280x256_S16x128_1056_128
abbrev r0_137 : Rect S1280x256 := Rect.unit (s := S1280x256) ![1072, 128] S16x128.size inb_S1280x256_S16x128_1072_128
abbrev r0_138 : Rect S1280x256 := Rect.unit (s := S1280x256) ![1088, 0] S16x128.size inb_S1280x256_S16x128_1088_0
abbrev r0_139 : Rect S1280x256 := Rect.unit (s := S1280x256) ![1104, 0] S16x128.size inb_S1280x256_S16x128_1104_0
abbrev r0_140 : Rect S1280x256 := Rect.unit (s := S1280x256) ![1088, 128] S16x128.size inb_S1280x256_S16x128_1088_128
abbrev r0_141 : Rect S1280x256 := Rect.unit (s := S1280x256) ![1104, 128] S16x128.size inb_S1280x256_S16x128_1104_128
abbrev r0_142 : Rect S1280x256 := Rect.unit (s := S1280x256) ![1120, 0] S16x128.size inb_S1280x256_S16x128_1120_0
abbrev r0_143 : Rect S1280x256 := Rect.unit (s := S1280x256) ![1136, 0] S16x128.size inb_S1280x256_S16x128_1136_0
abbrev r0_144 : Rect S1280x256 := Rect.unit (s := S1280x256) ![1120, 128] S16x128.size inb_S1280x256_S16x128_1120_128
abbrev r0_145 : Rect S1280x256 := Rect.unit (s := S1280x256) ![1136, 128] S16x128.size inb_S1280x256_S16x128_1136_128
abbrev r0_146 : Rect S1280x256 := Rect.unit (s := S1280x256) ![1152, 0] S16x128.size inb_S1280x256_S16x128_1152_0
abbrev r0_147 : Rect S1280x256 := Rect.unit (s := S1280x256) ![1168, 0] S16x128.size inb_S1280x256_S16x128_1168_0
abbrev r0_148 : Rect S1280x256 := Rect.unit (s := S1280x256) ![1152, 128] S16x128.size inb_S1280x256_S16x128_1152_128
abbrev r0_149 : Rect S1280x256 := Rect.unit (s := S1280x256) ![1168, 128] S16x128.size inb_S1280x256_S16x128_1168_128
abbrev r0_150 : Rect S1280x256 := Rect.unit (s := S1280x256) ![1184, 0] S16x128.size inb_S1280x256_S16x128_1184_0
abbrev r0_151 : Rect S1280x256 := Rect.unit (s := S1280x256) ![1200, 0] S16x128.size inb_S1280x256_S16x128_1200_0
abbrev r0_152 : Rect S1280x256 := Rect.unit (s := S1280x256) ![1184, 128] S16x128.size inb_S1280x256_S16x128_1184_128
abbrev r0_153 : Rect S1280x256 := Rect.unit (s := S1280x256) ![1200, 128] S16x128.size inb_S1280x256_S16x128_1200_128
abbrev r0_154 : Rect S1280x256 := Rect.unit (s := S1280x256) ![1216, 0] S16x128.size inb_S1280x256_S16x128_1216_0
abbrev r0_155 : Rect S1280x256 := Rect.unit (s := S1280x256) ![1232, 0] S16x128.size inb_S1280x256_S16x128_1232_0
abbrev r0_156 : Rect S1280x256 := Rect.unit (s := S1280x256) ![1216, 128] S16x128.size inb_S1280x256_S16x128_1216_128
abbrev r0_157 : Rect S1280x256 := Rect.unit (s := S1280x256) ![1232, 128] S16x128.size inb_S1280x256_S16x128_1232_128
abbrev r0_158 : Rect S1280x256 := Rect.unit (s := S1280x256) ![1248, 0] S16x128.size inb_S1280x256_S16x128_1248_0
abbrev r0_159 : Rect S1280x256 := Rect.unit (s := S1280x256) ![1264, 0] S16x128.size inb_S1280x256_S16x128_1264_0
abbrev r0_160 : Rect S1280x256 := Rect.unit (s := S1280x256) ![1248, 128] S16x128.size inb_S1280x256_S16x128_1248_128
abbrev r0_161 : Rect S1280x256 := Rect.unit (s := S1280x256) ![1264, 128] S16x128.size inb_S1280x256_S16x128_1264_128

/-! ## What the body leaves in each output window's buffer -/

/-! ### Values of the body that the stores' payloads, spelt out, would write more than once

    Each is a vector the body binds (often a part call's result), stated over the input windows' blocks and
    numbered on from the skeleton's payload functions (`k0_pay359` …, after `k0_pay358`), so that
    `out0_W` and the values after it name it instead of spelling it out (`unfold_out out0_W` opens a canon
    with them, `unfold_payloads` opens them with the payloads); the comment after each is the printed function's
    name for the value (a count appended where that name is bound again). -/

def k0_pay359 (x0 : Vec F S1280x128 .i8) (x1 : Vec F S80x256 .fp8e4m3) : IVec S8x128 32 :=
  k0_pay4 -- `v7`
def k0_pay360 (x0 : Vec F S1280x128 .i8) (x1 : Vec F S80x256 .fp8e4m3) : IVec S8x128 32 :=
  k0_pay5 -- `v9`
def k0_pay361 (x0 : Vec F S1280x128 .i8) (x1 : Vec F S80x256 .fp8e4m3) : IVec S320x128 32 :=
  k0_pay6 (View.ld x0 r0_0) -- `v11`
def k0_pay362 (x0 : Vec F S1280x128 .i8) (x1 : Vec F S80x256 .fp8e4m3) : FVec F S80x256 .f32 :=
  k0_pay7 (View.ld x1 r0_1) -- `v15`
def k0_pay363 (x0 : Vec F S1280x128 .i8) (x1 : Vec F S80x256 .fp8e4m3) : IVec S8x128 32 :=
  k0_pay8 (View.ld x0 r0_0) -- `v16`
def k0_pay364 (x0 : Vec F S1280x128 .i8) (x1 : Vec F S80x256 .fp8e4m3) : IVec S8x128 32 :=
  k0_pay17 (k0_pay361 x0 x1) -- `v85`
def k0_pay365 (x0 : Vec F S1280x128 .i8) (x1 : Vec F S80x256 .fp8e4m3) : IVec S8x128 32 :=
  k0_pay21 (k0_pay360 x0 x1) -- `v128`
def k0_pay366 (x0 : Vec F S1280x128 .i8) (x1 : Vec F S80x256 .fp8e4m3) : IVec S8x128 32 :=
  k0_pay25 (k0_pay361 x0 x1) -- `v154`
def k0_pay367 (x0 : Vec F S1280x128 .i8) (x1 : Vec F S80x256 .fp8e4m3) : FVec F S32x128 .fp8e4m3 :=
  k0_pay26 (F := F) (k0_pay359 x0 x1) (k0_pay360 x0 x1) (k0_pay361 x0 x1) -- `v173`
def k0_pay368 (x0 : Vec F S1280x128 .i8) (x1 : Vec F S80x256 .fp8e4m3) : IVec S8x128 32 :=
  k0_pay34 (k0_pay361 x0 x1) -- `v223`
def k0_pay369 (x0 : Vec F S1280x128 .i8) (x1 : Vec F S80x256 .fp8e4m3) : IVec S8x128 32 :=
  k0_pay38 (k0_pay360 x0 x1) -- `v259`
def k0_pay370 (x0 : Vec F S1280x128 .i8) (x1 : Vec F S80x256 .fp8e4m3) : IVec S8x128 1 :=
  k0_pay39 (k0_pay360 x0 x1) -- `v261`
def k0_pay371 (x0 : Vec F S1280x128 .i8) (x1 : Vec F S80x256 .fp8e4m3) : IVec S8x128 32 :=
  k0_pay43 (k0_pay361 x0 x1) -- `v292`
def k0_pay372 (x0 : Vec F S1280x128 .i8) (x1 : Vec F S80x256 .fp8e4m3) : IVec S8x128 32 :=
  k0_pay44 (k0_pay359 x0 x1) (k0_pay360 x0 x1) (k0_pay361 x0 x1) -- `v303`
def k0_pay373 (x0 : Vec F S1280x128 .i8) (x1 : Vec F S80x256 .fp8e4m3) : IVec S8x128 32 :=
  k0_pay45 (k0_pay359 x0 x1) (k0_pay360 x0 x1) (k0_pay361 x0 x1) -- `v305`
def k0_pay374 (x0 : Vec F S1280x128 .i8) (x1 : Vec F S80x256 .fp8e4m3) : IVec S8x128 32 :=
  k0_pay46 -- `v306`
def k0_pay375 (x0 : Vec F S1280x128 .i8) (x1 : Vec F S80x256 .fp8e4m3) : IVec S8x128 32 :=
  k0_pay53 (k0_pay361 x0 x1) -- `v361`
def k0_pay376 (x0 : Vec F S1280x128 .i8) (x1 : Vec F S80x256 .fp8e4m3) : IVec S8x128 32 :=
  k0_pay61 (k0_pay360 x0 x1) (k0_pay361 x0 x1) -- `v440`
def k0_pay377 (x0 : Vec F S1280x128 .i8) (x1 : Vec F S80x256 .fp8e4m3) : FVec F S32x128 .bf16 :=
  k0_pay65 (F := F) (k0_pay359 x0 x1) (k0_pay360 x0 x1) (k0_pay60 (k0_pay361 x0 x1)) -- `v484`
def k0_pay378 (x0 : Vec F S1280x128 .i8) (x1 : Vec F S80x256 .fp8e4m3) : IVec S8x128 32 :=
  k0_pay69 (k0_pay361 x0 x1) -- `v499`
def k0_pay379 (x0 : Vec F S1280x128 .i8) (x1 : Vec F S80x256 .fp8e4m3) : IVec S8x128 32 :=
  k0_pay77 (k0_pay361 x0 x1) -- `v568`
def k0_pay380 (x0 : Vec F S1280x128 .i8) (x1 : Vec F S80x256 .fp8e4m3) : IVec S8x128 32 :=
  k0_pay78 (k0_pay360 x0 x1) -- `v570`
def k0_pay381 (x0 : Vec F S1280x128 .i8) (x1 : Vec F S80x256 .fp8e4m3) : IVec S8x128 1 :=
  k0_pay79 (k0_pay360 x0 x1) -- `v572`
def k0_pay382 (x0 : Vec F S1280x128 .i8) (x1 : Vec F S80x256 .fp8e4m3) : IVec S8x128 32 :=
  k0_pay84 (k0_pay359 x0 x1) (k0_pay360 x0 x1) (k0_pay379 x0 x1) -- `v615`
def k0_pay383 (x0 : Vec F S1280x128 .i8) (x1 : Vec F S80x256 .fp8e4m3) : IVec S8x128 32 :=
  k0_pay85 (k0_pay359 x0 x1) (k0_pay360 x0 x1) (k0_pay379 x0 x1) -- `v617`
def k0_pay384 (x0 : Vec F S1280x128 .i8) (x1 : Vec F S80x256 .fp8e4m3) : IVec S8x128 32 :=
  k0_pay89 (k0_pay361 x0 x1) -- `v637`
def k0_pay385 (x0 : Vec F S1280x128 .i8) (x1 : Vec F S80x256 .fp8e4m3) : IVec S8x128 32 :=
  k0_pay96 (k0_pay361 x0 x1) -- `v706`
def k0_pay386 (x0 : Vec F S1280x128 .i8) (x1 : Vec F S80x256 .fp8e4m3) : IVec S8x128 32 :=
  k0_pay100 (k0_pay359 x0 x1) (k0_pay360 x0 x1) (k0_pay385 x0 x1) -- `v751`
def k0_pay387 (x0 : Vec F S1280x128 .i8) (x1 : Vec F S80x256 .fp8e4m3) : IVec S8x128 32 :=
  k0_pay104 (k0_pay361 x0 x1) -- `v775`
def k0_pay388 (x0 : Vec F S1280x128 .i8) (x1 : Vec F S80x256 .fp8e4m3) : FVec F S32x128 .bf16 :=
  k0_pay105 (F := F) (k0_pay359 x0 x1) (k0_pay360 x0 x1) (k0_pay361 x0 x1) -- `v795`
def k0_pay389 (x0 : Vec F S1280x128 .i8) (x1 : Vec F S80x256 .fp8e4m3) : IVec S8x128 32 :=
  k0_pay112 (k0_pay361 x0 x1) -- `v844`
def k0_pay390 (x0 : Vec F S1280x128 .i8) (x1 : Vec F S80x256 .fp8e4m3) : IVec S8x128 32 :=
  k0_pay116 (k0_pay360 x0 x1) -- `v880`
def k0_pay391 (x0 : Vec F S1280x128 .i8) (x1 : Vec F S80x256 .fp8e4m3) : IVec S8x128 1 :=
  k0_pay117 (k0_pay360 x0 x1) -- `v882`
def k0_pay392 (x0 : Vec F S1280x128 .i8) (x1 : Vec F S80x256 .fp8e4m3) : IVec S8x128 32 :=
  k0_pay118 (k0_pay360 x0 x1) -- `v884`
def k0_pay393 (x0 : Vec F S1280x128 .i8) (x1 : Vec F S80x256 .fp8e4m3) : IVec S8x128 32 :=
  k0_pay122 (k0_pay361 x0 x1) -- `v913`
def k0_pay394 (x0 : Vec F S1280x128 .i8) (x1 : Vec F S80x256 .fp8e4m3) : IVec S8x128 32 :=
  k0_pay124 (k0_pay359 x0 x1) (k0_pay360 x0 x1) (k0_pay361 x0 x1) -- `v926`
def k0_pay395 (x0 : Vec F S1280x128 .i8) (x1 : Vec F S80x256 .fp8e4m3) : IVec S8x128 32 :=
  k0_pay125 (k0_pay359 x0 x1) (k0_pay360 x0 x1) (k0_pay361 x0 x1) -- `v928`
def k0_pay396 (x0 : Vec F S1280x128 .i8) (x1 : Vec F S80x256 .fp8e4m3) : IVec S8x128 32 :=
  k0_pay126 -- `v929`
def k0_pay397 (x0 : Vec F S1280x128 .i8) (x1 : Vec F S80x256 .fp8e4m3) : IVec S8x128 32 :=
  k0_pay133 (k0_pay361 x0 x1) -- `v982`
def k0_pay398 (x0 : Vec F S1280x128 .i8) (x1 : Vec F S80x256 .fp8e4m3) : IVec S8x128 32 :=
  k0_pay137 (k0_pay360 x0 x1) -- `v1018`
def k0_pay399 (x0 : Vec F S1280x128 .i8) (x1 : Vec F S80x256 .fp8e4m3) : IVec S8x128 32 :=
  k0_pay142 (k0_pay359 x0 x1) (k0_pay360 x0 x1) (k0_pay361 x0 x1) -- `v1062`
def k0_pay400 (x0 : Vec F S1280x128 .i8) (x1 : Vec F S80x256 .fp8e4m3) : IVec S8x128 32 :=
  k0_pay143 -- `v1063`
def k0_pay401 (x0 : Vec F S1280x128 .i8) (x1 : Vec F S80x256 .fp8e4m3) : FVec F S32x128 .bf16 :=
  k0_pay147 (F := F) (k0_pay359 x0 x1) (k0_pay360 x0 x1) (k0_pay141 (k0_pay361 x0 x1)) -- `v1105`
def k0_pay402 (x0 : Vec F S1280x128 .i8) (x1 : Vec F S80x256 .fp8e4m3) : IVec S8x128 32 :=
  k0_pay151 (k0_pay361 x0 x1) -- `v1120`
def k0_pay403 (x0 : Vec F S1280x128 .i8) (x1 : Vec F S80x256 .fp8e4m3) : IVec S8x128 32 :=
  k0_pay158 (k0_pay361 x0 x1) -- `v1189`
def k0_pay404 (x0 : Vec F S1280x128 .i8) (x1 : Vec F S80x256 .fp8e4m3) : IVec S8x128 32 :=
  k0_pay159 (k0_pay360 x0 x1) -- `v1196`
def k0_pay405 (x0 : Vec F S1280x128 .i8) (x1 : Vec F S80x256 .fp8e4m3) : IVec S8x128 32 :=
  k0_pay163 (k0_pay359 x0 x1) (k0_pay360 x0 x1) (k0_pay403 x0 x1) -- `v1241`
def k0_pay406 (x0 : Vec F S1280x128 .i8) (x1 : Vec F S80x256 .fp8e4m3) : IVec S8x128 32 :=
  k0_pay167 (k0_pay361 x0 x1) -- `v1258`
def k0_pay407 (x0 : Vec F S1280x128 .i8) (x1 : Vec F S80x256 .fp8e4m3) : IVec S8x128 32 :=
  k0_pay175 (k0_pay361 x0 x1) -- `v1327`
def k0_pay408 (x0 : Vec F S1280x128 .i8) (x1 : Vec F S80x256 .fp8e4m3) : IVec S8x128 32 :=
  k0_pay176 (k0_pay360 x0 x1) -- `v1329`
def k0_pay409 (x0 : Vec F S1280x128 .i8) (x1 : Vec F S80x256 .fp8e4m3) : IVec S8x128 32 :=
  k0_pay180 (k0_pay359 x0 x1) (k0_pay360 x0 x1) (k0_pay407 x0 x1) -- `v1372`
def k0_pay410 (x0 : Vec F S1280x128 .i8) (x1 : Vec F S80x256 .fp8e4m3) : IVec S8x128 32 :=
  k0_pay181 (k0_pay359 x0 x1) (k0_pay360 x0 x1) (k0_pay407 x0 x1) -- `v1374`
def k0_pay411 (x0 : Vec F S1280x128 .i8) (x1 : Vec F S80x256 .fp8e4m3) : IVec S8x128 32 :=
  k0_pay185 (k0_pay361 x0 x1) -- `v1396`
def k0_pay412 (x0 : Vec F S1280x128 .i8) (x1 : Vec F S80x256 .fp8e4m3) : IVec S8x128 32 :=
  k0_pay194 (k0_pay361 x0 x1) -- `v1465`
def k0_pay413 (x0 : Vec F S1280x128 .i8) (x1 : Vec F S80x256 .fp8e4m3) : IVec S8x128 32 :=
  k0_pay198 (k0_pay360 x0 x1) -- `v1508`
def k0_pay414 (x0 : Vec F S1280x128 .i8) (x1 : Vec F S80x256 .fp8e4m3) : IVec S8x128 32 :=
  k0_pay202 (k0_pay361 x0 x1) -- `v1534`
def k0_pay415 (x0 : Vec F S1280x128 .i8) (x1 : Vec F S80x256 .fp8e4m3) : FVec F S32x128 .fp8e4m3 :=
  k0_pay203 (F := F) (k0_pay359 x0 x1) (k0_pay360 x0 x1) (k0_pay361 x0 x1) -- `v1553`
def k0_pay416 (x0 : Vec F S1280x128 .i8) (x1 : Vec F S80x256 .fp8e4m3) : IVec S8x128 32 :=
  k0_pay211 (k0_pay361 x0 x1) -- `v1603`
def k0_pay417 (x0 : Vec F S1280x128 .i8) (x1 : Vec F S80x256 .fp8e4m3) : IVec S8x128 32 :=
  k0_pay215 (k0_pay360 x0 x1) -- `v1639`
def k0_pay418 (x0 : Vec F S1280x128 .i8) (x1 : Vec F S80x256 .fp8e4m3) : IVec S8x128 1 :=
  k0_pay216 (k0_pay360 x0 x1) -- `v1641`
def k0_pay419 (x0 : Vec F S1280x128 .i8) (x1 : Vec F S80x256 .fp8e4m3) : IVec S8x128 32 :=
  k0_pay220 (k0_pay361 x0 x1) -- `v1672`
def k0_pay420 (x0 : Vec F S1280x128 .i8) (x1 : Vec F S80x256 .fp8e4m3) : IVec S8x128 32 :=
  k0_pay221 (k0_pay359 x0 x1) (k0_pay360 x0 x1) (k0_pay361 x0 x1) -- `v1683`
def k0_pay421 (x0 : Vec F S1280x128 .i8) (x1 : Vec F S80x256 .fp8e4m3) : IVec S8x128 32 :=
  k0_pay222 (k0_pay359 x0 x1) (k0_pay360 x0 x1) (k0_pay361 x0 x1) -- `v1685`
def k0_pay422 (x0 : Vec F S1280x128 .i8) (x1 : Vec F S80x256 .fp8e4m3) : IVec S8x128 32 :=
  k0_pay223 -- `v1686`
def k0_pay423 (x0 : Vec F S1280x128 .i8) (x1 : Vec F S80x256 .fp8e4m3) : IVec S8x128 32 :=
  k0_pay230 (k0_pay361 x0 x1) -- `v1741`
def k0_pay424 (x0 : Vec F S1280x128 .i8) (x1 : Vec F S80x256 .fp8e4m3) : IVec S8x128 32 :=
  k0_pay238 (k0_pay360 x0 x1) (k0_pay361 x0 x1) -- `v1820`
def k0_pay425 (x0 : Vec F S1280x128 .i8) (x1 : Vec F S80x256 .fp8e4m3) : FVec F S32x128 .bf16 :=
  k0_pay242 (F := F) (k0_pay359 x0 x1) (k0_pay360 x0 x1) (k0_pay237 (k0_pay361 x0 x1)) -- `v1864`
def k0_pay426 (x0 : Vec F S1280x128 .i8) (x1 : Vec F S80x256 .fp8e4m3) : IVec S8x128 32 :=
  k0_pay246 (k0_pay361 x0 x1) -- `v1879`
def k0_pay427 (x0 : Vec F S1280x128 .i8) (x1 : Vec F S80x256 .fp8e4m3) : IVec S8x128 32 :=
  k0_pay254 (k0_pay361 x0 x1) -- `v1948`
def k0_pay428 (x0 : Vec F S1280x128 .i8) (x1 : Vec F S80x256 .fp8e4m3) : IVec S8x128 32 :=
  k0_pay255 (k0_pay360 x0 x1) -- `v1950`
def k0_pay429 (x0 : Vec F S1280x128 .i8) (x1 : Vec F S80x256 .fp8e4m3) : IVec S8x128 1 :=
  k0_pay256 (k0_pay360 x0 x1) -- `v1952`
def k0_pay430 (x0 : Vec F S1280x128 .i8) (x1 : Vec F S80x256 .fp8e4m3) : IVec S8x128 32 :=
  k0_pay261 (k0_pay359 x0 x1) (k0_pay360 x0 x1) (k0_pay427 x0 x1) -- `v1995`
def k0_pay431 (x0 : Vec F S1280x128 .i8) (x1 : Vec F S80x256 .fp8e4m3) : IVec S8x128 32 :=
  k0_pay262 (k0_pay359 x0 x1) (k0_pay360 x0 x1) (k0_pay427 x0 x1) -- `v1997`
def k0_pay432 (x0 : Vec F S1280x128 .i8) (x1 : Vec F S80x256 .fp8e4m3) : IVec S8x128 32 :=
  k0_pay266 (k0_pay361 x0 x1) -- `v2017`
def k0_pay433 (x0 : Vec F S1280x128 .i8) (x1 : Vec F S80x256 .fp8e4m3) : IVec S8x128 32 :=
  k0_pay273 (k0_pay361 x0 x1) -- `v2086`
def k0_pay434 (x0 : Vec F S1280x128 .i8) (x1 : Vec F S80x256 .fp8e4m3) : IVec S8x128 32 :=
  k0_pay277 (k0_pay359 x0 x1) (k0_pay360 x0 x1) (k0_pay433 x0 x1) -- `v2131`
def k0_pay435 (x0 : Vec F S1280x128 .i8) (x1 : Vec F S80x256 .fp8e4m3) : IVec S8x128 32 :=
  k0_pay281 (k0_pay361 x0 x1) -- `v2155`
def k0_pay436 (x0 : Vec F S1280x128 .i8) (x1 : Vec F S80x256 .fp8e4m3) : FVec F S32x128 .bf16 :=
  k0_pay282 (F := F) (k0_pay359 x0 x1) (k0_pay360 x0 x1) (k0_pay361 x0 x1) -- `v2175`
def k0_pay437 (x0 : Vec F S1280x128 .i8) (x1 : Vec F S80x256 .fp8e4m3) : IVec S8x128 32 :=
  k0_pay289 (k0_pay361 x0 x1) -- `v2224`
def k0_pay438 (x0 : Vec F S1280x128 .i8) (x1 : Vec F S80x256 .fp8e4m3) : IVec S8x128 32 :=
  k0_pay293 (k0_pay360 x0 x1) -- `v2260`
def k0_pay439 (x0 : Vec F S1280x128 .i8) (x1 : Vec F S80x256 .fp8e4m3) : IVec S8x128 1 :=
  k0_pay294 (k0_pay360 x0 x1) -- `v2262`
def k0_pay440 (x0 : Vec F S1280x128 .i8) (x1 : Vec F S80x256 .fp8e4m3) : IVec S8x128 32 :=
  k0_pay295 (k0_pay360 x0 x1) -- `v2264`
def k0_pay441 (x0 : Vec F S1280x128 .i8) (x1 : Vec F S80x256 .fp8e4m3) : IVec S8x128 32 :=
  k0_pay299 (k0_pay361 x0 x1) -- `v2293`
def k0_pay442 (x0 : Vec F S1280x128 .i8) (x1 : Vec F S80x256 .fp8e4m3) : IVec S8x128 32 :=
  k0_pay301 (k0_pay359 x0 x1) (k0_pay360 x0 x1) (k0_pay361 x0 x1) -- `v2306`
def k0_pay443 (x0 : Vec F S1280x128 .i8) (x1 : Vec F S80x256 .fp8e4m3) : IVec S8x128 32 :=
  k0_pay302 (k0_pay359 x0 x1) (k0_pay360 x0 x1) (k0_pay361 x0 x1) -- `v2308`
def k0_pay444 (x0 : Vec F S1280x128 .i8) (x1 : Vec F S80x256 .fp8e4m3) : IVec S8x128 32 :=
  k0_pay303 -- `v2309`
def k0_pay445 (x0 : Vec F S1280x128 .i8) (x1 : Vec F S80x256 .fp8e4m3) : IVec S8x128 32 :=
  k0_pay310 (k0_pay361 x0 x1) -- `v2362`
def k0_pay446 (x0 : Vec F S1280x128 .i8) (x1 : Vec F S80x256 .fp8e4m3) : IVec S8x128 32 :=
  k0_pay314 (k0_pay360 x0 x1) -- `v2398`
def k0_pay447 (x0 : Vec F S1280x128 .i8) (x1 : Vec F S80x256 .fp8e4m3) : IVec S8x128 32 :=
  k0_pay319 (k0_pay359 x0 x1) (k0_pay360 x0 x1) (k0_pay361 x0 x1) -- `v2442`
def k0_pay448 (x0 : Vec F S1280x128 .i8) (x1 : Vec F S80x256 .fp8e4m3) : IVec S8x128 32 :=
  k0_pay320 -- `v2443`
def k0_pay449 (x0 : Vec F S1280x128 .i8) (x1 : Vec F S80x256 .fp8e4m3) : FVec F S32x128 .bf16 :=
  k0_pay324 (F := F) (k0_pay359 x0 x1) (k0_pay360 x0 x1) (k0_pay318 (k0_pay361 x0 x1)) -- `v2485`
def k0_pay450 (x0 : Vec F S1280x128 .i8) (x1 : Vec F S80x256 .fp8e4m3) : IVec S8x128 32 :=
  k0_pay328 (k0_pay361 x0 x1) -- `v2500`
def k0_pay451 (x0 : Vec F S1280x128 .i8) (x1 : Vec F S80x256 .fp8e4m3) : IVec S8x128 32 :=
  k0_pay335 (k0_pay361 x0 x1) -- `v2569`
def k0_pay452 (x0 : Vec F S1280x128 .i8) (x1 : Vec F S80x256 .fp8e4m3) : IVec S8x128 32 :=
  k0_pay336 (k0_pay360 x0 x1) -- `v2576`
def k0_pay453 (x0 : Vec F S1280x128 .i8) (x1 : Vec F S80x256 .fp8e4m3) : IVec S8x128 32 :=
  k0_pay340 (k0_pay359 x0 x1) (k0_pay360 x0 x1) (k0_pay451 x0 x1) -- `v2621`
def k0_pay454 (x0 : Vec F S1280x128 .i8) (x1 : Vec F S80x256 .fp8e4m3) : IVec S8x128 32 :=
  k0_pay344 (k0_pay361 x0 x1) -- `v2638`
def k0_pay455 (x0 : Vec F S1280x128 .i8) (x1 : Vec F S80x256 .fp8e4m3) : IVec S8x128 32 :=
  k0_pay352 (k0_pay361 x0 x1) -- `v2707`
def k0_pay456 (x0 : Vec F S1280x128 .i8) (x1 : Vec F S80x256 .fp8e4m3) : IVec S8x128 32 :=
  k0_pay353 (k0_pay360 x0 x1) -- `v2709`
def k0_pay457 (x0 : Vec F S1280x128 .i8) (x1 : Vec F S80x256 .fp8e4m3) : IVec S8x128 32 :=
  k0_pay357 (k0_pay359 x0 x1) (k0_pay360 x0 x1) (k0_pay455 x0 x1) -- `v2752`
def k0_pay458 (x0 : Vec F S1280x128 .i8) (x1 : Vec F S80x256 .fp8e4m3) : IVec S8x128 32 :=
  k0_pay358 (k0_pay359 x0 x1) (k0_pay360 x0 x1) (k0_pay455 x0 x1) -- `v2754`

/-- Window 2's staging buffer after the body, from the input windows' blocks: its 160 stores as pieces, LAST
    FIRST (Lib/Pipeline/FrameBody.lean `View.canon`; the payloads are the skeleton's and the values stated above). -/
def out0_2 (x0 : Vec F S1280x128 .i8) (x1 : Vec F S80x256 .fp8e4m3) : Vec F S1280x256 .bf16 :=
  View.canon [⟨r0_161, k0_pay3 (k0_pay362 x0 x1) (k0_pay457 x0 x1) (k0_pay458 x0 x1) 2#32⟩,
    ⟨r0_160, k0_pay2 (k0_pay362 x0 x1) (k0_pay457 x0 x1) (k0_pay458 x0 x1) 2#32⟩,
    ⟨r0_159, k0_pay356 (k0_pay359 x0 x1) (k0_pay362 x0 x1) (k0_pay455 x0 x1) (k0_pay456 x0 x1) 0#32⟩,
    ⟨r0_158, k0_pay355 (k0_pay359 x0 x1) (k0_pay362 x0 x1) (k0_pay455 x0 x1) (k0_pay456 x0 x1) 0#32⟩,
    ⟨r0_157, k0_pay351 (k0_pay359 x0 x1) (k0_pay360 x0 x1) (k0_pay362 x0 x1) (k0_pay454 x0 x1)⟩,
    ⟨r0_156, k0_pay350 (k0_pay359 x0 x1) (k0_pay360 x0 x1) (k0_pay362 x0 x1) (k0_pay454 x0 x1)⟩,
    ⟨r0_155, k0_pay348 (k0_pay345 (F := F) (k0_pay359 x0 x1) (k0_pay360 x0 x1) (k0_pay361 x0 x1)) (k0_pay347 (k0_pay362 x0 x1))⟩,
    ⟨r0_154, k0_pay346 (k0_pay359 x0 x1) (k0_pay360 x0 x1) (k0_pay361 x0 x1) (k0_pay362 x0 x1)⟩,
    ⟨r0_153, k0_pay343 (k0_pay362 x0 x1) (k0_pay453 x0 x1)⟩,
    ⟨r0_152, k0_pay342 (k0_pay362 x0 x1) (k0_pay453 x0 x1)⟩,
    ⟨r0_151, k0_pay339 (k0_pay359 x0 x1) (k0_pay362 x0 x1) (k0_pay451 x0 x1) (k0_pay452 x0 x1)⟩,
    ⟨r0_150, k0_pay338 (k0_pay359 x0 x1) (k0_pay362 x0 x1) (k0_pay451 x0 x1) (k0_pay452 x0 x1)⟩,
    ⟨r0_149, k0_pay334 (k0_pay359 x0 x1) (k0_pay360 x0 x1) (k0_pay362 x0 x1) (k0_pay450 x0 x1)⟩,
    ⟨r0_148, k0_pay333 (k0_pay359 x0 x1) (k0_pay360 x0 x1) (k0_pay362 x0 x1) (k0_pay450 x0 x1)⟩,
    ⟨r0_147, k0_pay331 (k0_pay359 x0 x1) (k0_pay360 x0 x1) (k0_pay361 x0 x1) (k0_pay362 x0 x1)⟩,
    ⟨r0_146, k0_pay330 (k0_pay359 x0 x1) (k0_pay360 x0 x1) (k0_pay361 x0 x1) (k0_pay362 x0 x1)⟩,
    ⟨r0_145, k0_pay327 (k0_pay362 x0 x1) (k0_pay449 x0 x1)⟩,
    ⟨r0_144, k0_pay326 (k0_pay449 x0 x1) (k0_pay325 (k0_pay362 x0 x1))⟩,
    ⟨r0_143, k0_pay323 (k0_pay362 x0 x1) (k0_pay447 x0 x1) (k0_pay448 x0 x1)⟩,
    ⟨r0_142, k0_pay322 (k0_pay362 x0 x1) (k0_pay447 x0 x1) (k0_pay448 x0 x1)⟩,
    ⟨r0_141, k0_pay317 (k0_pay359 x0 x1) (k0_pay362 x0 x1) (k0_pay445 x0 x1) (k0_pay446 x0 x1)⟩,
    ⟨r0_140, k0_pay316 (k0_pay359 x0 x1) (k0_pay362 x0 x1) (k0_pay445 x0 x1) (k0_pay446 x0 x1)⟩,
    ⟨r0_139, k0_pay313 (k0_pay359 x0 x1) (k0_pay360 x0 x1) (k0_pay361 x0 x1) (k0_pay362 x0 x1)⟩,
    ⟨r0_138, k0_pay312 (k0_pay359 x0 x1) (k0_pay360 x0 x1) (k0_pay361 x0 x1) (k0_pay362 x0 x1)⟩,
    ⟨r0_137, k0_pay309 (k0_pay362 x0 x1) (k0_pay307 (F := F) (k0_pay359 x0 x1) (k0_pay360 x0 x1) (k0_pay441 x0 x1))⟩,
    ⟨r0_136, k0_pay308 (k0_pay359 x0 x1) (k0_pay360 x0 x1) (k0_pay362 x0 x1) (k0_pay441 x0 x1)⟩,
    ⟨r0_135, k0_pay306 (k0_pay362 x0 x1) (k0_pay442 x0 x1) (k0_pay443 x0 x1) (k0_pay444 x0 x1)⟩,
    ⟨r0_134, k0_pay305 (k0_pay362 x0 x1) (k0_pay442 x0 x1) (k0_pay443 x0 x1) (k0_pay444 x0 x1)⟩,
    ⟨r0_133, k0_pay298 (k0_pay359 x0 x1) (k0_pay362 x0 x1) (k0_pay437 x0 x1) (k0_pay438 x0 x1) (k0_pay439 x0 x1) (k0_pay440 x0 x1)⟩,
    ⟨r0_132, k0_pay297 (k0_pay359 x0 x1) (k0_pay362 x0 x1) (k0_pay437 x0 x1) (k0_pay438 x0 x1) (k0_pay439 x0 x1) (k0_pay440 x0 x1)⟩,
    ⟨r0_131, k0_pay292 (k0_pay359 x0 x1) (k0_pay360 x0 x1) (k0_pay361 x0 x1) (k0_pay362 x0 x1)⟩,
    ⟨r0_130, k0_pay291 (k0_pay359 x0 x1) (k0_pay360 x0 x1) (k0_pay361 x0 x1) (k0_pay362 x0 x1)⟩,
    ⟨r0_129, k0_pay288 (k0_pay359 x0 x1) (k0_pay360 x0 x1) (k0_pay362 x0 x1) (k0_pay435 x0 x1)⟩,
    ⟨r0_128, k0_pay287 (k0_pay359 x0 x1) (k0_pay360 x0 x1) (k0_pay362 x0 x1) (k0_pay435 x0 x1)⟩,
    ⟨r0_127, k0_pay285 (k0_pay362 x0 x1) (k0_pay436 x0 x1)⟩,
    ⟨r0_126, k0_pay284 (k0_pay436 x0 x1) (k0_pay283 (k0_pay362 x0 x1))⟩,
    ⟨r0_125, k0_pay280 (k0_pay362 x0 x1) (k0_pay434 x0 x1) 2155905152#32⟩,
    ⟨r0_124, k0_pay279 (k0_pay362 x0 x1) (k0_pay434 x0 x1) 2155905152#32⟩,
    ⟨r0_123, k0_pay276 (k0_pay359 x0 x1) (k0_pay360 x0 x1) (k0_pay362 x0 x1) (k0_pay433 x0 x1) 0#32⟩,
    ⟨r0_122, k0_pay275 (k0_pay359 x0 x1) (k0_pay360 x0 x1) (k0_pay362 x0 x1) (k0_pay433 x0 x1) 0#32⟩,
    ⟨r0_121, k0_pay272 (k0_pay359 x0 x1) (k0_pay360 x0 x1) (k0_pay362 x0 x1) (k0_pay432 x0 x1)⟩,
    ⟨r0_120, k0_pay271 (k0_pay359 x0 x1) (k0_pay360 x0 x1) (k0_pay362 x0 x1) (k0_pay432 x0 x1)⟩,
    ⟨r0_119, k0_pay269 (k0_pay362 x0 x1) (k0_pay267 (F := F) (k0_pay359 x0 x1) (k0_pay360 x0 x1) (k0_pay361 x0 x1))⟩,
    ⟨r0_118, k0_pay268 (k0_pay359 x0 x1) (k0_pay360 x0 x1) (k0_pay361 x0 x1) (k0_pay362 x0 x1)⟩,
    ⟨r0_117, k0_pay265 (k0_pay362 x0 x1) (k0_pay430 x0 x1) (k0_pay431 x0 x1) 471604252#32⟩,
    ⟨r0_116, k0_pay264 (k0_pay362 x0 x1) (k0_pay430 x0 x1) (k0_pay431 x0 x1) 471604252#32⟩,
    ⟨r0_115, k0_pay259 (k0_pay359 x0 x1) (k0_pay362 x0 x1) (k0_pay427 x0 x1) (k0_pay428 x0 x1) (k0_pay429 x0 x1) 128#32⟩,
    ⟨r0_114, k0_pay258 (k0_pay359 x0 x1) (k0_pay362 x0 x1) (k0_pay427 x0 x1) (k0_pay428 x0 x1) (k0_pay429 x0 x1) 128#32⟩,
    ⟨r0_113, k0_pay253 (k0_pay359 x0 x1) (k0_pay360 x0 x1) (k0_pay362 x0 x1) (k0_pay426 x0 x1)⟩,
    ⟨r0_112, k0_pay252 (k0_pay359 x0 x1) (k0_pay360 x0 x1) (k0_pay362 x0 x1) (k0_pay426 x0 x1)⟩,
    ⟨r0_111, k0_pay250 (k0_pay247 (F := F) (k0_pay359 x0 x1) (k0_pay360 x0 x1) (k0_pay361 x0 x1)) (k0_pay249 (k0_pay362 x0 x1))⟩,
    ⟨r0_110, k0_pay248 (k0_pay359 x0 x1) (k0_pay360 x0 x1) (k0_pay361 x0 x1) (k0_pay362 x0 x1)⟩,
    ⟨r0_109, k0_pay245 (k0_pay362 x0 x1) (k0_pay425 x0 x1)⟩,
    ⟨r0_108, k0_pay244 (k0_pay425 x0 x1) (k0_pay243 (k0_pay362 x0 x1))⟩,
    ⟨r0_107, k0_pay241 (k0_pay359 x0 x1) (k0_pay362 x0 x1) (k0_pay424 x0 x1)⟩,
    ⟨r0_106, k0_pay240 (k0_pay359 x0 x1) (k0_pay362 x0 x1) (k0_pay424 x0 x1)⟩,
    ⟨r0_105, k0_pay236 (k0_pay359 x0 x1) (k0_pay360 x0 x1) (k0_pay362 x0 x1) (k0_pay423 x0 x1)⟩,
    ⟨r0_104, k0_pay235 (k0_pay359 x0 x1) (k0_pay360 x0 x1) (k0_pay362 x0 x1) (k0_pay423 x0 x1)⟩,
    ⟨r0_103, k0_pay233 (k0_pay359 x0 x1) (k0_pay360 x0 x1) (k0_pay361 x0 x1) (k0_pay362 x0 x1)⟩,
    ⟨r0_102, k0_pay232 (k0_pay359 x0 x1) (k0_pay360 x0 x1) (k0_pay361 x0 x1) (k0_pay362 x0 x1)⟩,
    ⟨r0_101, k0_pay229 (k0_pay362 x0 x1) (k0_pay227 (F := F) (k0_pay359 x0 x1) (k0_pay360 x0 x1) (k0_pay419 x0 x1))⟩,
    ⟨r0_100, k0_pay228 (k0_pay359 x0 x1) (k0_pay360 x0 x1) (k0_pay362 x0 x1) (k0_pay419 x0 x1)⟩,
    ⟨r0_99, k0_pay226 (k0_pay362 x0 x1) (k0_pay420 x0 x1) (k0_pay421 x0 x1) (k0_pay422 x0 x1)⟩,
    ⟨r0_98, k0_pay225 (k0_pay362 x0 x1) (k0_pay420 x0 x1) (k0_pay421 x0 x1) (k0_pay422 x0 x1)⟩,
    ⟨r0_97, k0_pay219 (k0_pay359 x0 x1) (k0_pay362 x0 x1) (k0_pay416 x0 x1) (k0_pay417 x0 x1) (k0_pay418 x0 x1)⟩,
    ⟨r0_96, k0_pay218 (k0_pay359 x0 x1) (k0_pay362 x0 x1) (k0_pay416 x0 x1) (k0_pay417 x0 x1) (k0_pay418 x0 x1)⟩,
    ⟨r0_95, k0_pay214 (k0_pay359 x0 x1) (k0_pay360 x0 x1) (k0_pay361 x0 x1) (k0_pay362 x0 x1)⟩,
    ⟨r0_94, k0_pay213 (k0_pay359 x0 x1) (k0_pay360 x0 x1) (k0_pay361 x0 x1) (k0_pay362 x0 x1)⟩,
    ⟨r0_93, k0_pay210 (k0_pay207 (F := F) (k0_pay359 x0 x1) (k0_pay360 x0 x1) (k0_pay414 x0 x1)) (k0_pay209 (k0_pay362 x0 x1))⟩,
    ⟨r0_92, k0_pay208 (k0_pay359 x0 x1) (k0_pay360 x0 x1) (k0_pay362 x0 x1) (k0_pay414 x0 x1)⟩,
    ⟨r0_91, k0_pay206 (k0_pay362 x0 x1) (k0_pay415 x0 x1)⟩,
    ⟨r0_90, k0_pay205 (k0_pay362 x0 x1) (k0_pay415 x0 x1)⟩,
    ⟨r0_89, k0_pay201 (k0_pay359 x0 x1) (k0_pay362 x0 x1) (k0_pay412 x0 x1) (k0_pay413 x0 x1)⟩,
    ⟨r0_88, k0_pay200 (k0_pay359 x0 x1) (k0_pay362 x0 x1) (k0_pay412 x0 x1) (k0_pay413 x0 x1)⟩,
    ⟨r0_87, k0_pay197 (k0_pay359 x0 x1) (k0_pay360 x0 x1) (k0_pay361 x0 x1) (k0_pay362 x0 x1)⟩,
    ⟨r0_86, k0_pay196 (k0_pay359 x0 x1) (k0_pay360 x0 x1) (k0_pay361 x0 x1) (k0_pay362 x0 x1)⟩,
    ⟨r0_85, k0_pay193 (k0_pay359 x0 x1) (k0_pay360 x0 x1) (k0_pay362 x0 x1) (k0_pay411 x0 x1)⟩,
    ⟨r0_84, k0_pay192 (k0_pay359 x0 x1) (k0_pay360 x0 x1) (k0_pay362 x0 x1) (k0_pay411 x0 x1)⟩,
    ⟨r0_83, k0_pay190 (k0_pay362 x0 x1) (k0_pay186 (F := F) (k0_pay359 x0 x1) (k0_pay360 x0 x1) (k0_pay361 x0 x1))⟩,
    ⟨r0_82, k0_pay189 (k0_pay187 (k0_pay362 x0 x1)) (k0_pay188 (F := F) (k0_pay359 x0 x1) (k0_pay360 x0 x1) (k0_pay361 x0 x1))⟩,
    ⟨r0_81, k0_pay184 (k0_pay362 x0 x1) (k0_pay409 x0 x1) (k0_pay410 x0 x1) 2#32⟩,
    ⟨r0_80, k0_pay183 (k0_pay362 x0 x1) (k0_pay409 x0 x1) (k0_pay410 x0 x1) 2#32⟩,
    ⟨r0_79, k0_pay179 (k0_pay359 x0 x1) (k0_pay362 x0 x1) (k0_pay407 x0 x1) (k0_pay408 x0 x1) 0#32⟩,
    ⟨r0_78, k0_pay178 (k0_pay359 x0 x1) (k0_pay362 x0 x1) (k0_pay407 x0 x1) (k0_pay408 x0 x1) 0#32⟩,
    ⟨r0_77, k0_pay174 (k0_pay359 x0 x1) (k0_pay360 x0 x1) (k0_pay362 x0 x1) (k0_pay406 x0 x1)⟩,
    ⟨r0_76, k0_pay173 (k0_pay359 x0 x1) (k0_pay360 x0 x1) (k0_pay362 x0 x1) (k0_pay406 x0 x1)⟩,
    ⟨r0_75, k0_pay171 (k0_pay168 (F := F) (k0_pay359 x0 x1) (k0_pay360 x0 x1) (k0_pay361 x0 x1)) (k0_pay170 (k0_pay362 x0 x1))⟩,
    ⟨r0_74, k0_pay169 (k0_pay359 x0 x1) (k0_pay360 x0 x1) (k0_pay361 x0 x1) (k0_pay362 x0 x1)⟩,
    ⟨r0_73, k0_pay166 (k0_pay362 x0 x1) (k0_pay405 x0 x1)⟩,
    ⟨r0_72, k0_pay165 (k0_pay362 x0 x1) (k0_pay405 x0 x1)⟩,
    ⟨r0_71, k0_pay162 (k0_pay359 x0 x1) (k0_pay362 x0 x1) (k0_pay403 x0 x1) (k0_pay404 x0 x1)⟩,
    ⟨r0_70, k0_pay161 (k0_pay359 x0 x1) (k0_pay362 x0 x1) (k0_pay403 x0 x1) (k0_pay404 x0 x1)⟩,
    ⟨r0_69, k0_pay157 (k0_pay359 x0 x1) (k0_pay360 x0 x1) (k0_pay362 x0 x1) (k0_pay402 x0 x1)⟩,
    ⟨r0_68, k0_pay156 (k0_pay359 x0 x1) (k0_pay360 x0 x1) (k0_pay362 x0 x1) (k0_pay402 x0 x1)⟩,
    ⟨r0_67, k0_pay154 (k0_pay359 x0 x1) (k0_pay360 x0 x1) (k0_pay361 x0 x1) (k0_pay362 x0 x1)⟩,
    ⟨r0_66, k0_pay153 (k0_pay359 x0 x1) (k0_pay360 x0 x1) (k0_pay361 x0 x1) (k0_pay362 x0 x1)⟩,
    ⟨r0_65, k0_pay150 (k0_pay362 x0 x1) (k0_pay401 x0 x1)⟩,
    ⟨r0_64, k0_pay149 (k0_pay401 x0 x1) (k0_pay148 (k0_pay362 x0 x1))⟩,
    ⟨r0_63, k0_pay146 (k0_pay362 x0 x1) (k0_pay399 x0 x1) (k0_pay400 x0 x1)⟩,
    ⟨r0_62, k0_pay145 (k0_pay362 x0 x1) (k0_pay399 x0 x1) (k0_pay400 x0 x1)⟩,
    ⟨r0_61, k0_pay140 (k0_pay359 x0 x1) (k0_pay362 x0 x1) (k0_pay397 x0 x1) (k0_pay398 x0 x1)⟩,
    ⟨r0_60, k0_pay139 (k0_pay359 x0 x1) (k0_pay362 x0 x1) (k0_pay397 x0 x1) (k0_pay398 x0 x1)⟩,
    ⟨r0_59, k0_pay136 (k0_pay359 x0 x1) (k0_pay360 x0 x1) (k0_pay361 x0 x1) (k0_pay362 x0 x1)⟩,
    ⟨r0_58, k0_pay135 (k0_pay359 x0 x1) (k0_pay360 x0 x1) (k0_pay361 x0 x1) (k0_pay362 x0 x1)⟩,
    ⟨r0_57, k0_pay132 (k0_pay362 x0 x1) (k0_pay130 (F := F) (k0_pay359 x0 x1) (k0_pay360 x0 x1) (k0_pay393 x0 x1))⟩,
    ⟨r0_56, k0_pay131 (k0_pay359 x0 x1) (k0_pay360 x0 x1) (k0_pay362 x0 x1) (k0_pay393 x0 x1)⟩,
    ⟨r0_55, k0_pay129 (k0_pay362 x0 x1) (k0_pay394 x0 x1) (k0_pay395 x0 x1) (k0_pay396 x0 x1)⟩,
    ⟨r0_54, k0_pay128 (k0_pay362 x0 x1) (k0_pay394 x0 x1) (k0_pay395 x0 x1) (k0_pay396 x0 x1)⟩,
    ⟨r0_53, k0_pay121 (k0_pay359 x0 x1) (k0_pay362 x0 x1) (k0_pay389 x0 x1) (k0_pay390 x0 x1) (k0_pay391 x0 x1) (k0_pay392 x0 x1)⟩,
    ⟨r0_52, k0_pay120 (k0_pay359 x0 x1) (k0_pay362 x0 x1) (k0_pay389 x0 x1) (k0_pay390 x0 x1) (k0_pay391 x0 x1) (k0_pay392 x0 x1)⟩,
    ⟨r0_51, k0_pay115 (k0_pay359 x0 x1) (k0_pay360 x0 x1) (k0_pay361 x0 x1) (k0_pay362 x0 x1)⟩,
    ⟨r0_50, k0_pay114 (k0_pay359 x0 x1) (k0_pay360 x0 x1) (k0_pay361 x0 x1) (k0_pay362 x0 x1)⟩,
    ⟨r0_49, k0_pay111 (k0_pay359 x0 x1) (k0_pay360 x0 x1) (k0_pay362 x0 x1) (k0_pay387 x0 x1)⟩,
    ⟨r0_48, k0_pay110 (k0_pay359 x0 x1) (k0_pay360 x0 x1) (k0_pay362 x0 x1) (k0_pay387 x0 x1)⟩,
    ⟨r0_47, k0_pay108 (k0_pay362 x0 x1) (k0_pay388 x0 x1)⟩,
    ⟨r0_46, k0_pay107 (k0_pay388 x0 x1) (k0_pay106 (k0_pay362 x0 x1))⟩,
    ⟨r0_45, k0_pay103 (k0_pay362 x0 x1) (k0_pay386 x0 x1) 2155905152#32⟩,
    ⟨r0_44, k0_pay102 (k0_pay362 x0 x1) (k0_pay386 x0 x1) 2155905152#32⟩,
    ⟨r0_43, k0_pay99 (k0_pay359 x0 x1) (k0_pay360 x0 x1) (k0_pay362 x0 x1) (k0_pay385 x0 x1) 0#32⟩,
    ⟨r0_42, k0_pay98 (k0_pay359 x0 x1) (k0_pay360 x0 x1) (k0_pay362 x0 x1) (k0_pay385 x0 x1) 0#32⟩,
    ⟨r0_41, k0_pay95 (k0_pay359 x0 x1) (k0_pay360 x0 x1) (k0_pay362 x0 x1) (k0_pay384 x0 x1)⟩,
    ⟨r0_40, k0_pay94 (k0_pay359 x0 x1) (k0_pay360 x0 x1) (k0_pay362 x0 x1) (k0_pay384 x0 x1)⟩,
    ⟨r0_39, k0_pay92 (k0_pay362 x0 x1) (k0_pay90 (F := F) (k0_pay359 x0 x1) (k0_pay360 x0 x1) (k0_pay361 x0 x1))⟩,
    ⟨r0_38, k0_pay91 (k0_pay359 x0 x1) (k0_pay360 x0 x1) (k0_pay361 x0 x1) (k0_pay362 x0 x1)⟩,
    ⟨r0_37, k0_pay88 (k0_pay362 x0 x1) (k0_pay382 x0 x1) (k0_pay383 x0 x1) 471604252#32⟩,
    ⟨r0_36, k0_pay87 (k0_pay362 x0 x1) (k0_pay382 x0 x1) (k0_pay383 x0 x1) 471604252#32⟩,
    ⟨r0_35, k0_pay82 (k0_pay359 x0 x1) (k0_pay362 x0 x1) (k0_pay379 x0 x1) (k0_pay380 x0 x1) (k0_pay381 x0 x1) 128#32⟩,
    ⟨r0_34, k0_pay81 (k0_pay359 x0 x1) (k0_pay362 x0 x1) (k0_pay379 x0 x1) (k0_pay380 x0 x1) (k0_pay381 x0 x1) 128#32⟩,
    ⟨r0_33, k0_pay76 (k0_pay359 x0 x1) (k0_pay360 x0 x1) (k0_pay362 x0 x1) (k0_pay378 x0 x1)⟩,
    ⟨r0_32, k0_pay75 (k0_pay359 x0 x1) (k0_pay360 x0 x1) (k0_pay362 x0 x1) (k0_pay378 x0 x1)⟩,
    ⟨r0_31, k0_pay73 (k0_pay70 (F := F) (k0_pay359 x0 x1) (k0_pay360 x0 x1) (k0_pay361 x0 x1)) (k0_pay72 (k0_pay362 x0 x1))⟩,
    ⟨r0_30, k0_pay71 (k0_pay359 x0 x1) (k0_pay360 x0 x1) (k0_pay361 x0 x1) (k0_pay362 x0 x1)⟩,
    ⟨r0_29, k0_pay68 (k0_pay362 x0 x1) (k0_pay377 x0 x1)⟩,
    ⟨r0_28, k0_pay67 (k0_pay377 x0 x1) (k0_pay66 (k0_pay362 x0 x1))⟩,
    ⟨r0_27, k0_pay64 (k0_pay359 x0 x1) (k0_pay362 x0 x1) (k0_pay376 x0 x1)⟩,
    ⟨r0_26, k0_pay63 (k0_pay359 x0 x1) (k0_pay362 x0 x1) (k0_pay376 x0 x1)⟩,
    ⟨r0_25, k0_pay59 (k0_pay359 x0 x1) (k0_pay360 x0 x1) (k0_pay362 x0 x1) (k0_pay375 x0 x1)⟩,
    ⟨r0_24, k0_pay58 (k0_pay359 x0 x1) (k0_pay360 x0 x1) (k0_pay362 x0 x1) (k0_pay375 x0 x1)⟩,
    ⟨r0_23, k0_pay56 (k0_pay359 x0 x1) (k0_pay360 x0 x1) (k0_pay361 x0 x1) (k0_pay362 x0 x1)⟩,
    ⟨r0_22, k0_pay55 (k0_pay359 x0 x1) (k0_pay360 x0 x1) (k0_pay361 x0 x1) (k0_pay362 x0 x1)⟩,
    ⟨r0_21, k0_pay52 (k0_pay362 x0 x1) (k0_pay50 (F := F) (k0_pay359 x0 x1) (k0_pay360 x0 x1) (k0_pay371 x0 x1))⟩,
    ⟨r0_20, k0_pay51 (k0_pay359 x0 x1) (k0_pay360 x0 x1) (k0_pay362 x0 x1) (k0_pay371 x0 x1)⟩,
    ⟨r0_19, k0_pay49 (k0_pay362 x0 x1) (k0_pay372 x0 x1) (k0_pay373 x0 x1) (k0_pay374 x0 x1)⟩,
    ⟨r0_18, k0_pay48 (k0_pay362 x0 x1) (k0_pay372 x0 x1) (k0_pay373 x0 x1) (k0_pay374 x0 x1)⟩,
    ⟨r0_17, k0_pay42 (k0_pay359 x0 x1) (k0_pay362 x0 x1) (k0_pay368 x0 x1) (k0_pay369 x0 x1) (k0_pay370 x0 x1)⟩,
    ⟨r0_16, k0_pay41 (k0_pay359 x0 x1) (k0_pay362 x0 x1) (k0_pay368 x0 x1) (k0_pay369 x0 x1) (k0_pay370 x0 x1)⟩,
    ⟨r0_15, k0_pay37 (k0_pay359 x0 x1) (k0_pay360 x0 x1) (k0_pay361 x0 x1) (k0_pay362 x0 x1)⟩,
    ⟨r0_14, k0_pay36 (k0_pay359 x0 x1) (k0_pay360 x0 x1) (k0_pay361 x0 x1) (k0_pay362 x0 x1)⟩,
    ⟨r0_13, k0_pay33 (k0_pay30 (F := F) (k0_pay359 x0 x1) (k0_pay360 x0 x1) (k0_pay366 x0 x1)) (k0_pay32 (k0_pay362 x0 x1))⟩,
    ⟨r0_12, k0_pay31 (k0_pay359 x0 x1) (k0_pay360 x0 x1) (k0_pay362 x0 x1) (k0_pay366 x0 x1)⟩,
    ⟨r0_11, k0_pay29 (k0_pay362 x0 x1) (k0_pay367 x0 x1)⟩,
    ⟨r0_10, k0_pay28 (k0_pay362 x0 x1) (k0_pay367 x0 x1)⟩,
    ⟨r0_9, k0_pay24 (k0_pay359 x0 x1) (k0_pay362 x0 x1) (k0_pay364 x0 x1) (k0_pay365 x0 x1)⟩,
    ⟨r0_8, k0_pay23 (k0_pay359 x0 x1) (k0_pay362 x0 x1) (k0_pay364 x0 x1) (k0_pay365 x0 x1)⟩,
    ⟨r0_7, k0_pay20 (k0_pay359 x0 x1) (k0_pay360 x0 x1) (k0_pay361 x0 x1) (k0_pay362 x0 x1)⟩,
    ⟨r0_6, k0_pay19 (k0_pay359 x0 x1) (k0_pay360 x0 x1) (k0_pay361 x0 x1) (k0_pay362 x0 x1)⟩,
    ⟨r0_5, k0_pay16 (k0_pay359 x0 x1) (k0_pay360 x0 x1) (k0_pay362 x0 x1) (k0_pay363 x0 x1)⟩,
    ⟨r0_4, k0_pay15 (k0_pay359 x0 x1) (k0_pay360 x0 x1) (k0_pay362 x0 x1) (k0_pay363 x0 x1)⟩,
    ⟨r0_3, k0_pay13 (k0_pay362 x0 x1) (k0_pay9 (View.ld x0 r0_0))⟩,
    ⟨r0_2, k0_pay12 (k0_pay10 (View.ld x1 r0_1)) (k0_pay11 (View.ld x0 r0_0))⟩]

/-- Its stores tile the buffer (checked by evaluation), so they cover it. -/
theorem cover0_2 (p0 : Vec F S16x128 .bf16) (p1 : Vec F S16x128 .bf16) (p2 : Vec F S16x128 .bf16) (p3 : Vec F S16x128 .bf16) (p4 : Vec F S16x128 .bf16) (p5 : Vec F S16x128 .bf16) (p6 : Vec F S16x128 .bf16) (p7 : Vec F S16x128 .bf16) (p8 : Vec F S16x128 .bf16) (p9 : Vec F S16x128 .bf16) (p10 : Vec F S16x128 .bf16) (p11 : Vec F S16x128 .bf16) (p12 : Vec F S16x128 .bf16) (p13 : Vec F S16x128 .bf16) (p14 : Vec F S16x128 .bf16) (p15 : Vec F S16x128 .bf16) (p16 : Vec F S16x128 .bf16) (p17 : Vec F S16x128 .bf16) (p18 : Vec F S16x128 .bf16) (p19 : Vec F S16x128 .bf16) (p20 : Vec F S16x128 .bf16) (p21 : Vec F S16x128 .bf16) (p22 : Vec F S16x128 .bf16) (p23 : Vec F S16x128 .bf16) (p24 : Vec F S16x128 .bf16) (p25 : Vec F S16x128 .bf16) (p26 : Vec F S16x128 .bf16) (p27 : Vec F S16x128 .bf16) (p28 : Vec F S16x128 .bf16) (p29 : Vec F S16x128 .bf16) (p30 : Vec F S16x128 .bf16) (p31 : Vec F S16x128 .bf16) (p32 : Vec F S16x128 .bf16) (p33 : Vec F S16x128 .bf16) (p34 : Vec F S16x128 .bf16) (p35 : Vec F S16x128 .bf16) (p36 : Vec F S16x128 .bf16) (p37 : Vec F S16x128 .bf16) (p38 : Vec F S16x128 .bf16) (p39 : Vec F S16x128 .bf16) (p40 : Vec F S16x128 .bf16) (p41 : Vec F S16x128 .bf16) (p42 : Vec F S16x128 .bf16) (p43 : Vec F S16x128 .bf16) (p44 : Vec F S16x128 .bf16) (p45 : Vec F S16x128 .bf16) (p46 : Vec F S16x128 .bf16) (p47 : Vec F S16x128 .bf16) (p48 : Vec F S16x128 .bf16) (p49 : Vec F S16x128 .bf16) (p50 : Vec F S16x128 .bf16) (p51 : Vec F S16x128 .bf16) (p52 : Vec F S16x128 .bf16) (p53 : Vec F S16x128 .bf16) (p54 : Vec F S16x128 .bf16) (p55 : Vec F S16x128 .bf16) (p56 : Vec F S16x128 .bf16) (p57 : Vec F S16x128 .bf16) (p58 : Vec F S16x128 .bf16) (p59 : Vec F S16x128 .bf16) (p60 : Vec F S16x128 .bf16) (p61 : Vec F S16x128 .bf16) (p62 : Vec F S16x128 .bf16) (p63 : Vec F S16x128 .bf16) (p64 : Vec F S16x128 .bf16) (p65 : Vec F S16x128 .bf16) (p66 : Vec F S16x128 .bf16) (p67 : Vec F S16x128 .bf16) (p68 : Vec F S16x128 .bf16) (p69 : Vec F S16x128 .bf16) (p70 : Vec F S16x128 .bf16) (p71 : Vec F S16x128 .bf16) (p72 : Vec F S16x128 .bf16) (p73 : Vec F S16x128 .bf16) (p74 : Vec F S16x128 .bf16) (p75 : Vec F S16x128 .bf16) (p76 : Vec F S16x128 .bf16) (p77 : Vec F S16x128 .bf16) (p78 : Vec F S16x128 .bf16) (p79 : Vec F S16x128 .bf16) (p80 : Vec F S16x128 .bf16) (p81 : Vec F S16x128 .bf16) (p82 : Vec F S16x128 .bf16) (p83 : Vec F S16x128 .bf16) (p84 : Vec F S16x128 .bf16) (p85 : Vec F S16x128 .bf16) (p86 : Vec F S16x128 .bf16) (p87 : Vec F S16x128 .bf16) (p88 : Vec F S16x128 .bf16) (p89 : Vec F S16x128 .bf16) (p90 : Vec F S16x128 .bf16) (p91 : Vec F S16x128 .bf16) (p92 : Vec F S16x128 .bf16) (p93 : Vec F S16x128 .bf16) (p94 : Vec F S16x128 .bf16) (p95 : Vec F S16x128 .bf16) (p96 : Vec F S16x128 .bf16) (p97 : Vec F S16x128 .bf16) (p98 : Vec F S16x128 .bf16) (p99 : Vec F S16x128 .bf16) (p100 : Vec F S16x128 .bf16) (p101 : Vec F S16x128 .bf16) (p102 : Vec F S16x128 .bf16) (p103 : Vec F S16x128 .bf16) (p104 : Vec F S16x128 .bf16) (p105 : Vec F S16x128 .bf16) (p106 : Vec F S16x128 .bf16) (p107 : Vec F S16x128 .bf16) (p108 : Vec F S16x128 .bf16) (p109 : Vec F S16x128 .bf16) (p110 : Vec F S16x128 .bf16) (p111 : Vec F S16x128 .bf16) (p112 : Vec F S16x128 .bf16) (p113 : Vec F S16x128 .bf16) (p114 : Vec F S16x128 .bf16) (p115 : Vec F S16x128 .bf16) (p116 : Vec F S16x128 .bf16) (p117 : Vec F S16x128 .bf16) (p118 : Vec F S16x128 .bf16) (p119 : Vec F S16x128 .bf16) (p120 : Vec F S16x128 .bf16) (p121 : Vec F S16x128 .bf16) (p122 : Vec F S16x128 .bf16) (p123 : Vec F S16x128 .bf16) (p124 : Vec F S16x128 .bf16) (p125 : Vec F S16x128 .bf16) (p126 : Vec F S16x128 .bf16) (p127 : Vec F S16x128 .bf16) (p128 : Vec F S16x128 .bf16) (p129 : Vec F S16x128 .bf16) (p130 : Vec F S16x128 .bf16) (p131 : Vec F S16x128 .bf16) (p132 : Vec F S16x128 .bf16) (p133 : Vec F S16x128 .bf16) (p134 : Vec F S16x128 .bf16) (p135 : Vec F S16x128 .bf16) (p136 : Vec F S16x128 .bf16) (p137 : Vec F S16x128 .bf16) (p138 : Vec F S16x128 .bf16) (p139 : Vec F S16x128 .bf16) (p140 : Vec F S16x128 .bf16) (p141 : Vec F S16x128 .bf16) (p142 : Vec F S16x128 .bf16) (p143 : Vec F S16x128 .bf16) (p144 : Vec F S16x128 .bf16) (p145 : Vec F S16x128 .bf16) (p146 : Vec F S16x128 .bf16) (p147 : Vec F S16x128 .bf16) (p148 : Vec F S16x128 .bf16) (p149 : Vec F S16x128 .bf16) (p150 : Vec F S16x128 .bf16) (p151 : Vec F S16x128 .bf16) (p152 : Vec F S16x128 .bf16) (p153 : Vec F S16x128 .bf16) (p154 : Vec F S16x128 .bf16) (p155 : Vec F S16x128 .bf16) (p156 : Vec F S16x128 .bf16) (p157 : Vec F S16x128 .bf16) (p158 : Vec F S16x128 .bf16) (p159 : Vec F S16x128 .bf16) (y : S1280x256.Idx) :
    ∃ pc ∈ ([⟨r0_161, p0⟩, ⟨r0_160, p1⟩, ⟨r0_159, p2⟩, ⟨r0_158, p3⟩, ⟨r0_157, p4⟩, ⟨r0_156, p5⟩, ⟨r0_155, p6⟩, ⟨r0_154, p7⟩, ⟨r0_153, p8⟩, ⟨r0_152, p9⟩, ⟨r0_151, p10⟩, ⟨r0_150, p11⟩, ⟨r0_149, p12⟩, ⟨r0_148, p13⟩, ⟨r0_147, p14⟩, ⟨r0_146, p15⟩, ⟨r0_145, p16⟩, ⟨r0_144, p17⟩, ⟨r0_143, p18⟩, ⟨r0_142, p19⟩, ⟨r0_141, p20⟩, ⟨r0_140, p21⟩, ⟨r0_139, p22⟩, ⟨r0_138, p23⟩, ⟨r0_137, p24⟩, ⟨r0_136, p25⟩, ⟨r0_135, p26⟩, ⟨r0_134, p27⟩, ⟨r0_133, p28⟩, ⟨r0_132, p29⟩, ⟨r0_131, p30⟩, ⟨r0_130, p31⟩, ⟨r0_129, p32⟩, ⟨r0_128, p33⟩, ⟨r0_127, p34⟩, ⟨r0_126, p35⟩, ⟨r0_125, p36⟩, ⟨r0_124, p37⟩, ⟨r0_123, p38⟩, ⟨r0_122, p39⟩, ⟨r0_121, p40⟩, ⟨r0_120, p41⟩, ⟨r0_119, p42⟩, ⟨r0_118, p43⟩, ⟨r0_117, p44⟩, ⟨r0_116, p45⟩, ⟨r0_115, p46⟩, ⟨r0_114, p47⟩, ⟨r0_113, p48⟩, ⟨r0_112, p49⟩, ⟨r0_111, p50⟩, ⟨r0_110, p51⟩, ⟨r0_109, p52⟩, ⟨r0_108, p53⟩, ⟨r0_107, p54⟩, ⟨r0_106, p55⟩, ⟨r0_105, p56⟩, ⟨r0_104, p57⟩, ⟨r0_103, p58⟩, ⟨r0_102, p59⟩, ⟨r0_101, p60⟩, ⟨r0_100, p61⟩, ⟨r0_99, p62⟩, ⟨r0_98, p63⟩, ⟨r0_97, p64⟩, ⟨r0_96, p65⟩, ⟨r0_95, p66⟩, ⟨r0_94, p67⟩, ⟨r0_93, p68⟩, ⟨r0_92, p69⟩, ⟨r0_91, p70⟩, ⟨r0_90, p71⟩, ⟨r0_89, p72⟩, ⟨r0_88, p73⟩, ⟨r0_87, p74⟩, ⟨r0_86, p75⟩, ⟨r0_85, p76⟩, ⟨r0_84, p77⟩, ⟨r0_83, p78⟩, ⟨r0_82, p79⟩, ⟨r0_81, p80⟩, ⟨r0_80, p81⟩, ⟨r0_79, p82⟩, ⟨r0_78, p83⟩, ⟨r0_77, p84⟩, ⟨r0_76, p85⟩, ⟨r0_75, p86⟩, ⟨r0_74, p87⟩, ⟨r0_73, p88⟩, ⟨r0_72, p89⟩, ⟨r0_71, p90⟩, ⟨r0_70, p91⟩, ⟨r0_69, p92⟩, ⟨r0_68, p93⟩, ⟨r0_67, p94⟩, ⟨r0_66, p95⟩, ⟨r0_65, p96⟩, ⟨r0_64, p97⟩, ⟨r0_63, p98⟩, ⟨r0_62, p99⟩, ⟨r0_61, p100⟩, ⟨r0_60, p101⟩, ⟨r0_59, p102⟩, ⟨r0_58, p103⟩, ⟨r0_57, p104⟩, ⟨r0_56, p105⟩, ⟨r0_55, p106⟩, ⟨r0_54, p107⟩, ⟨r0_53, p108⟩, ⟨r0_52, p109⟩, ⟨r0_51, p110⟩, ⟨r0_50, p111⟩, ⟨r0_49, p112⟩, ⟨r0_48, p113⟩, ⟨r0_47, p114⟩, ⟨r0_46, p115⟩, ⟨r0_45, p116⟩, ⟨r0_44, p117⟩, ⟨r0_43, p118⟩, ⟨r0_42, p119⟩, ⟨r0_41, p120⟩, ⟨r0_40, p121⟩, ⟨r0_39, p122⟩, ⟨r0_38, p123⟩, ⟨r0_37, p124⟩, ⟨r0_36, p125⟩, ⟨r0_35, p126⟩, ⟨r0_34, p127⟩, ⟨r0_33, p128⟩, ⟨r0_32, p129⟩, ⟨r0_31, p130⟩, ⟨r0_30, p131⟩, ⟨r0_29, p132⟩, ⟨r0_28, p133⟩, ⟨r0_27, p134⟩, ⟨r0_26, p135⟩, ⟨r0_25, p136⟩, ⟨r0_24, p137⟩, ⟨r0_23, p138⟩, ⟨r0_22, p139⟩, ⟨r0_21, p140⟩, ⟨r0_20, p141⟩, ⟨r0_19, p142⟩, ⟨r0_18, p143⟩, ⟨r0_17, p144⟩, ⟨r0_16, p145⟩, ⟨r0_15, p146⟩, ⟨r0_14, p147⟩, ⟨r0_13, p148⟩, ⟨r0_12, p149⟩, ⟨r0_11, p150⟩, ⟨r0_10, p151⟩, ⟨r0_9, p152⟩, ⟨r0_8, p153⟩, ⟨r0_7, p154⟩, ⟨r0_6, p155⟩, ⟨r0_5, p156⟩, ⟨r0_4, p157⟩, ⟨r0_3, p158⟩, ⟨r0_2, p159⟩] : List (View.Piece (Elt F) S1280x256 .bf16)), y ∈ pc.1.set :=
  View.cover_of_tiled [⟨r0_161, p0⟩, ⟨r0_160, p1⟩, ⟨r0_159, p2⟩, ⟨r0_158, p3⟩, ⟨r0_157, p4⟩, ⟨r0_156, p5⟩, ⟨r0_155, p6⟩, ⟨r0_154, p7⟩, ⟨r0_153, p8⟩, ⟨r0_152, p9⟩, ⟨r0_151, p10⟩, ⟨r0_150, p11⟩, ⟨r0_149, p12⟩, ⟨r0_148, p13⟩, ⟨r0_147, p14⟩, ⟨r0_146, p15⟩, ⟨r0_145, p16⟩, ⟨r0_144, p17⟩, ⟨r0_143, p18⟩, ⟨r0_142, p19⟩, ⟨r0_141, p20⟩, ⟨r0_140, p21⟩, ⟨r0_139, p22⟩, ⟨r0_138, p23⟩, ⟨r0_137, p24⟩, ⟨r0_136, p25⟩, ⟨r0_135, p26⟩, ⟨r0_134, p27⟩, ⟨r0_133, p28⟩, ⟨r0_132, p29⟩, ⟨r0_131, p30⟩, ⟨r0_130, p31⟩, ⟨r0_129, p32⟩, ⟨r0_128, p33⟩, ⟨r0_127, p34⟩, ⟨r0_126, p35⟩, ⟨r0_125, p36⟩, ⟨r0_124, p37⟩, ⟨r0_123, p38⟩, ⟨r0_122, p39⟩, ⟨r0_121, p40⟩, ⟨r0_120, p41⟩, ⟨r0_119, p42⟩, ⟨r0_118, p43⟩, ⟨r0_117, p44⟩, ⟨r0_116, p45⟩, ⟨r0_115, p46⟩, ⟨r0_114, p47⟩, ⟨r0_113, p48⟩, ⟨r0_112, p49⟩, ⟨r0_111, p50⟩, ⟨r0_110, p51⟩, ⟨r0_109, p52⟩, ⟨r0_108, p53⟩, ⟨r0_107, p54⟩, ⟨r0_106, p55⟩, ⟨r0_105, p56⟩, ⟨r0_104, p57⟩, ⟨r0_103, p58⟩, ⟨r0_102, p59⟩, ⟨r0_101, p60⟩, ⟨r0_100, p61⟩, ⟨r0_99, p62⟩, ⟨r0_98, p63⟩, ⟨r0_97, p64⟩, ⟨r0_96, p65⟩, ⟨r0_95, p66⟩, ⟨r0_94, p67⟩, ⟨r0_93, p68⟩, ⟨r0_92, p69⟩, ⟨r0_91, p70⟩, ⟨r0_90, p71⟩, ⟨r0_89, p72⟩, ⟨r0_88, p73⟩, ⟨r0_87, p74⟩, ⟨r0_86, p75⟩, ⟨r0_85, p76⟩, ⟨r0_84, p77⟩, ⟨r0_83, p78⟩, ⟨r0_82, p79⟩, ⟨r0_81, p80⟩, ⟨r0_80, p81⟩, ⟨r0_79, p82⟩, ⟨r0_78, p83⟩, ⟨r0_77, p84⟩, ⟨r0_76, p85⟩, ⟨r0_75, p86⟩, ⟨r0_74, p87⟩, ⟨r0_73, p88⟩, ⟨r0_72, p89⟩, ⟨r0_71, p90⟩, ⟨r0_70, p91⟩, ⟨r0_69, p92⟩, ⟨r0_68, p93⟩, ⟨r0_67, p94⟩, ⟨r0_66, p95⟩, ⟨r0_65, p96⟩, ⟨r0_64, p97⟩, ⟨r0_63, p98⟩, ⟨r0_62, p99⟩, ⟨r0_61, p100⟩, ⟨r0_60, p101⟩, ⟨r0_59, p102⟩, ⟨r0_58, p103⟩, ⟨r0_57, p104⟩, ⟨r0_56, p105⟩, ⟨r0_55, p106⟩, ⟨r0_54, p107⟩, ⟨r0_53, p108⟩, ⟨r0_52, p109⟩, ⟨r0_51, p110⟩, ⟨r0_50, p111⟩, ⟨r0_49, p112⟩, ⟨r0_48, p113⟩, ⟨r0_47, p114⟩, ⟨r0_46, p115⟩, ⟨r0_45, p116⟩, ⟨r0_44, p117⟩, ⟨r0_43, p118⟩, ⟨r0_42, p119⟩, ⟨r0_41, p120⟩, ⟨r0_40, p121⟩, ⟨r0_39, p122⟩, ⟨r0_38, p123⟩, ⟨r0_37, p124⟩, ⟨r0_36, p125⟩, ⟨r0_35, p126⟩, ⟨r0_34, p127⟩, ⟨r0_33, p128⟩, ⟨r0_32, p129⟩, ⟨r0_31, p130⟩, ⟨r0_30, p131⟩, ⟨r0_29, p132⟩, ⟨r0_28, p133⟩, ⟨r0_27, p134⟩, ⟨r0_26, p135⟩, ⟨r0_25, p136⟩, ⟨r0_24, p137⟩, ⟨r0_23, p138⟩, ⟨r0_22, p139⟩, ⟨r0_21, p140⟩, ⟨r0_20, p141⟩, ⟨r0_19, p142⟩, ⟨r0_18, p143⟩, ⟨r0_17, p144⟩, ⟨r0_16, p145⟩, ⟨r0_15, p146⟩, ⟨r0_14, p147⟩, ⟨r0_13, p148⟩, ⟨r0_12, p149⟩, ⟨r0_11, p150⟩, ⟨r0_10, p151⟩, ⟨r0_9, p152⟩, ⟨r0_8, p153⟩, ⟨r0_7, p154⟩, ⟨r0_6, p155⟩, ⟨r0_5, p156⟩, ⟨r0_4, p157⟩, ⟨r0_3, p158⟩, ⟨r0_2, p159⟩] S16x128.size (by rfl) y

/-! ## The body's triple -/

set_option maxHeartbeats 1804000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S1280x128 .i8) (harg2 : arg2.IsWhole) (arg3 : Memref sig .tc .vmem S80x256 .fp8e4m3) (harg3 : arg3.IsWhole) (arg4 : Memref sig .tc .vmem S1280x256 .bf16) (harg4 : arg4.IsWhole)
    (x0 : Vec F S1280x128 .i8) (x1 : Vec F S80x256 .fp8e4m3) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0_decode i arg2 harg2 arg3 harg3 arg4 harg4) K := by
  simp only [cc0_decode_eq_skeleton]; unfold cc0_decode_skel
  simp only [k0_part63_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Gen

end
-- ==== Proof.Machine.Region1.lean ====
/- Region 1 of the program, the quantisation of the activations and the product: what its body computes (`quantCodes`, `quantAct`,
   `quantScale`, `rowScale`, `product`), the two triples of the body (first column of a row of the grid, later columns), the
   proof data with the scratch buffers tracked from one grid point to the next, and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.VecWindow
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the body computes -/

/-- The fp8 codes of a block of activations. -/
def quantCodes (x : Vec F S512x5120 .bf16) : Vec F S512x5120 .fp8e4m3 := k1_pay1 (k1_pay8 x) (Scalar.ofBits .f32 0x43E00000#32) k1_pay9
/-- The same codes as the product reads them, in bf16. -/
def quantAct (x : Vec F S512x5120 .bf16) : Vec F S512x5120 .bf16 := k1_pay2 (k1_pay8 x) (Scalar.ofBits .f32 0x43E00000#32) k1_pay9
/-- The scale of each row, as it is returned. -/
def quantScale (x : Vec F S512x5120 .bf16) : Vec F S512x1 .f32 := k1_pay3 (F := F) (k1_pay7 x)
/-- The scale of each row, as the product reads it. -/
def rowScale (x : Vec F S512x5120 .bf16) : Vec F S512x1 .f32 := k1_pay4 (F := F) (k1_pay7 x)
/-- One block of the product: the codes `a` times the weights `w`, scaled by the row scales `b` and the global scale. -/
def product (g : Vec F S1 .f32) (a : Vec F S512x5120 .bf16) (w : Vec F S5120x1280 .bf16) (b : Vec F S512x1 .f32) : Vec F S512x1280 .bf16 :=
  k1_pay5 a w b (g (Shape.Idx.first (Nat.lt_of_lt_of_eq Nat.one_pos numel1_S1.symm)))

/-- The body's one branch: taken at the first column of the grid. -/
abbrev cond1_0 (i : grid1.Coords) : Prop := k1_cond1 i = 1#1

/-- It is taken at every fourth point. -/
theorem hcond1_0 : ∀ t : Fin cfg1.N, cond1_0 (grid1.coords t) ↔ t.val % 4 = 0 :=
  (fun t => by
    have ht : t.val < 96 := Nat.lt_of_lt_of_eq t.isLt N_1
    have e0 : (grid1.coords t 0).val = t.val / 4 % 24 := Pipeline.Grid.coords_val t 0 (by decide) rfl
    have e1 : (grid1.coords t 1).val = t.val / 1 % 4 := Pipeline.Grid.coords_val t 1 (by decide) rfl
    simp only [cond1_0, k1_cond1, e0, e1]
    word_cmp
   : ∀ t : Fin grid1.N, cond1_0 (grid1.coords t) ↔ t.val % 4 = 0)

section Regions

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x5120 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5120x1280 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1280 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x5120 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S512x5120 .bf16 := Memref.whole cc1_scratch0
abbrev scM1_1 : Memref sig .tc .vmem S512x1 .f32 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- Equal arguments give equal values, for four arguments. -/
theorem congrArg₄ {α β γ δ ε : Sort _} (f : α → β → γ → δ → ε) {a a' : α} {b b' : β} {c c' : γ} {d d' : δ} (h1 : a = a') (h2 : b = b')
    (h3 : c = c') (h4 : d = d') : f a b c d = f a' b' c' d' := by subst h1 h2 h3 h4; rfl

-- (the run's proof term is large)
set_option maxHeartbeats 1000000 in
/-- The body at the first column: it quantises the block `x1`, keeps the codes and scales in the scratch buffers, and multiplies. -/
theorem run1_A (c : Dev nD) (i : grid1.Coords) (arg2 : Memref sig .tc .smem S1 .f32) (harg2 : arg2.IsWhole) (arg3 : Memref sig .tc .vmem S512x5120 .bf16) (harg3 : arg3.IsWhole) (arg4 : Memref sig .tc .vmem S5120x1280 .bf16) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S512x1 .f32) (harg7 : arg7.IsWhole) (arg8 : Memref sig .tc .vmem S512x5120 .bf16) (harg8 : arg8.IsWhole) (arg9 : Memref sig .tc .vmem S512x1 .f32) (harg9 : arg9.IsWhole) (hc0 : cond1_0 i)
    (x0 : Vec F S1 .f32) (x1 : Vec F S512x5120 .bf16) (x2 : Vec F S5120x1280 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare (product x0 (quantAct x1) x2 (rowScale x1)) ∗ owns (c : Thread nD τ) arg6 fullShare (quantCodes x1) ∗ owns (c : Thread nD τ) arg7 fullShare (quantScale x1) ∗ owns (c : Thread nD τ) arg8 fullShare (quantAct x1) ∗ owns (c : Thread nD τ) arg9 fullShare (rowScale x1)) -∗ K ⟨⟩))
      ⊢ wp frame (wpE (defs₀ (F := F)) Variants.none c none) E (cc1_quant_matmul i arg2 harg2 arg3 harg3 arg4 harg4 arg5 harg5 arg6 harg6 arg7 harg7 arg8 harg8 arg9 harg9) K := by
  simp only [cc1_quant_matmul_eq_skeleton]; unfold cc1_quant_matmul_skel
  simp only [k1_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
  obtain rfl := harg2.eq_unread hf0; obtain rfl := harg3.eq_unread hf1; obtain rfl := harg4.eq_unread hf2
  sl_exec (disch := first | sl_exact hc0)
  sl_step
  have ex : run1_A.sl.r c arg3 harg3 x1 = k1_pay7 x1 := congrArg k1_pay7 ((View.readAt_full _ _ _).trans hf1)
  have ex' : run1_A.sl.r_1 c arg3 harg3 x1 = k1_pay8 x1 := congrArg k1_pay8 ((View.readAt_full _ _ _).trans hf1)
  have e6 : k1_pay1 (run1_A.sl.r_1 c arg3 harg3 x1) run1_A.sl.cst_20 k1_pay9 = quantCodes (F := F) x1 := by rw [ex']; rfl
  have e8 : k1_pay2 (run1_A.sl.r_1 c arg3 harg3 x1) run1_A.sl.cst_20 k1_pay9 = quantAct (F := F) x1 := by rw [ex']; rfl
  have e7 : k1_pay3 (F := F) (run1_A.sl.r c arg3 harg3 x1) = quantScale x1 := by rw [ex]; rfl
  have e9 : k1_pay4 (F := F) (run1_A.sl.r c arg3 harg3 x1) = rowScale x1 := by rw [ex]; rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_full _ _ _ _ _).trans ?_
    unfold run1_A.sl.v3 run1_A.sl.v7 run1_A.sl.HS0_1 run1_A.sl.HS1_1
    exact congrArg₄ k1_pay5 ((View.readCov_full _ _ _ _ _).trans e8) ((View.readAt_full _ _ _).trans hf2) ((View.readCov_full _ _ _ _ _).trans e9)
      (congrFun ((View.readAt_full _ _ _).trans hf0) _)
  isplitl [H4]
  · iexists _; isplitr; swap; · iexact H4
    ipureintro
    exact (View.read_writes_full _ _ _ _ _).trans e6
  isplitl [H5]
  · iexists _; isplitr; swap; · iexact H5
    ipureintro
    exact (View.read_writes_full _ _ _ _ _).trans e7
  isplitl [HS0]
  · iexists _; isplitr; swap; · iexact HS0
    ipureintro
    exact (View.read_writes_full _ _ _ _ _).trans e8
  iexists _; isplitr; swap; · iexact HS1
  ipureintro
  exact (View.read_writes_full _ _ _ _ _).trans e9

set_option maxHeartbeats 1000000 in
/-- The body at a later column: it multiplies with the codes and scales the scratch buffers hold. -/
theorem run1_B (c : Dev nD) (i : grid1.Coords) (arg2 : Memref sig .tc .smem S1 .f32) (harg2 : arg2.IsWhole) (arg3 : Memref sig .tc .vmem S512x5120 .bf16) (harg3 : arg3.IsWhole) (arg4 : Memref sig .tc .vmem S5120x1280 .bf16) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S512x1 .f32) (harg7 : arg7.IsWhole) (arg8 : Memref sig .tc .vmem S512x5120 .bf16) (harg8 : arg8.IsWhole) (arg9 : Memref sig .tc .vmem S512x1 .f32) (harg9 : arg9.IsWhole) (hc0 : ¬cond1_0 i)
    (x0 : Vec F S1 .f32) (x1 : Vec F S512x5120 .bf16) (x2 : Vec F S5120x1280 .bf16) (a : Vec F S512x5120 .bf16) (b : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg8 fullShare a ∗ owns (c : Thread nD τ) arg9 fullShare b
        ∗ (iprop(owns (c : Thread nD τ) arg2 fullShare x0 ∗ owns (c : Thread nD τ) arg3 fullShare x1 ∗ owns (c : Thread nD τ) arg4 fullShare x2 ∗ owns (c : Thread nD τ) arg5 fullShare (product x0 a x2 b) ∗ owns (c : Thread nD τ) arg8 fullShare a ∗ owns (c : Thread nD τ) arg9 fullShare b) -∗ K ⟨⟩))
      ⊢ wp frame (wpE (defs₀ (F := F)) Variants.none c none) E (cc1_quant_matmul i arg2 harg2 arg3 harg3 arg4 harg4 arg5 harg5 arg6 harg6 arg7 harg7 arg8 harg8 arg9 harg9) K := by
  simp only [cc1_quant_matmul_eq_skeleton]; unfold cc1_quant_matmul_skel
  unfold owns
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, Hk⟩
  obtain rfl := harg2.eq_unread hf0; obtain rfl := harg3.eq_unread hf1; obtain rfl := harg4.eq_unread hf2
  obtain rfl := harg8.eq_unread hs0; obtain rfl := harg9.eq_unread hs1
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_full _ _ _ _ _).trans ?_
    exact congrArg₄ k1_pay5 ((View.readAt_full _ _ _).trans hs0) ((View.readAt_full _ _ _).trans hf2) ((View.readAt_full _ _ _).trans hs1)
      (congrFun ((View.readAt_full _ _ _).trans hf0) _)
  isplitl [HS0]
  · iexists _; isplitr; · ipureintro; exact harg8.read_unread _
    iexact HS0
  iexists _; isplitr; · ipureintro; exact harg9.read_unread _
  iexact HS1

/-! ## What stays from one point to the next -/

omit [FloatOps F] in
/-- An output window stored only at the first of every four points and written back at the last one is found, at the later
    points, as it is to be left there. -/
theorem before_carry {c : Dev nD} (dat : Dat τ (Elt F) Unit ℕ (UR sig nD τ) ℕ cfg1 c) (w : Fin cfg1.W) (hw : (cfg1.win w).isOut = true)
    (hclip : ∀ (i : cfg1.grid.Coords) a, (cfg1.win w).clip i a = none)
    (hflush : ∀ t : Fin cfg1.N, (cfg1.win w).flush t = true → t.val % 4 = 3)
    (hidle : ∀ t : Fin cfg1.N, cfg1.idle w (cfg1.grid.coords t) = true → t.val % 4 ≠ 0)
    (hafter : ∀ t : Fin cfg1.N, t.val % 4 ≠ 0 → dat.after w t = dat.after w ⟨t.val - 1, Nat.lt_of_le_of_lt (Nat.sub_le _ _) t.isLt⟩) :
    ∀ (n : ℕ) (t : Fin cfg1.N), t.val = n → t.val % 4 ≠ 0 → ∀ d, dat.before w t d = dat.after w t
  | 0, t, h, ht, d => absurd (by rw [h]) ht
  | n + 1, t, h, ht, d => by
    have hf : (cfg1.win w).flush ⟨t.val - 1, Nat.lt_of_le_of_lt (Nat.sub_le _ _) t.isLt⟩ = false :=
      Bool.eq_false_iff.mpr fun e => by have := hflush _ e; dsimp only at this; omega
    rw [dat.before_of_pos w t (by omega) ((cfg1.win w).fetch_out hw t), hf, if_neg Bool.false_ne_true, hafter t ht]
    unfold Dat.left
    split
    · next hi =>
      exact before_carry dat w hw hclip hflush hidle hafter n _ (by dsimp only; omega) (hidle _ hi) d
    · unfold Dat.kept
      rw [Pipeline.fill_of_clip_none w _ (hclip _) d (dat.after w _), Window.fill_cut]

omit [FloatOps F] in
/-- A buffer at the window's contents for the point is left as the obligation asks, if at an idle point these are what was found. -/
theorem leaves_of_after {c : Dev nD} (dat : Dat τ (Elt F) Unit ℕ (UR sig nD τ) ℕ cfg1 c) (w : Fin cfg1.W) (t : Fin cfg1.N) (d)
    (h : cfg1.idle w (cfg1.grid.coords t) = true → dat.before w t d = dat.after w t) :
    owns (c : Thread nD τ) ((cfg1.win w).stage (cfg1.slots t w)) fullShare (dat.after w t) ⊢ dat.leavesExact w t := by
  unfold Dat.leavesExact
  split
  · next hi =>
    split
    · rw [← h hi]; iintro H; iexists d; iexact H
    · exact .rfl
  · exact .rfl

/-- The invariant's buffers with the scratch at given contents. -/
def restAt1 (c : Dev nD) (a : Vec F S512x5120 .bf16) (b : Vec F S512x1 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare a ∗ owns (c : Thread nD τ) scM1_1 fullShare b) ∗ (∃ r, prngReg c r))

/-- The scratch buffers' contents are forgotten. -/
theorem restAt1_PhiA (c : Dev nD) (a : Vec F S512x5120 .bf16) (b : Vec F S512x1 .f32) : restAt1 c a b ⊢ (Pipeline.ΦA spec1 c : sProp 𝕄) := by
  rw [PhiA1_eq]; unfold restAt1
  iintro ⟨⟨HR0, HR1, HR2, HR3, HR4, HR5, HS0, HS1⟩, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    iexists _; iexact HS1
  iexact Hg

/-- The invariant before point `n`: at the first of every four points the scratch buffers hold anything, at the others the codes and
    scales of the block of the point before. -/
def PhiS1 (c : Dev nD) (n : ℕ) (h : n ≤ cfg1.N) : sProp 𝕄 :=
  if hn : n % 4 = 0 then Pipeline.ΦA spec1 c
  else restAt1 c (quantAct (iblk1 V c 1 ⟨n - 1, by omega⟩)) (rowScale (iblk1 V c 1 ⟨n - 1, by omega⟩))

theorem PhiS1_first (c : Dev nD) (n : ℕ) (h : n ≤ cfg1.N) (hn : n % 4 = 0) : PhiS1 V c n h = Pipeline.ΦA spec1 c := by
  unfold PhiS1; rw [dif_pos hn]

theorem PhiS1_later (c : Dev nD) (n : ℕ) (h : n ≤ cfg1.N) (hn : n % 4 ≠ 0) :
    PhiS1 V c n h = restAt1 c (quantAct (iblk1 V c 1 ⟨n - 1, by omega⟩)) (rowScale (iblk1 V c 1 ⟨n - 1, by omega⟩)) := by
  unfold PhiS1; rw [dif_neg hn]

/-- What a point leaves is the invariant before the next. -/
theorem PhiS1_next (c : Dev nD) (t : Fin cfg1.N) :
    restAt1 c (quantAct (iblk1 V c 1 t)) (rowScale (iblk1 V c 1 t)) ⊢ PhiS1 V c (t.val + 1) t.isLt := by
  by_cases hn : (t.val + 1) % 4 = 0
  · rw [PhiS1_first V c _ _ hn]; exact restAt1_PhiA c _ _
  · rw [PhiS1_later V c _ _ hn]; exact .rfl

/-! ## The pipeline's proof data -/

/-- The proof data of pipeline 1 on core `c`: the arrays as the region finds them (`V`); after the body at
    point `t` each input's buffer at its block and each output's at what the body computes from the blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => product (iblk1 V c 0 t) (quantAct (iblk1 V c 1 t)) (iblk1 V c 2 t) (rowScale (iblk1 V c 1 t))
    | ⟨4, _⟩ => quantCodes (iblk1 V c 1 t)
    | ⟨5, _⟩ => quantScale (iblk1 V c 1 t)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = product (iblk1 V c 0 t) (quantAct (iblk1 V c 1 t)) (iblk1 V c 2 t) (rowScale (iblk1 V c 1 t)) := by dsimp only [dat1]
theorem after1_4 (c : Dev nD) (t : Fin cfg1.N) : (dat1 V c).after 4 t = quantCodes (iblk1 V c 1 t) := by dsimp only [dat1]
theorem after1_5 (c : Dev nD) (t : Fin cfg1.N) : (dat1 V c).after 5 t = quantScale (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The block of activations changes only at the first of every four points. -/
theorem iblk1_1_keep (c : Dev nD) (t : Fin cfg1.N) (ht : t.val % 4 ≠ 0) :
    iblk1 V c 1 t = iblk1 V c 1 ⟨t.val - 1, Nat.lt_of_le_of_lt (Nat.sub_le _ _) t.isLt⟩ := by
  have d : (cfg1.win 1).block.Idx → Elt F (cfg1.win 1).elt := iblk1 V c 1 t
  rw [← before1_1 V c t d, (dat1 V c).before_unfetched_in 1 rfl t (Bool.eq_false_iff.mpr fun e => ht ((fetch1_1 t).mp e)) (fun _ => rfl) d]
  unfold Dat.kept
  rw [Pipeline.fill_of_clip_none 1 _ (fun _ => rfl) d ((dat1 V c).after 1 _), Window.fill_cut, after1_1]

/-- The outputs kept from the first column are found, at the later ones, as they are to be left. -/
theorem before1_4 (c : Dev nD) (t : Fin cfg1.N) (ht : t.val % 4 ≠ 0) (d) : (dat1 V c).before 4 t d = (dat1 V c).after 4 t :=
  before_carry (dat1 V c) 4 rfl (fun _ _ => rfl) (fun t => (flush1_4 t).mp) idle4 (fun t ht => by rw [after1_4, after1_4, iblk1_1_keep V c t ht]) t.val t rfl ht d
where
  /-- (idle points are later columns) -/
  idle4 (t : Fin cfg1.N) (h : cfg1.idle 4 (cfg1.grid.coords t) = true) : t.val % 4 ≠ 0 := fun e => by
    have hc : k1_cond1 (grid1.coords t) = 1#1 := (hcond1_0 t).mpr e
    have h' : (!(k1_cond1 (grid1.coords t) == 1#1)) = true := h
    rw [hc] at h'; exact absurd h' (by decide)
theorem before1_5 (c : Dev nD) (t : Fin cfg1.N) (ht : t.val % 4 ≠ 0) (d) : (dat1 V c).before 5 t d = (dat1 V c).after 5 t :=
  before_carry (dat1 V c) 5 rfl (fun _ _ => rfl) (fun t => (flush1_5 t).mp) before1_4.idle4 (fun t ht => by rw [after1_5, after1_5, iblk1_1_keep V c t ht]) t.val t rfl ht d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ (dat1 V c).leavesExact 4 t
    ∗ (dat1 V c).leavesExact 5 t)

theorem Phi1_castSucc (c : Dev nD) (t : Fin cfg1.N) : (dat1 V c).Φ t.castSucc = PhiS1 V c t.val (Nat.le_of_lt t.isLt) := by
  dsimp only [dat1]; exact Pipeline.Dat.Φ_castSucc (PhiS1 V c) t

theorem Phi1_succ (c : Dev nD) (t : Fin cfg1.N) : (dat1 V c).Φ t.succ = PhiS1 V c (t.val + 1) t.isLt := by
  dsimp only [dat1]; exact at_succ (PhiS1 V c) t
where
  /-- (at a variable bound) -/
  at_succ {α : Sort _} {N : Nat} (S : (n : Nat) → n ≤ N → α) (t : Fin N) :
    S (Fin.succ t).val (Nat.le_of_lt_succ (Fin.succ t).isLt) = S (t.val + 1) t.isLt := rfl

/-- After the last point the scratch buffers hold anything. -/
theorem Phi1_last (c : Dev nD) : (dat1 V c).Φ (Fin.last cfg1.N) = Pipeline.ΦA spec1 c := by
  dsimp only [dat1]
  exact (at_last (PhiS1 V c)).trans (PhiS1_first V c _ _ (by show grid1.N % 4 = 0; rw [N_1]))
where
  /-- (at a variable bound) -/
  at_last {α : Sort _} {N : Nat} (S : (n : Nat) → n ≤ N → α) : S (Fin.last N).val (Nat.le_of_lt_succ (Fin.last N).isLt) = S N (Nat.le_refl N) := rfl

/-- Before the first point as well. -/
theorem Phi1_zero (c : Dev nD) : (dat1 V c).Φ 0 = Pipeline.ΦA spec1 c := by
  dsimp only [dat1]
  exact PhiS1_first V c _ _ rfl

set_option maxHeartbeats 800000 in
/-- The body at the first of every four points. -/
theorem sound_body1_A (c : Dev nD) (t : Fin cfg1.N) (ht : t.val % 4 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl, after1_0, after1_1, after1_2, after1_3,
    Phi1_castSucc, Phi1_succ, PhiS1_first V c _ _ ht, PhiA1_eq]
  have hi : ∀ d, cfg1.idle 4 (cfg1.grid.coords t) = true → (dat1 V c).before 4 t d = (dat1 V c).after 4 t := fun d h =>
    absurd ht (before1_4.idle4 t h)
  have hi' : ∀ d, cfg1.idle 5 (cfg1.grid.coords t) = true → (dat1 V c).before 5 t d = (dat1 V c).after 5 t := fun d h =>
    absurd ht (before1_4.idle4 t h)
  iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩⟩
  iapply (run1_A c (grid1.coords t) _ _ _ _ _ _ _ _ _ _ _ _ _ _ _ _ ((hcond1_0 t).mpr ht) (iblk1 V c 0 t) (iblk1 V c 1 t) (iblk1 V c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HR0 HR1 HR2 HR3 HR4 HR5 HS0 HS1 Hg]
  · iapply (PhiS1_next V c t)
    unfold restAt1
    isplitr [Hg]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]
  · iapply (leaves_of_after (dat1 V c) 4 t d4 (hi d4))
    rw [after1_4]; iexact H4
  iapply (leaves_of_after (dat1 V c) 5 t d5 (hi' d5))
  rw [after1_5]; iexact H5

set_option maxHeartbeats 800000 in
/-- The body at the other points. -/
theorem sound_body1_B (c : Dev nD) (t : Fin cfg1.N) (ht : t.val % 4 ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_4 V c t ht, before1_5 V c t ht]
  rw [show (dat1 V c).owesAt () t.succ = (dat1 V c).owesAt () t.castSucc from rfl, after1_0, after1_1, after1_2, after1_3,
    Phi1_castSucc, Phi1_succ, PhiS1_later V c _ _ ht, ← iblk1_1_keep V c t ht]
  unfold restAt1
  iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩⟩
  iapply (run1_B c (grid1.coords t) _ _ _ _ _ _ _ _ _ (hs1_4 t) _ (hs1_5 t) _ _ _ _ (fun h => ht ((hcond1_0 t).mp h)) (iblk1 V c 0 t) (iblk1 V c 1 t) (iblk1 V c 2 t)
    (quantAct (iblk1 V c 1 t)) (rowScale (iblk1 V c 1 t)) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HR0 HR1 HR2 HR3 HR4 HR5 HS0 HS1 Hg]
  · iapply (PhiS1_next V c t)
    unfold restAt1
    isplitr [Hg]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]
  · iapply (leaves_of_after (dat1 V c) 4 t d4 (fun _ => before1_4 V c t ht d4))
    iexact H4
  iapply (leaves_of_after (dat1 V c) 5 t d5 (fun _ => before1_5 V c t ht d5))
  iexact H5

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  by_cases ht : t.val % 4 = 0
  · exact sound_body1_A V c t ht
  · exact sound_body1_B V c t ht

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Gen

end
-- ==== Proof.Machine.Run.lean ====
/- The run of the whole program: the contents of the buffers between its three segments (the decoder, the host reshapes, the
   product), the segments as the library's records, and the run: it terminates, the arguments end as launched, every counter
   ends at zero, and each result array ends as the second region's write-backs leave it. The text follows the generated
   certificates. -/
module

public import proofs.«01_k».proof.Proof.Machine.Region0
public import proofs.«01_k».proof.Proof.Machine.Region1

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1, main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1_zero (V2 m ρ) c]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from Phi1_last (V2 m ρ) c]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: at the compiled mesh, from any memory with zero counters, every weakly fair execution of @main terminates, nothing
    faulting, and every final state has the result arrays at the second region's write-backs, the argument arrays as launched and
    every semaphore counter at zero. -/
theorem runs : θ_run defs (onTc (τ := τ) (main (F := F))) ⟨m, fun _ => 0, ρ⟩ (fun r => (∀ c : Dev nD,
      r.2.mem ((c.tc : Thread nD τ).loc main_v3_0) = (dat1 (V2 m ρ) c).arrAt 3 cfg1.N
      ∧ r.2.mem ((c.tc : Thread nD τ).loc main_v3_1) = (dat1 (V2 m ρ) c).arrAt 4 cfg1.N
      ∧ r.2.mem ((c.tc : Thread nD τ).loc main_v3_2) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_v3_0 (by decide))).trans (W3_arr m ρ c 3),
       (h c _ (mem_uc main_v3_1 (by decide))).trans (W3_arr m ρ c 4),
       (h c _ (mem_uc main_v3_2 (by decide))).trans (W3_arr m ρ c 5),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩), funext fun g => hz g (.inr (no_unscoped g.2))⟩)

/-- The frame: the run without the results. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2.2, h.2⟩) (runs m ρ)

end Cert.Kernel.Gen

end
-- ==== Proof.Ideal.Region0.lean ====
/- Region 0 of the program, the decoder of the packed weights: what its body leaves in the output block (`out0_2`), the
   body's triple, the proof data at any entry contents, and the body obligation. The text follows the generated
   certificates of one-kernel programs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_decode` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1280x128 := Rect.unit (s := S1280x128) ![0, 0] S1280x128.size inb_S1280x128_S1280x128_0_0
abbrev r0_1 : Rect S80x256 := Rect.unit (s := S80x256) ![0, 0] S80x256.size inb_S80x256_S80x256_0_0
abbrev r0_2 : Rect S1280x256 := Rect.unit (s := S1280x256) ![0, 0] S16x128.size inb_S1280x256_S16x128_0_0
abbrev r0_3 : Rect S1280x256 := Rect.unit (s := S1280x256) ![16, 0] S16x128.size inb_S1280x256_S16x128_16_0
abbrev r0_4 : Rect S1280x256 := Rect.unit (s := S1280x256) ![0, 128] S16x128.size inb_S1280x256_S16x128_0_128
abbrev r0_5 : Rect S1280x256 := Rect.unit (s := S1280x256) ![16, 128] S16x128.size inb_S1280x256_S16x128_16_128
abbrev r0_6 : Rect S1280x256 := Rect.unit (s := S1280x256) ![32, 0] S16x128.size inb_S1280x256_S16x128_32_0
abbrev r0_7 : Rect S1280x256 := Rect.unit (s := S1280x256) ![48, 0] S16x128.size inb_S1280x256_S16x128_48_0
abbrev r0_8 : Rect S1280x256 := Rect.unit (s := S1280x256) ![32, 128] S16x128.size inb_S1280x256_S16x128_32_128
abbrev r0_9 : Rect S1280x256 := Rect.unit (s := S1280x256) ![48, 128] S16x128.size inb_S1280x256_S16x128_48_128
abbrev r0_10 : Rect S1280x256 := Rect.unit (s := S1280x256) ![64, 0] S16x128.size inb_S1280x256_S16x128_64_0
abbrev r0_11 : Rect S1280x256 := Rect.unit (s := S1280x256) ![80, 0] S16x128.size inb_S1280x256_S16x128_80_0
abbrev r0_12 : Rect S1280x256 := Rect.unit (s := S1280x256) ![64, 128] S16x128.size inb_S1280x256_S16x128_64_128
abbrev r0_13 : Rect S1280x256 := Rect.unit (s := S1280x256) ![80, 128] S16x128.size inb_S1280x256_S16x128_80_128
abbrev r0_14 : Rect S1280x256 := Rect.unit (s := S1280x256) ![96, 0] S16x128.size inb_S1280x256_S16x128_96_0
abbrev r0_15 : Rect S1280x256 := Rect.unit (s := S1280x256) ![112, 0] S16x128.size inb_S1280x256_S16x128_112_0
abbrev r0_16 : Rect S1280x256 := Rect.unit (s := S1280x256) ![96, 128] S16x128.size inb_S1280x256_S16x128_96_128
abbrev r0_17 : Rect S1280x256 := Rect.unit (s := S1280x256) ![112, 128] S16x128.size inb_S1280x256_S16x128_112_128
abbrev r0_18 : Rect S1280x256 := Rect.unit (s := S1280x256) ![128, 0] S16x128.size inb_S1280x256_S16x128_128_0
abbrev r0_19 : Rect S1280x256 := Rect.unit (s := S1280x256) ![144, 0] S16x128.size inb_S1280x256_S16x128_144_0
abbrev r0_20 : Rect S1280x256 := Rect.unit (s := S1280x256) ![128, 128] S16x128.size inb_S1280x256_S16x128_128_128
abbrev r0_21 : Rect S1280x256 := Rect.unit (s := S1280x256) ![144, 128] S16x128.size inb_S1280x256_S16x128_144_128
abbrev r0_22 : Rect S1280x256 := Rect.unit (s := S1280x256) ![160, 0] S16x128.size inb_S1280x256_S16x128_160_0
abbrev r0_23 : Rect S1280x256 := Rect.unit (s := S1280x256) ![176, 0] S16x128.size inb_S1280x256_S16x128_176_0
abbrev r0_24 : Rect S1280x256 := Rect.unit (s := S1280x256) ![160, 128] S16x128.size inb_S1280x256_S16x128_160_128
abbrev r0_25 : Rect S1280x256 := Rect.unit (s := S1280x256) ![176, 128] S16x128.size inb_S1280x256_S16x128_176_128
abbrev r0_26 : Rect S1280x256 := Rect.unit (s := S1280x256) ![192, 0] S16x128.size inb_S1280x256_S16x128_192_0
abbrev r0_27 : Rect S1280x256 := Rect.unit (s := S1280x256) ![208, 0] S16x128.size inb_S1280x256_S16x128_208_0
abbrev r0_28 : Rect S1280x256 := Rect.unit (s := S1280x256) ![192, 128] S16x128.size inb_S1280x256_S16x128_192_128
abbrev r0_29 : Rect S1280x256 := Rect.unit (s := S1280x256) ![208, 128] S16x128.size inb_S1280x256_S16x128_208_128
abbrev r0_30 : Rect S1280x256 := Rect.unit (s := S1280x256) ![224, 0] S16x128.size inb_S1280x256_S16x128_224_0
abbrev r0_31 : Rect S1280x256 := Rect.unit (s := S1280x256) ![240, 0] S16x128.size inb_S1280x256_S16x128_240_0
abbrev r0_32 : Rect S1280x256 := Rect.unit (s := S1280x256) ![224, 128] S16x128.size inb_S1280x256_S16x128_224_128
abbrev r0_33 : Rect S1280x256 := Rect.unit (s := S1280x256) ![240, 128] S16x128.size inb_S1280x256_S16x128_240_128
abbrev r0_34 : Rect S1280x256 := Rect.unit (s := S1280x256) ![256, 0] S16x128.size inb_S1280x256_S16x128_256_0
abbrev r0_35 : Rect S1280x256 := Rect.unit (s := S1280x256) ![272, 0] S16x128.size inb_S1280x256_S16x128_272_0
abbrev r0_36 : Rect S1280x256 := Rect.unit (s := S1280x256) ![256, 128] S16x128.size inb_S1280x256_S16x128_256_128
abbrev r0_37 : Rect S1280x256 := Rect.unit (s := S1280x256) ![272, 128] S16x128.size inb_S1280x256_S16x128_272_128
abbrev r0_38 : Rect S1280x256 := Rect.unit (s := S1280x256) ![288, 0] S16x128.size inb_S1280x256_S16x128_288_0
abbrev r0_39 : Rect S1280x256 := Rect.unit (s := S1280x256) ![304, 0] S16x128.size inb_S1280x256_S16x128_304_0
abbrev r0_40 : Rect S1280x256 := Rect.unit (s := S1280x256) ![288, 128] S16x128.size inb_S1280x256_S16x128_288_128
abbrev r0_41 : Rect S1280x256 := Rect.unit (s := S1280x256) ![304, 128] S16x128.size inb_S1280x256_S16x128_304_128
abbrev r0_42 : Rect S1280x256 := Rect.unit (s := S1280x256) ![320, 0] S16x128.size inb_S1280x256_S16x128_320_0
abbrev r0_43 : Rect S1280x256 := Rect.unit (s := S1280x256) ![336, 0] S16x128.size inb_S1280x256_S16x128_336_0
abbrev r0_44 : Rect S1280x256 := Rect.unit (s := S1280x256) ![320, 128] S16x128.size inb_S1280x256_S16x128_320_128
abbrev r0_45 : Rect S1280x256 := Rect.unit (s := S1280x256) ![336, 128] S16x128.size inb_S1280x256_S16x128_336_128
abbrev r0_46 : Rect S1280x256 := Rect.unit (s := S1280x256) ![352, 0] S16x128.size inb_S1280x256_S16x128_352_0
abbrev r0_47 : Rect S1280x256 := Rect.unit (s := S1280x256) ![368, 0] S16x128.size inb_S1280x256_S16x128_368_0
abbrev r0_48 : Rect S1280x256 := Rect.unit (s := S1280x256) ![352, 128] S16x128.size inb_S1280x256_S16x128_352_128
abbrev r0_49 : Rect S1280x256 := Rect.unit (s := S1280x256) ![368, 128] S16x128.size inb_S1280x256_S16x128_368_128
abbrev r0_50 : Rect S1280x256 := Rect.unit (s := S1280x256) ![384, 0] S16x128.size inb_S1280x256_S16x128_384_0
abbrev r0_51 : Rect S1280x256 := Rect.unit (s := S1280x256) ![400, 0] S16x128.size inb_S1280x256_S16x128_400_0
abbrev r0_52 : Rect S1280x256 := Rect.unit (s := S1280x256) ![384, 128] S16x128.size inb_S1280x256_S16x128_384_128
abbrev r0_53 : Rect S1280x256 := Rect.unit (s := S1280x256) ![400, 128] S16x128.size inb_S1280x256_S16x128_400_128
abbrev r0_54 : Rect S1280x256 := Rect.unit (s := S1280x256) ![416, 0] S16x128.size inb_S1280x256_S16x128_416_0
abbrev r0_55 : Rect S1280x256 := Rect.unit (s := S1280x256) ![432, 0] S16x128.size inb_S1280x256_S16x128_432_0
abbrev r0_56 : Rect S1280x256 := Rect.unit (s := S1280x256) ![416, 128] S16x128.size inb_S1280x256_S16x128_416_128
abbrev r0_57 : Rect S1280x256 := Rect.unit (s := S1280x256) ![432, 128] S16x128.size inb_S1280x256_S16x128_432_128
abbrev r0_58 : Rect S1280x256 := Rect.unit (s := S1280x256) ![448, 0] S16x128.size inb_S1280x256_S16x128_448_0
abbrev r0_59 : Rect S1280x256 := Rect.unit (s := S1280x256) ![464, 0] S16x128.size inb_S1280x256_S16x128_464_0
abbrev r0_60 : Rect S1280x256 := Rect.unit (s := S1280x256) ![448, 128] S16x128.size inb_S1280x256_S16x128_448_128
abbrev r0_61 : Rect S1280x256 := Rect.unit (s := S1280x256) ![464, 128] S16x128.size inb_S1280x256_S16x128_464_128
abbrev r0_62 : Rect S1280x256 := Rect.unit (s := S1280x256) ![480, 0] S16x128.size inb_S1280x256_S16x128_480_0
abbrev r0_63 : Rect S1280x256 := Rect.unit (s := S1280x256) ![496, 0] S16x128.size inb_S1280x256_S16x128_496_0
abbrev r0_64 : Rect S1280x256 := Rect.unit (s := S1280x256) ![480, 128] S16x128.size inb_S1280x256_S16x128_480_128
abbrev r0_65 : Rect S1280x256 := Rect.unit (s := S1280x256) ![496, 128] S16x128.size inb_S1280x256_S16x128_496_128
abbrev r0_66 : Rect S1280x256 := Rect.unit (s := S1280x256) ![512, 0] S16x128.size inb_S1280x256_S16x128_512_0
abbrev r0_67 : Rect S1280x256 := Rect.unit (s := S1280x256) ![528, 0] S16x128.size inb_S1280x256_S16x128_528_0
abbrev r0_68 : Rect S1280x256 := Rect.unit (s := S1280x256) ![512, 128] S16x128.size inb_S1280x256_S16x128_512_128
abbrev r0_69 : Rect S1280x256 := Rect.unit (s := S1280x256) ![528, 128] S16x128.size inb_S1280x256_S16x128_528_128
abbrev r0_70 : Rect S1280x256 := Rect.unit (s := S1280x256) ![544, 0] S16x128.size inb_S1280x256_S16x128_544_0
abbrev r0_71 : Rect S1280x256 := Rect.unit (s := S1280x256) ![560, 0] S16x128.size inb_S1280x256_S16x128_560_0
abbrev r0_72 : Rect S1280x256 := Rect.unit (s := S1280x256) ![544, 128] S16x128.size inb_S1280x256_S16x128_544_128
abbrev r0_73 : Rect S1280x256 := Rect.unit (s := S1280x256) ![560, 128] S16x128.size inb_S1280x256_S16x128_560_128
abbrev r0_74 : Rect S1280x256 := Rect.unit (s := S1280x256) ![576, 0] S16x128.size inb_S1280x256_S16x128_576_0
abbrev r0_75 : Rect S1280x256 := Rect.unit (s := S1280x256) ![592, 0] S16x128.size inb_S1280x256_S16x128_592_0
abbrev r0_76 : Rect S1280x256 := Rect.unit (s := S1280x256) ![576, 128] S16x128.size inb_S1280x256_S16x128_576_128
abbrev r0_77 : Rect S1280x256 := Rect.unit (s := S1280x256) ![592, 128] S16x128.size inb_S1280x256_S16x128_592_128
abbrev r0_78 : Rect S1280x256 := Rect.unit (s := S1280x256) ![608, 0] S16x128.size inb_S1280x256_S16x128_608_0
abbrev r0_79 : Rect S1280x256 := Rect.unit (s := S1280x256) ![624, 0] S16x128.size inb_S1280x256_S16x128_624_0
abbrev r0_80 : Rect S1280x256 := Rect.unit (s := S1280x256) ![608, 128] S16x128.size inb_S1280x256_S16x128_608_128
abbrev r0_81 : Rect S1280x256 := Rect.unit (s := S1280x256) ![624, 128] S16x128.size inb_S1280x256_S16x128_624_128
abbrev r0_82 : Rect S1280x256 := Rect.unit (s := S1280x256) ![640, 0] S16x128.size inb_S1280x256_S16x128_640_0
abbrev r0_83 : Rect S1280x256 := Rect.unit (s := S1280x256) ![656, 0] S16x128.size inb_S1280x256_S16x128_656_0
abbrev r0_84 : Rect S1280x256 := Rect.unit (s := S1280x256) ![640, 128] S16x128.size inb_S1280x256_S16x128_640_128
abbrev r0_85 : Rect S1280x256 := Rect.unit (s := S1280x256) ![656, 128] S16x128.size inb_S1280x256_S16x128_656_128
abbrev r0_86 : Rect S1280x256 := Rect.unit (s := S1280x256) ![672, 0] S16x128.size inb_S1280x256_S16x128_672_0
abbrev r0_87 : Rect S1280x256 := Rect.unit (s := S1280x256) ![688, 0] S16x128.size inb_S1280x256_S16x128_688_0
abbrev r0_88 : Rect S1280x256 := Rect.unit (s := S1280x256) ![672, 128] S16x128.size inb_S1280x256_S16x128_672_128
abbrev r0_89 : Rect S1280x256 := Rect.unit (s := S1280x256) ![688, 128] S16x128.size inb_S1280x256_S16x128_688_128
abbrev r0_90 : Rect S1280x256 := Rect.unit (s := S1280x256) ![704, 0] S16x128.size inb_S1280x256_S16x128_704_0
abbrev r0_91 : Rect S1280x256 := Rect.unit (s := S1280x256) ![720, 0] S16x128.size inb_S1280x256_S16x128_720_0
abbrev r0_92 : Rect S1280x256 := Rect.unit (s := S1280x256) ![704, 128] S16x128.size inb_S1280x256_S16x128_704_128
abbrev r0_93 : Rect S1280x256 := Rect.unit (s := S1280x256) ![720, 128] S16x128.size inb_S1280x256_S16x128_720_128
abbrev r0_94 : Rect S1280x256 := Rect.unit (s := S1280x256) ![736, 0] S16x128.size inb_S1280x256_S16x128_736_0
abbrev r0_95 : Rect S1280x256 := Rect.unit (s := S1280x256) ![752, 0] S16x128.size inb_S1280x256_S16x128_752_0
abbrev r0_96 : Rect S1280x256 := Rect.unit (s := S1280x256) ![736, 128] S16x128.size inb_S1280x256_S16x128_736_128
abbrev r0_97 : Rect S1280x256 := Rect.unit (s := S1280x256) ![752, 128] S16x128.size inb_S1280x256_S16x128_752_128
abbrev r0_98 : Rect S1280x256 := Rect.unit (s := S1280x256) ![768, 0] S16x128.size inb_S1280x256_S16x128_768_0
abbrev r0_99 : Rect S1280x256 := Rect.unit (s := S1280x256) ![784, 0] S16x128.size inb_S1280x256_S16x128_784_0
abbrev r0_100 : Rect S1280x256 := Rect.unit (s := S1280x256) ![768, 128] S16x128.size inb_S1280x256_S16x128_768_128
abbrev r0_101 : Rect S1280x256 := Rect.unit (s := S1280x256) ![784, 128] S16x128.size inb_S1280x256_S16x128_784_128
abbrev r0_102 : Rect S1280x256 := Rect.unit (s := S1280x256) ![800, 0] S16x128.size inb_S1280x256_S16x128_800_0
abbrev r0_103 : Rect S1280x256 := Rect.unit (s := S1280x256) ![816, 0] S16x128.size inb_S1280x256_S16x128_816_0
abbrev r0_104 : Rect S1280x256 := Rect.unit (s := S1280x256) ![800, 128] S16x128.size inb_S1280x256_S16x128_800_128
abbrev r0_105 : Rect S1280x256 := Rect.unit (s := S1280x256) ![816, 128] S16x128.size inb_S1280x256_S16x128_816_128
abbrev r0_106 : Rect S1280x256 := Rect.unit (s := S1280x256) ![832, 0] S16x128.size inb_S1280x256_S16x128_832_0
abbrev r0_107 : Rect S1280x256 := Rect.unit (s := S1280x256) ![848, 0] S16x128.size inb_S1280x256_S16x128_848_0
abbrev r0_108 : Rect S1280x256 := Rect.unit (s := S1280x256) ![832, 128] S16x128.size inb_S1280x256_S16x128_832_128
abbrev r0_109 : Rect S1280x256 := Rect.unit (s := S1280x256) ![848, 128] S16x128.size inb_S1280x256_S16x128_848_128
abbrev r0_110 : Rect S1280x256 := Rect.unit (s := S1280x256) ![864, 0] S16x128.size inb_S1280x256_S16x128_864_0
abbrev r0_111 : Rect S1280x256 := Rect.unit (s := S1280x256) ![880, 0] S16x128.size inb_S1280x256_S16x128_880_0
abbrev r0_112 : Rect S1280x256 := Rect.unit (s := S1280x256) ![864, 128] S16x128.size inb_S1280x256_S16x128_864_128
abbrev r0_113 : Rect S1280x256 := Rect.unit (s := S1280x256) ![880, 128] S16x128.size inb_S1280x256_S16x128_880_128
abbrev r0_114 : Rect S1280x256 := Rect.unit (s := S1280x256) ![896, 0] S16x128.size inb_S1280x256_S16x128_896_0
abbrev r0_115 : Rect S1280x256 := Rect.unit (s := S1280x256) ![912, 0] S16x128.size inb_S1280x256_S16x128_912_0
abbrev r0_116 : Rect S1280x256 := Rect.unit (s := S1280x256) ![896, 128] S16x128.size inb_S1280x256_S16x128_896_128
abbrev r0_117 : Rect S1280x256 := Rect.unit (s := S1280x256) ![912, 128] S16x128.size inb_S1280x256_S16x128_912_128
abbrev r0_118 : Rect S1280x256 := Rect.unit (s := S1280x256) ![928, 0] S16x128.size inb_S1280x256_S16x128_928_0
abbrev r0_119 : Rect S1280x256 := Rect.unit (s := S1280x256) ![944, 0] S16x128.size inb_S1280x256_S16x128_944_0
abbrev r0_120 : Rect S1280x256 := Rect.unit (s := S1280x256) ![928, 128] S16x128.size inb_S1280x256_S16x128_928_128
abbrev r0_121 : Rect S1280x256 := Rect.unit (s := S1280x256) ![944, 128] S16x128.size inb_S1280x256_S16x128_944_128
abbrev r0_122 : Rect S1280x256 := Rect.unit (s := S1280x256) ![960, 0] S16x128.size inb_S1280x256_S16x128_960_0
abbrev r0_123 : Rect S1280x256 := Rect.unit (s := S1280x256) ![976, 0] S16x128.size inb_S1280x256_S16x128_976_0
abbrev r0_124 : Rect S1280x256 := Rect.unit (s := S1280x256) ![960, 128] S16x128.size inb_S1280x256_S16x128_960_128
abbrev r0_125 : Rect S1280x256 := Rect.unit (s := S1280x256) ![976, 128] S16x128.size inb_S1280x256_S16x128_976_128
abbrev r0_126 : Rect S1280x256 := Rect.unit (s := S1280x256) ![992, 0] S16x128.size inb_S1280x256_S16x128_992_0
abbrev r0_127 : Rect S1280x256 := Rect.unit (s := S1280x256) ![1008, 0] S16x128.size inb_S1280x256_S16x128_1008_0
abbrev r0_128 : Rect S1280x256 := Rect.unit (s := S1280x256) ![992, 128] S16x128.size inb_S1280x256_S16x128_992_128
abbrev r0_129 : Rect S1280x256 := Rect.unit (s := S1280x256) ![1008, 128] S16x128.size inb_S1280x256_S16x128_1008_128
abbrev r0_130 : Rect S1280x256 := Rect.unit (s := S1280x256) ![1024, 0] S16x128.size inb_S1280x256_S16x128_1024_0
abbrev r0_131 : Rect S1280x256 := Rect.unit (s := S1280x256) ![1040, 0] S16x128.size inb_S1280x256_S16x128_1040_0
abbrev r0_132 : Rect S1280x256 := Rect.unit (s := S1280x256) ![1024, 128] S16x128.size inb_S1280x256_S16x128_1024_128
abbrev r0_133 : Rect S1280x256 := Rect.unit (s := S1280x256) ![1040, 128] S16x128.size inb_S1280x256_S16x128_1040_128
abbrev r0_134 : Rect S1280x256 := Rect.unit (s := S1280x256) ![1056, 0] S16x128.size inb_S1280x256_S16x128_1056_0
abbrev r0_135 : Rect S1280x256 := Rect.unit (s := S1280x256) ![1072, 0] S16x128.size inb_S1280x256_S16x128_1072_0
abbrev r0_136 : Rect S1280x256 := Rect.unit (s := S1280x256) ![1056, 128] S16x128.size inb_S1280x256_S16x128_1056_128
abbrev r0_137 : Rect S1280x256 := Rect.unit (s := S1280x256) ![1072, 128] S16x128.size inb_S1280x256_S16x128_1072_128
abbrev r0_138 : Rect S1280x256 := Rect.unit (s := S1280x256) ![1088, 0] S16x128.size inb_S1280x256_S16x128_1088_0
abbrev r0_139 : Rect S1280x256 := Rect.unit (s := S1280x256) ![1104, 0] S16x128.size inb_S1280x256_S16x128_1104_0
abbrev r0_140 : Rect S1280x256 := Rect.unit (s := S1280x256) ![1088, 128] S16x128.size inb_S1280x256_S16x128_1088_128
abbrev r0_141 : Rect S1280x256 := Rect.unit (s := S1280x256) ![1104, 128] S16x128.size inb_S1280x256_S16x128_1104_128
abbrev r0_142 : Rect S1280x256 := Rect.unit (s := S1280x256) ![1120, 0] S16x128.size inb_S1280x256_S16x128_1120_0
abbrev r0_143 : Rect S1280x256 := Rect.unit (s := S1280x256) ![1136, 0] S16x128.size inb_S1280x256_S16x128_1136_0
abbrev r0_144 : Rect S1280x256 := Rect.unit (s := S1280x256) ![1120, 128] S16x128.size inb_S1280x256_S16x128_1120_128
abbrev r0_145 : Rect S1280x256 := Rect.unit (s := S1280x256) ![1136, 128] S16x128.size inb_S1280x256_S16x128_1136_128
abbrev r0_146 : Rect S1280x256 := Rect.unit (s := S1280x256) ![1152, 0] S16x128.size inb_S1280x256_S16x128_1152_0
abbrev r0_147 : Rect S1280x256 := Rect.unit (s := S1280x256) ![1168, 0] S16x128.size inb_S1280x256_S16x128_1168_0
abbrev r0_148 : Rect S1280x256 := Rect.unit (s := S1280x256) ![1152, 128] S16x128.size inb_S1280x256_S16x128_1152_128
abbrev r0_149 : Rect S1280x256 := Rect.unit (s := S1280x256) ![1168, 128] S16x128.size inb_S1280x256_S16x128_1168_128
abbrev r0_150 : Rect S1280x256 := Rect.unit (s := S1280x256) ![1184, 0] S16x128.size inb_S1280x256_S16x128_1184_0
abbrev r0_151 : Rect S1280x256 := Rect.unit (s := S1280x256) ![1200, 0] S16x128.size inb_S1280x256_S16x128_1200_0
abbrev r0_152 : Rect S1280x256 := Rect.unit (s := S1280x256) ![1184, 128] S16x128.size inb_S1280x256_S16x128_1184_128
abbrev r0_153 : Rect S1280x256 := Rect.unit (s := S1280x256) ![1200, 128] S16x128.size inb_S1280x256_S16x128_1200_128
abbrev r0_154 : Rect S1280x256 := Rect.unit (s := S1280x256) ![1216, 0] S16x128.size inb_S1280x256_S16x128_1216_0
abbrev r0_155 : Rect S1280x256 := Rect.unit (s := S1280x256) ![1232, 0] S16x128.size inb_S1280x256_S16x128_1232_0
abbrev r0_156 : Rect S1280x256 := Rect.unit (s := S1280x256) ![1216, 128] S16x128.size inb_S1280x256_S16x128_1216_128
abbrev r0_157 : Rect S1280x256 := Rect.unit (s := S1280x256) ![1232, 128] S16x128.size inb_S1280x256_S16x128_1232_128
abbrev r0_158 : Rect S1280x256 := Rect.unit (s := S1280x256) ![1248, 0] S16x128.size inb_S1280x256_S16x128_1248_0
abbrev r0_159 : Rect S1280x256 := Rect.unit (s := S1280x256) ![1264, 0] S16x128.size inb_S1280x256_S16x128_1264_0
abbrev r0_160 : Rect S1280x256 := Rect.unit (s := S1280x256) ![1248, 128] S16x128.size inb_S1280x256_S16x128_1248_128
abbrev r0_161 : Rect S1280x256 := Rect.unit (s := S1280x256) ![1264, 128] S16x128.size inb_S1280x256_S16x128_1264_128

/-! ## What the body leaves in each output window's buffer -/

/-! ### Values of the body that the stores' payloads, spelt out, would write more than once

    Each is a vector the body binds (often a part call's result), stated over the input windows' blocks and
    numbered on from the skeleton's payload functions (`k0_pay359` …, after `k0_pay358`), so that
    `out0_W` and the values after it name it instead of spelling it out (`unfold_out out0_W` opens a canon
    with them, `unfold_payloads` opens them with the payloads); the comment after each is the printed function's
    name for the value (a count appended where that name is bound again). -/

def k0_pay359 (x0 : Vec F S1280x128 .i8) (x1 : Vec F S80x256 .fp8e4m3) : IVec S8x128 32 :=
  k0_pay4 -- `v7`
def k0_pay360 (x0 : Vec F S1280x128 .i8) (x1 : Vec F S80x256 .fp8e4m3) : IVec S8x128 32 :=
  k0_pay5 -- `v9`
def k0_pay361 (x0 : Vec F S1280x128 .i8) (x1 : Vec F S80x256 .fp8e4m3) : IVec S320x128 32 :=
  k0_pay6 (View.ld x0 r0_0) -- `v11`
def k0_pay362 (x0 : Vec F S1280x128 .i8) (x1 : Vec F S80x256 .fp8e4m3) : FVec F S80x256 .f32 :=
  k0_pay7 (View.ld x1 r0_1) -- `v15`
def k0_pay363 (x0 : Vec F S1280x128 .i8) (x1 : Vec F S80x256 .fp8e4m3) : IVec S8x128 32 :=
  k0_pay8 (View.ld x0 r0_0) -- `v16`
def k0_pay364 (x0 : Vec F S1280x128 .i8) (x1 : Vec F S80x256 .fp8e4m3) : IVec S8x128 32 :=
  k0_pay17 (k0_pay361 x0 x1) -- `v85`
def k0_pay365 (x0 : Vec F S1280x128 .i8) (x1 : Vec F S80x256 .fp8e4m3) : IVec S8x128 32 :=
  k0_pay21 (k0_pay360 x0 x1) -- `v128`
def k0_pay366 (x0 : Vec F S1280x128 .i8) (x1 : Vec F S80x256 .fp8e4m3) : IVec S8x128 32 :=
  k0_pay25 (k0_pay361 x0 x1) -- `v154`
def k0_pay367 (x0 : Vec F S1280x128 .i8) (x1 : Vec F S80x256 .fp8e4m3) : FVec F S32x128 .fp8e4m3 :=
  k0_pay26 (F := F) (k0_pay359 x0 x1) (k0_pay360 x0 x1) (k0_pay361 x0 x1) -- `v173`
def k0_pay368 (x0 : Vec F S1280x128 .i8) (x1 : Vec F S80x256 .fp8e4m3) : IVec S8x128 32 :=
  k0_pay34 (k0_pay361 x0 x1) -- `v223`
def k0_pay369 (x0 : Vec F S1280x128 .i8) (x1 : Vec F S80x256 .fp8e4m3) : IVec S8x128 32 :=
  k0_pay38 (k0_pay360 x0 x1) -- `v259`
def k0_pay370 (x0 : Vec F S1280x128 .i8) (x1 : Vec F S80x256 .fp8e4m3) : IVec S8x128 1 :=
  k0_pay39 (k0_pay360 x0 x1) -- `v261`
def k0_pay371 (x0 : Vec F S1280x128 .i8) (x1 : Vec F S80x256 .fp8e4m3) : IVec S8x128 32 :=
  k0_pay43 (k0_pay361 x0 x1) -- `v292`
def k0_pay372 (x0 : Vec F S1280x128 .i8) (x1 : Vec F S80x256 .fp8e4m3) : IVec S8x128 32 :=
  k0_pay44 (k0_pay359 x0 x1) (k0_pay360 x0 x1) (k0_pay361 x0 x1) -- `v303`
def k0_pay373 (x0 : Vec F S1280x128 .i8) (x1 : Vec F S80x256 .fp8e4m3) : IVec S8x128 32 :=
  k0_pay45 (k0_pay359 x0 x1) (k0_pay360 x0 x1) (k0_pay361 x0 x1) -- `v305`
def k0_pay374 (x0 : Vec F S1280x128 .i8) (x1 : Vec F S80x256 .fp8e4m3) : IVec S8x128 32 :=
  k0_pay46 -- `v306`
def k0_pay375 (x0 : Vec F S1280x128 .i8) (x1 : Vec F S80x256 .fp8e4m3) : IVec S8x128 32 :=
  k0_pay53 (k0_pay361 x0 x1) -- `v361`
def k0_pay376 (x0 : Vec F S1280x128 .i8) (x1 : Vec F S80x256 .fp8e4m3) : IVec S8x128 32 :=
  k0_pay61 (k0_pay360 x0 x1) (k0_pay361 x0 x1) -- `v440`
def k0_pay377 (x0 : Vec F S1280x128 .i8) (x1 : Vec F S80x256 .fp8e4m3) : FVec F S32x128 .bf16 :=
  k0_pay65 (F := F) (k0_pay359 x0 x1) (k0_pay360 x0 x1) (k0_pay60 (k0_pay361 x0 x1)) -- `v484`
def k0_pay378 (x0 : Vec F S1280x128 .i8) (x1 : Vec F S80x256 .fp8e4m3) : IVec S8x128 32 :=
  k0_pay69 (k0_pay361 x0 x1) -- `v499`
def k0_pay379 (x0 : Vec F S1280x128 .i8) (x1 : Vec F S80x256 .fp8e4m3) : IVec S8x128 32 :=
  k0_pay77 (k0_pay361 x0 x1) -- `v568`
def k0_pay380 (x0 : Vec F S1280x128 .i8) (x1 : Vec F S80x256 .fp8e4m3) : IVec S8x128 32 :=
  k0_pay78 (k0_pay360 x0 x1) -- `v570`
def k0_pay381 (x0 : Vec F S1280x128 .i8) (x1 : Vec F S80x256 .fp8e4m3) : IVec S8x128 1 :=
  k0_pay79 (k0_pay360 x0 x1) -- `v572`
def k0_pay382 (x0 : Vec F S1280x128 .i8) (x1 : Vec F S80x256 .fp8e4m3) : IVec S8x128 32 :=
  k0_pay84 (k0_pay359 x0 x1) (k0_pay360 x0 x1) (k0_pay379 x0 x1) -- `v615`
def k0_pay383 (x0 : Vec F S1280x128 .i8) (x1 : Vec F S80x256 .fp8e4m3) : IVec S8x128 32 :=
  k0_pay85 (k0_pay359 x0 x1) (k0_pay360 x0 x1) (k0_pay379 x0 x1) -- `v617`
def k0_pay384 (x0 : Vec F S1280x128 .i8) (x1 : Vec F S80x256 .fp8e4m3) : IVec S8x128 32 :=
  k0_pay89 (k0_pay361 x0 x1) -- `v637`
def k0_pay385 (x0 : Vec F S1280x128 .i8) (x1 : Vec F S80x256 .fp8e4m3) : IVec S8x128 32 :=
  k0_pay96 (k0_pay361 x0 x1) -- `v706`
def k0_pay386 (x0 : Vec F S1280x128 .i8) (x1 : Vec F S80x256 .fp8e4m3) : IVec S8x128 32 :=
  k0_pay100 (k0_pay359 x0 x1) (k0_pay360 x0 x1) (k0_pay385 x0 x1) -- `v751`
def k0_pay387 (x0 : Vec F S1280x128 .i8) (x1 : Vec F S80x256 .fp8e4m3) : IVec S8x128 32 :=
  k0_pay104 (k0_pay361 x0 x1) -- `v775`
def k0_pay388 (x0 : Vec F S1280x128 .i8) (x1 : Vec F S80x256 .fp8e4m3) : FVec F S32x128 .bf16 :=
  k0_pay105 (F := F) (k0_pay359 x0 x1) (k0_pay360 x0 x1) (k0_pay361 x0 x1) -- `v795`
def k0_pay389 (x0 : Vec F S1280x128 .i8) (x1 : Vec F S80x256 .fp8e4m3) : IVec S8x128 32 :=
  k0_pay112 (k0_pay361 x0 x1) -- `v844`
def k0_pay390 (x0 : Vec F S1280x128 .i8) (x1 : Vec F S80x256 .fp8e4m3) : IVec S8x128 32 :=
  k0_pay116 (k0_pay360 x0 x1) -- `v880`
def k0_pay391 (x0 : Vec F S1280x128 .i8) (x1 : Vec F S80x256 .fp8e4m3) : IVec S8x128 1 :=
  k0_pay117 (k0_pay360 x0 x1) -- `v882`
def k0_pay392 (x0 : Vec F S1280x128 .i8) (x1 : Vec F S80x256 .fp8e4m3) : IVec S8x128 32 :=
  k0_pay118 (k0_pay360 x0 x1) -- `v884`
def k0_pay393 (x0 : Vec F S1280x128 .i8) (x1 : Vec F S80x256 .fp8e4m3) : IVec S8x128 32 :=
  k0_pay122 (k0_pay361 x0 x1) -- `v913`
def k0_pay394 (x0 : Vec F S1280x128 .i8) (x1 : Vec F S80x256 .fp8e4m3) : IVec S8x128 32 :=
  k0_pay124 (k0_pay359 x0 x1) (k0_pay360 x0 x1) (k0_pay361 x0 x1) -- `v926`
def k0_pay395 (x0 : Vec F S1280x128 .i8) (x1 : Vec F S80x256 .fp8e4m3) : IVec S8x128 32 :=
  k0_pay125 (k0_pay359 x0 x1) (k0_pay360 x0 x1) (k0_pay361 x0 x1) -- `v928`
def k0_pay396 (x0 : Vec F S1280x128 .i8) (x1 : Vec F S80x256 .fp8e4m3) : IVec S8x128 32 :=
  k0_pay126 -- `v929`
def k0_pay397 (x0 : Vec F S1280x128 .i8) (x1 : Vec F S80x256 .fp8e4m3) : IVec S8x128 32 :=
  k0_pay133 (k0_pay361 x0 x1) -- `v982`
def k0_pay398 (x0 : Vec F S1280x128 .i8) (x1 : Vec F S80x256 .fp8e4m3) : IVec S8x128 32 :=
  k0_pay137 (k0_pay360 x0 x1) -- `v1018`
def k0_pay399 (x0 : Vec F S1280x128 .i8) (x1 : Vec F S80x256 .fp8e4m3) : IVec S8x128 32 :=
  k0_pay142 (k0_pay359 x0 x1) (k0_pay360 x0 x1) (k0_pay361 x0 x1) -- `v1062`
def k0_pay400 (x0 : Vec F S1280x128 .i8) (x1 : Vec F S80x256 .fp8e4m3) : IVec S8x128 32 :=
  k0_pay143 -- `v1063`
def k0_pay401 (x0 : Vec F S1280x128 .i8) (x1 : Vec F S80x256 .fp8e4m3) : FVec F S32x128 .bf16 :=
  k0_pay147 (F := F) (k0_pay359 x0 x1) (k0_pay360 x0 x1) (k0_pay141 (k0_pay361 x0 x1)) -- `v1105`
def k0_pay402 (x0 : Vec F S1280x128 .i8) (x1 : Vec F S80x256 .fp8e4m3) : IVec S8x128 32 :=
  k0_pay151 (k0_pay361 x0 x1) -- `v1120`
def k0_pay403 (x0 : Vec F S1280x128 .i8) (x1 : Vec F S80x256 .fp8e4m3) : IVec S8x128 32 :=
  k0_pay158 (k0_pay361 x0 x1) -- `v1189`
def k0_pay404 (x0 : Vec F S1280x128 .i8) (x1 : Vec F S80x256 .fp8e4m3) : IVec S8x128 32 :=
  k0_pay159 (k0_pay360 x0 x1) -- `v1196`
def k0_pay405 (x0 : Vec F S1280x128 .i8) (x1 : Vec F S80x256 .fp8e4m3) : IVec S8x128 32 :=
  k0_pay163 (k0_pay359 x0 x1) (k0_pay360 x0 x1) (k0_pay403 x0 x1) -- `v1241`
def k0_pay406 (x0 : Vec F S1280x128 .i8) (x1 : Vec F S80x256 .fp8e4m3) : IVec S8x128 32 :=
  k0_pay167 (k0_pay361 x0 x1) -- `v1258`
def k0_pay407 (x0 : Vec F S1280x128 .i8) (x1 : Vec F S80x256 .fp8e4m3) : IVec S8x128 32 :=
  k0_pay175 (k0_pay361 x0 x1) -- `v1327`
def k0_pay408 (x0 : Vec F S1280x128 .i8) (x1 : Vec F S80x256 .fp8e4m3) : IVec S8x128 32 :=
  k0_pay176 (k0_pay360 x0 x1) -- `v1329`
def k0_pay409 (x0 : Vec F S1280x128 .i8) (x1 : Vec F S80x256 .fp8e4m3) : IVec S8x128 32 :=
  k0_pay180 (k0_pay359 x0 x1) (k0_pay360 x0 x1) (k0_pay407 x0 x1) -- `v1372`
def k0_pay410 (x0 : Vec F S1280x128 .i8) (x1 : Vec F S80x256 .fp8e4m3) : IVec S8x128 32 :=
  k0_pay181 (k0_pay359 x0 x1) (k0_pay360 x0 x1) (k0_pay407 x0 x1) -- `v1374`
def k0_pay411 (x0 : Vec F S1280x128 .i8) (x1 : Vec F S80x256 .fp8e4m3) : IVec S8x128 32 :=
  k0_pay185 (k0_pay361 x0 x1) -- `v1396`
def k0_pay412 (x0 : Vec F S1280x128 .i8) (x1 : Vec F S80x256 .fp8e4m3) : IVec S8x128 32 :=
  k0_pay194 (k0_pay361 x0 x1) -- `v1465`
def k0_pay413 (x0 : Vec F S1280x128 .i8) (x1 : Vec F S80x256 .fp8e4m3) : IVec S8x128 32 :=
  k0_pay198 (k0_pay360 x0 x1) -- `v1508`
def k0_pay414 (x0 : Vec F S1280x128 .i8) (x1 : Vec F S80x256 .fp8e4m3) : IVec S8x128 32 :=
  k0_pay202 (k0_pay361 x0 x1) -- `v1534`
def k0_pay415 (x0 : Vec F S1280x128 .i8) (x1 : Vec F S80x256 .fp8e4m3) : FVec F S32x128 .fp8e4m3 :=
  k0_pay203 (F := F) (k0_pay359 x0 x1) (k0_pay360 x0 x1) (k0_pay361 x0 x1) -- `v1553`
def k0_pay416 (x0 : Vec F S1280x128 .i8) (x1 : Vec F S80x256 .fp8e4m3) : IVec S8x128 32 :=
  k0_pay211 (k0_pay361 x0 x1) -- `v1603`
def k0_pay417 (x0 : Vec F S1280x128 .i8) (x1 : Vec F S80x256 .fp8e4m3) : IVec S8x128 32 :=
  k0_pay215 (k0_pay360 x0 x1) -- `v1639`
def k0_pay418 (x0 : Vec F S1280x128 .i8) (x1 : Vec F S80x256 .fp8e4m3) : IVec S8x128 1 :=
  k0_pay216 (k0_pay360 x0 x1) -- `v1641`
def k0_pay419 (x0 : Vec F S1280x128 .i8) (x1 : Vec F S80x256 .fp8e4m3) : IVec S8x128 32 :=
  k0_pay220 (k0_pay361 x0 x1) -- `v1672`
def k0_pay420 (x0 : Vec F S1280x128 .i8) (x1 : Vec F S80x256 .fp8e4m3) : IVec S8x128 32 :=
  k0_pay221 (k0_pay359 x0 x1) (k0_pay360 x0 x1) (k0_pay361 x0 x1) -- `v1683`
def k0_pay421 (x0 : Vec F S1280x128 .i8) (x1 : Vec F S80x256 .fp8e4m3) : IVec S8x128 32 :=
  k0_pay222 (k0_pay359 x0 x1) (k0_pay360 x0 x1) (k0_pay361 x0 x1) -- `v1685`
def k0_pay422 (x0 : Vec F S1280x128 .i8) (x1 : Vec F S80x256 .fp8e4m3) : IVec S8x128 32 :=
  k0_pay223 -- `v1686`
def k0_pay423 (x0 : Vec F S1280x128 .i8) (x1 : Vec F S80x256 .fp8e4m3) : IVec S8x128 32 :=
  k0_pay230 (k0_pay361 x0 x1) -- `v1741`
def k0_pay424 (x0 : Vec F S1280x128 .i8) (x1 : Vec F S80x256 .fp8e4m3) : IVec S8x128 32 :=
  k0_pay238 (k0_pay360 x0 x1) (k0_pay361 x0 x1) -- `v1820`
def k0_pay425 (x0 : Vec F S1280x128 .i8) (x1 : Vec F S80x256 .fp8e4m3) : FVec F S32x128 .bf16 :=
  k0_pay242 (F := F) (k0_pay359 x0 x1) (k0_pay360 x0 x1) (k0_pay237 (k0_pay361 x0 x1)) -- `v1864`
def k0_pay426 (x0 : Vec F S1280x128 .i8) (x1 : Vec F S80x256 .fp8e4m3) : IVec S8x128 32 :=
  k0_pay246 (k0_pay361 x0 x1) -- `v1879`
def k0_pay427 (x0 : Vec F S1280x128 .i8) (x1 : Vec F S80x256 .fp8e4m3) : IVec S8x128 32 :=
  k0_pay254 (k0_pay361 x0 x1) -- `v1948`
def k0_pay428 (x0 : Vec F S1280x128 .i8) (x1 : Vec F S80x256 .fp8e4m3) : IVec S8x128 32 :=
  k0_pay255 (k0_pay360 x0 x1) -- `v1950`
def k0_pay429 (x0 : Vec F S1280x128 .i8) (x1 : Vec F S80x256 .fp8e4m3) : IVec S8x128 1 :=
  k0_pay256 (k0_pay360 x0 x1) -- `v1952`
def k0_pay430 (x0 : Vec F S1280x128 .i8) (x1 : Vec F S80x256 .fp8e4m3) : IVec S8x128 32 :=
  k0_pay261 (k0_pay359 x0 x1) (k0_pay360 x0 x1) (k0_pay427 x0 x1) -- `v1995`
def k0_pay431 (x0 : Vec F S1280x128 .i8) (x1 : Vec F S80x256 .fp8e4m3) : IVec S8x128 32 :=
  k0_pay262 (k0_pay359 x0 x1) (k0_pay360 x0 x1) (k0_pay427 x0 x1) -- `v1997`
def k0_pay432 (x0 : Vec F S1280x128 .i8) (x1 : Vec F S80x256 .fp8e4m3) : IVec S8x128 32 :=
  k0_pay266 (k0_pay361 x0 x1) -- `v2017`
def k0_pay433 (x0 : Vec F S1280x128 .i8) (x1 : Vec F S80x256 .fp8e4m3) : IVec S8x128 32 :=
  k0_pay273 (k0_pay361 x0 x1) -- `v2086`
def k0_pay434 (x0 : Vec F S1280x128 .i8) (x1 : Vec F S80x256 .fp8e4m3) : IVec S8x128 32 :=
  k0_pay277 (k0_pay359 x0 x1) (k0_pay360 x0 x1) (k0_pay433 x0 x1) -- `v2131`
def k0_pay435 (x0 : Vec F S1280x128 .i8) (x1 : Vec F S80x256 .fp8e4m3) : IVec S8x128 32 :=
  k0_pay281 (k0_pay361 x0 x1) -- `v2155`
def k0_pay436 (x0 : Vec F S1280x128 .i8) (x1 : Vec F S80x256 .fp8e4m3) : FVec F S32x128 .bf16 :=
  k0_pay282 (F := F) (k0_pay359 x0 x1) (k0_pay360 x0 x1) (k0_pay361 x0 x1) -- `v2175`
def k0_pay437 (x0 : Vec F S1280x128 .i8) (x1 : Vec F S80x256 .fp8e4m3) : IVec S8x128 32 :=
  k0_pay289 (k0_pay361 x0 x1) -- `v2224`
def k0_pay438 (x0 : Vec F S1280x128 .i8) (x1 : Vec F S80x256 .fp8e4m3) : IVec S8x128 32 :=
  k0_pay293 (k0_pay360 x0 x1) -- `v2260`
def k0_pay439 (x0 : Vec F S1280x128 .i8) (x1 : Vec F S80x256 .fp8e4m3) : IVec S8x128 1 :=
  k0_pay294 (k0_pay360 x0 x1) -- `v2262`
def k0_pay440 (x0 : Vec F S1280x128 .i8) (x1 : Vec F S80x256 .fp8e4m3) : IVec S8x128 32 :=
  k0_pay295 (k0_pay360 x0 x1) -- `v2264`
def k0_pay441 (x0 : Vec F S1280x128 .i8) (x1 : Vec F S80x256 .fp8e4m3) : IVec S8x128 32 :=
  k0_pay299 (k0_pay361 x0 x1) -- `v2293`
def k0_pay442 (x0 : Vec F S1280x128 .i8) (x1 : Vec F S80x256 .fp8e4m3) : IVec S8x128 32 :=
  k0_pay301 (k0_pay359 x0 x1) (k0_pay360 x0 x1) (k0_pay361 x0 x1) -- `v2306`
def k0_pay443 (x0 : Vec F S1280x128 .i8) (x1 : Vec F S80x256 .fp8e4m3) : IVec S8x128 32 :=
  k0_pay302 (k0_pay359 x0 x1) (k0_pay360 x0 x1) (k0_pay361 x0 x1) -- `v2308`
def k0_pay444 (x0 : Vec F S1280x128 .i8) (x1 : Vec F S80x256 .fp8e4m3) : IVec S8x128 32 :=
  k0_pay303 -- `v2309`
def k0_pay445 (x0 : Vec F S1280x128 .i8) (x1 : Vec F S80x256 .fp8e4m3) : IVec S8x128 32 :=
  k0_pay310 (k0_pay361 x0 x1) -- `v2362`
def k0_pay446 (x0 : Vec F S1280x128 .i8) (x1 : Vec F S80x256 .fp8e4m3) : IVec S8x128 32 :=
  k0_pay314 (k0_pay360 x0 x1) -- `v2398`
def k0_pay447 (x0 : Vec F S1280x128 .i8) (x1 : Vec F S80x256 .fp8e4m3) : IVec S8x128 32 :=
  k0_pay319 (k0_pay359 x0 x1) (k0_pay360 x0 x1) (k0_pay361 x0 x1) -- `v2442`
def k0_pay448 (x0 : Vec F S1280x128 .i8) (x1 : Vec F S80x256 .fp8e4m3) : IVec S8x128 32 :=
  k0_pay320 -- `v2443`
def k0_pay449 (x0 : Vec F S1280x128 .i8) (x1 : Vec F S80x256 .fp8e4m3) : FVec F S32x128 .bf16 :=
  k0_pay324 (F := F) (k0_pay359 x0 x1) (k0_pay360 x0 x1) (k0_pay318 (k0_pay361 x0 x1)) -- `v2485`
def k0_pay450 (x0 : Vec F S1280x128 .i8) (x1 : Vec F S80x256 .fp8e4m3) : IVec S8x128 32 :=
  k0_pay328 (k0_pay361 x0 x1) -- `v2500`
def k0_pay451 (x0 : Vec F S1280x128 .i8) (x1 : Vec F S80x256 .fp8e4m3) : IVec S8x128 32 :=
  k0_pay335 (k0_pay361 x0 x1) -- `v2569`
def k0_pay452 (x0 : Vec F S1280x128 .i8) (x1 : Vec F S80x256 .fp8e4m3) : IVec S8x128 32 :=
  k0_pay336 (k0_pay360 x0 x1) -- `v2576`
def k0_pay453 (x0 : Vec F S1280x128 .i8) (x1 : Vec F S80x256 .fp8e4m3) : IVec S8x128 32 :=
  k0_pay340 (k0_pay359 x0 x1) (k0_pay360 x0 x1) (k0_pay451 x0 x1) -- `v2621`
def k0_pay454 (x0 : Vec F S1280x128 .i8) (x1 : Vec F S80x256 .fp8e4m3) : IVec S8x128 32 :=
  k0_pay344 (k0_pay361 x0 x1) -- `v2638`
def k0_pay455 (x0 : Vec F S1280x128 .i8) (x1 : Vec F S80x256 .fp8e4m3) : IVec S8x128 32 :=
  k0_pay352 (k0_pay361 x0 x1) -- `v2707`
def k0_pay456 (x0 : Vec F S1280x128 .i8) (x1 : Vec F S80x256 .fp8e4m3) : IVec S8x128 32 :=
  k0_pay353 (k0_pay360 x0 x1) -- `v2709`
def k0_pay457 (x0 : Vec F S1280x128 .i8) (x1 : Vec F S80x256 .fp8e4m3) : IVec S8x128 32 :=
  k0_pay357 (k0_pay359 x0 x1) (k0_pay360 x0 x1) (k0_pay455 x0 x1) -- `v2752`
def k0_pay458 (x0 : Vec F S1280x128 .i8) (x1 : Vec F S80x256 .fp8e4m3) : IVec S8x128 32 :=
  k0_pay358 (k0_pay359 x0 x1) (k0_pay360 x0 x1) (k0_pay455 x0 x1) -- `v2754`

/-- Window 2's staging buffer after the body, from the input windows' blocks: its 160 stores as pieces, LAST
    FIRST (Lib/Pipeline/FrameBody.lean `View.canon`; the payloads are the skeleton's and the values stated above). -/
def out0_2 (x0 : Vec F S1280x128 .i8) (x1 : Vec F S80x256 .fp8e4m3) : Vec F S1280x256 .bf16 :=
  View.canon [⟨r0_161, k0_pay3 (k0_pay362 x0 x1) (k0_pay457 x0 x1) (k0_pay458 x0 x1) 2#32⟩,
    ⟨r0_160, k0_pay2 (k0_pay362 x0 x1) (k0_pay457 x0 x1) (k0_pay458 x0 x1) 2#32⟩,
    ⟨r0_159, k0_pay356 (k0_pay359 x0 x1) (k0_pay362 x0 x1) (k0_pay455 x0 x1) (k0_pay456 x0 x1) 0#32⟩,
    ⟨r0_158, k0_pay355 (k0_pay359 x0 x1) (k0_pay362 x0 x1) (k0_pay455 x0 x1) (k0_pay456 x0 x1) 0#32⟩,
    ⟨r0_157, k0_pay351 (k0_pay359 x0 x1) (k0_pay360 x0 x1) (k0_pay362 x0 x1) (k0_pay454 x0 x1)⟩,
    ⟨r0_156, k0_pay350 (k0_pay359 x0 x1) (k0_pay360 x0 x1) (k0_pay362 x0 x1) (k0_pay454 x0 x1)⟩,
    ⟨r0_155, k0_pay348 (k0_pay345 (F := F) (k0_pay359 x0 x1) (k0_pay360 x0 x1) (k0_pay361 x0 x1)) (k0_pay347 (k0_pay362 x0 x1))⟩,
    ⟨r0_154, k0_pay346 (k0_pay359 x0 x1) (k0_pay360 x0 x1) (k0_pay361 x0 x1) (k0_pay362 x0 x1)⟩,
    ⟨r0_153, k0_pay343 (k0_pay362 x0 x1) (k0_pay453 x0 x1)⟩,
    ⟨r0_152, k0_pay342 (k0_pay362 x0 x1) (k0_pay453 x0 x1)⟩,
    ⟨r0_151, k0_pay339 (k0_pay359 x0 x1) (k0_pay362 x0 x1) (k0_pay451 x0 x1) (k0_pay452 x0 x1)⟩,
    ⟨r0_150, k0_pay338 (k0_pay359 x0 x1) (k0_pay362 x0 x1) (k0_pay451 x0 x1) (k0_pay452 x0 x1)⟩,
    ⟨r0_149, k0_pay334 (k0_pay359 x0 x1) (k0_pay360 x0 x1) (k0_pay362 x0 x1) (k0_pay450 x0 x1)⟩,
    ⟨r0_148, k0_pay333 (k0_pay359 x0 x1) (k0_pay360 x0 x1) (k0_pay362 x0 x1) (k0_pay450 x0 x1)⟩,
    ⟨r0_147, k0_pay331 (k0_pay359 x0 x1) (k0_pay360 x0 x1) (k0_pay361 x0 x1) (k0_pay362 x0 x1)⟩,
    ⟨r0_146, k0_pay330 (k0_pay359 x0 x1) (k0_pay360 x0 x1) (k0_pay361 x0 x1) (k0_pay362 x0 x1)⟩,
    ⟨r0_145, k0_pay327 (k0_pay362 x0 x1) (k0_pay449 x0 x1)⟩,
    ⟨r0_144, k0_pay326 (k0_pay449 x0 x1) (k0_pay325 (k0_pay362 x0 x1))⟩,
    ⟨r0_143, k0_pay323 (k0_pay362 x0 x1) (k0_pay447 x0 x1) (k0_pay448 x0 x1)⟩,
    ⟨r0_142, k0_pay322 (k0_pay362 x0 x1) (k0_pay447 x0 x1) (k0_pay448 x0 x1)⟩,
    ⟨r0_141, k0_pay317 (k0_pay359 x0 x1) (k0_pay362 x0 x1) (k0_pay445 x0 x1) (k0_pay446 x0 x1)⟩,
    ⟨r0_140, k0_pay316 (k0_pay359 x0 x1) (k0_pay362 x0 x1) (k0_pay445 x0 x1) (k0_pay446 x0 x1)⟩,
    ⟨r0_139, k0_pay313 (k0_pay359 x0 x1) (k0_pay360 x0 x1) (k0_pay361 x0 x1) (k0_pay362 x0 x1)⟩,
    ⟨r0_138, k0_pay312 (k0_pay359 x0 x1) (k0_pay360 x0 x1) (k0_pay361 x0 x1) (k0_pay362 x0 x1)⟩,
    ⟨r0_137, k0_pay309 (k0_pay362 x0 x1) (k0_pay307 (F := F) (k0_pay359 x0 x1) (k0_pay360 x0 x1) (k0_pay441 x0 x1))⟩,
    ⟨r0_136, k0_pay308 (k0_pay359 x0 x1) (k0_pay360 x0 x1) (k0_pay362 x0 x1) (k0_pay441 x0 x1)⟩,
    ⟨r0_135, k0_pay306 (k0_pay362 x0 x1) (k0_pay442 x0 x1) (k0_pay443 x0 x1) (k0_pay444 x0 x1)⟩,
    ⟨r0_134, k0_pay305 (k0_pay362 x0 x1) (k0_pay442 x0 x1) (k0_pay443 x0 x1) (k0_pay444 x0 x1)⟩,
    ⟨r0_133, k0_pay298 (k0_pay359 x0 x1) (k0_pay362 x0 x1) (k0_pay437 x0 x1) (k0_pay438 x0 x1) (k0_pay439 x0 x1) (k0_pay440 x0 x1)⟩,
    ⟨r0_132, k0_pay297 (k0_pay359 x0 x1) (k0_pay362 x0 x1) (k0_pay437 x0 x1) (k0_pay438 x0 x1) (k0_pay439 x0 x1) (k0_pay440 x0 x1)⟩,
    ⟨r0_131, k0_pay292 (k0_pay359 x0 x1) (k0_pay360 x0 x1) (k0_pay361 x0 x1) (k0_pay362 x0 x1)⟩,
    ⟨r0_130, k0_pay291 (k0_pay359 x0 x1) (k0_pay360 x0 x1) (k0_pay361 x0 x1) (k0_pay362 x0 x1)⟩,
    ⟨r0_129, k0_pay288 (k0_pay359 x0 x1) (k0_pay360 x0 x1) (k0_pay362 x0 x1) (k0_pay435 x0 x1)⟩,
    ⟨r0_128, k0_pay287 (k0_pay359 x0 x1) (k0_pay360 x0 x1) (k0_pay362 x0 x1) (k0_pay435 x0 x1)⟩,
    ⟨r0_127, k0_pay285 (k0_pay362 x0 x1) (k0_pay436 x0 x1)⟩,
    ⟨r0_126, k0_pay284 (k0_pay436 x0 x1) (k0_pay283 (k0_pay362 x0 x1))⟩,
    ⟨r0_125, k0_pay280 (k0_pay362 x0 x1) (k0_pay434 x0 x1) 2155905152#32⟩,
    ⟨r0_124, k0_pay279 (k0_pay362 x0 x1) (k0_pay434 x0 x1) 2155905152#32⟩,
    ⟨r0_123, k0_pay276 (k0_pay359 x0 x1) (k0_pay360 x0 x1) (k0_pay362 x0 x1) (k0_pay433 x0 x1) 0#32⟩,
    ⟨r0_122, k0_pay275 (k0_pay359 x0 x1) (k0_pay360 x0 x1) (k0_pay362 x0 x1) (k0_pay433 x0 x1) 0#32⟩,
    ⟨r0_121, k0_pay272 (k0_pay359 x0 x1) (k0_pay360 x0 x1) (k0_pay362 x0 x1) (k0_pay432 x0 x1)⟩,
    ⟨r0_120, k0_pay271 (k0_pay359 x0 x1) (k0_pay360 x0 x1) (k0_pay362 x0 x1) (k0_pay432 x0 x1)⟩,
    ⟨r0_119, k0_pay269 (k0_pay362 x0 x1) (k0_pay267 (F := F) (k0_pay359 x0 x1) (k0_pay360 x0 x1) (k0_pay361 x0 x1))⟩,
    ⟨r0_118, k0_pay268 (k0_pay359 x0 x1) (k0_pay360 x0 x1) (k0_pay361 x0 x1) (k0_pay362 x0 x1)⟩,
    ⟨r0_117, k0_pay265 (k0_pay362 x0 x1) (k0_pay430 x0 x1) (k0_pay431 x0 x1) 471604252#32⟩,
    ⟨r0_116, k0_pay264 (k0_pay362 x0 x1) (k0_pay430 x0 x1) (k0_pay431 x0 x1) 471604252#32⟩,
    ⟨r0_115, k0_pay259 (k0_pay359 x0 x1) (k0_pay362 x0 x1) (k0_pay427 x0 x1) (k0_pay428 x0 x1) (k0_pay429 x0 x1) 128#32⟩,
    ⟨r0_114, k0_pay258 (k0_pay359 x0 x1) (k0_pay362 x0 x1) (k0_pay427 x0 x1) (k0_pay428 x0 x1) (k0_pay429 x0 x1) 128#32⟩,
    ⟨r0_113, k0_pay253 (k0_pay359 x0 x1) (k0_pay360 x0 x1) (k0_pay362 x0 x1) (k0_pay426 x0 x1)⟩,
    ⟨r0_112, k0_pay252 (k0_pay359 x0 x1) (k0_pay360 x0 x1) (k0_pay362 x0 x1) (k0_pay426 x0 x1)⟩,
    ⟨r0_111, k0_pay250 (k0_pay247 (F := F) (k0_pay359 x0 x1) (k0_pay360 x0 x1) (k0_pay361 x0 x1)) (k0_pay249 (k0_pay362 x0 x1))⟩,
    ⟨r0_110, k0_pay248 (k0_pay359 x0 x1) (k0_pay360 x0 x1) (k0_pay361 x0 x1) (k0_pay362 x0 x1)⟩,
    ⟨r0_109, k0_pay245 (k0_pay362 x0 x1) (k0_pay425 x0 x1)⟩,
    ⟨r0_108, k0_pay244 (k0_pay425 x0 x1) (k0_pay243 (k0_pay362 x0 x1))⟩,
    ⟨r0_107, k0_pay241 (k0_pay359 x0 x1) (k0_pay362 x0 x1) (k0_pay424 x0 x1)⟩,
    ⟨r0_106, k0_pay240 (k0_pay359 x0 x1) (k0_pay362 x0 x1) (k0_pay424 x0 x1)⟩,
    ⟨r0_105, k0_pay236 (k0_pay359 x0 x1) (k0_pay360 x0 x1) (k0_pay362 x0 x1) (k0_pay423 x0 x1)⟩,
    ⟨r0_104, k0_pay235 (k0_pay359 x0 x1) (k0_pay360 x0 x1) (k0_pay362 x0 x1) (k0_pay423 x0 x1)⟩,
    ⟨r0_103, k0_pay233 (k0_pay359 x0 x1) (k0_pay360 x0 x1) (k0_pay361 x0 x1) (k0_pay362 x0 x1)⟩,
    ⟨r0_102, k0_pay232 (k0_pay359 x0 x1) (k0_pay360 x0 x1) (k0_pay361 x0 x1) (k0_pay362 x0 x1)⟩,
    ⟨r0_101, k0_pay229 (k0_pay362 x0 x1) (k0_pay227 (F := F) (k0_pay359 x0 x1) (k0_pay360 x0 x1) (k0_pay419 x0 x1))⟩,
    ⟨r0_100, k0_pay228 (k0_pay359 x0 x1) (k0_pay360 x0 x1) (k0_pay362 x0 x1) (k0_pay419 x0 x1)⟩,
    ⟨r0_99, k0_pay226 (k0_pay362 x0 x1) (k0_pay420 x0 x1) (k0_pay421 x0 x1) (k0_pay422 x0 x1)⟩,
    ⟨r0_98, k0_pay225 (k0_pay362 x0 x1) (k0_pay420 x0 x1) (k0_pay421 x0 x1) (k0_pay422 x0 x1)⟩,
    ⟨r0_97, k0_pay219 (k0_pay359 x0 x1) (k0_pay362 x0 x1) (k0_pay416 x0 x1) (k0_pay417 x0 x1) (k0_pay418 x0 x1)⟩,
    ⟨r0_96, k0_pay218 (k0_pay359 x0 x1) (k0_pay362 x0 x1) (k0_pay416 x0 x1) (k0_pay417 x0 x1) (k0_pay418 x0 x1)⟩,
    ⟨r0_95, k0_pay214 (k0_pay359 x0 x1) (k0_pay360 x0 x1) (k0_pay361 x0 x1) (k0_pay362 x0 x1)⟩,
    ⟨r0_94, k0_pay213 (k0_pay359 x0 x1) (k0_pay360 x0 x1) (k0_pay361 x0 x1) (k0_pay362 x0 x1)⟩,
    ⟨r0_93, k0_pay210 (k0_pay207 (F := F) (k0_pay359 x0 x1) (k0_pay360 x0 x1) (k0_pay414 x0 x1)) (k0_pay209 (k0_pay362 x0 x1))⟩,
    ⟨r0_92, k0_pay208 (k0_pay359 x0 x1) (k0_pay360 x0 x1) (k0_pay362 x0 x1) (k0_pay414 x0 x1)⟩,
    ⟨r0_91, k0_pay206 (k0_pay362 x0 x1) (k0_pay415 x0 x1)⟩,
    ⟨r0_90, k0_pay205 (k0_pay362 x0 x1) (k0_pay415 x0 x1)⟩,
    ⟨r0_89, k0_pay201 (k0_pay359 x0 x1) (k0_pay362 x0 x1) (k0_pay412 x0 x1) (k0_pay413 x0 x1)⟩,
    ⟨r0_88, k0_pay200 (k0_pay359 x0 x1) (k0_pay362 x0 x1) (k0_pay412 x0 x1) (k0_pay413 x0 x1)⟩,
    ⟨r0_87, k0_pay197 (k0_pay359 x0 x1) (k0_pay360 x0 x1) (k0_pay361 x0 x1) (k0_pay362 x0 x1)⟩,
    ⟨r0_86, k0_pay196 (k0_pay359 x0 x1) (k0_pay360 x0 x1) (k0_pay361 x0 x1) (k0_pay362 x0 x1)⟩,
    ⟨r0_85, k0_pay193 (k0_pay359 x0 x1) (k0_pay360 x0 x1) (k0_pay362 x0 x1) (k0_pay411 x0 x1)⟩,
    ⟨r0_84, k0_pay192 (k0_pay359 x0 x1) (k0_pay360 x0 x1) (k0_pay362 x0 x1) (k0_pay411 x0 x1)⟩,
    ⟨r0_83, k0_pay190 (k0_pay362 x0 x1) (k0_pay186 (F := F) (k0_pay359 x0 x1) (k0_pay360 x0 x1) (k0_pay361 x0 x1))⟩,
    ⟨r0_82, k0_pay189 (k0_pay187 (k0_pay362 x0 x1)) (k0_pay188 (F := F) (k0_pay359 x0 x1) (k0_pay360 x0 x1) (k0_pay361 x0 x1))⟩,
    ⟨r0_81, k0_pay184 (k0_pay362 x0 x1) (k0_pay409 x0 x1) (k0_pay410 x0 x1) 2#32⟩,
    ⟨r0_80, k0_pay183 (k0_pay362 x0 x1) (k0_pay409 x0 x1) (k0_pay410 x0 x1) 2#32⟩,
    ⟨r0_79, k0_pay179 (k0_pay359 x0 x1) (k0_pay362 x0 x1) (k0_pay407 x0 x1) (k0_pay408 x0 x1) 0#32⟩,
    ⟨r0_78, k0_pay178 (k0_pay359 x0 x1) (k0_pay362 x0 x1) (k0_pay407 x0 x1) (k0_pay408 x0 x1) 0#32⟩,
    ⟨r0_77, k0_pay174 (k0_pay359 x0 x1) (k0_pay360 x0 x1) (k0_pay362 x0 x1) (k0_pay406 x0 x1)⟩,
    ⟨r0_76, k0_pay173 (k0_pay359 x0 x1) (k0_pay360 x0 x1) (k0_pay362 x0 x1) (k0_pay406 x0 x1)⟩,
    ⟨r0_75, k0_pay171 (k0_pay168 (F := F) (k0_pay359 x0 x1) (k0_pay360 x0 x1) (k0_pay361 x0 x1)) (k0_pay170 (k0_pay362 x0 x1))⟩,
    ⟨r0_74, k0_pay169 (k0_pay359 x0 x1) (k0_pay360 x0 x1) (k0_pay361 x0 x1) (k0_pay362 x0 x1)⟩,
    ⟨r0_73, k0_pay166 (k0_pay362 x0 x1) (k0_pay405 x0 x1)⟩,
    ⟨r0_72, k0_pay165 (k0_pay362 x0 x1) (k0_pay405 x0 x1)⟩,
    ⟨r0_71, k0_pay162 (k0_pay359 x0 x1) (k0_pay362 x0 x1) (k0_pay403 x0 x1) (k0_pay404 x0 x1)⟩,
    ⟨r0_70, k0_pay161 (k0_pay359 x0 x1) (k0_pay362 x0 x1) (k0_pay403 x0 x1) (k0_pay404 x0 x1)⟩,
    ⟨r0_69, k0_pay157 (k0_pay359 x0 x1) (k0_pay360 x0 x1) (k0_pay362 x0 x1) (k0_pay402 x0 x1)⟩,
    ⟨r0_68, k0_pay156 (k0_pay359 x0 x1) (k0_pay360 x0 x1) (k0_pay362 x0 x1) (k0_pay402 x0 x1)⟩,
    ⟨r0_67, k0_pay154 (k0_pay359 x0 x1) (k0_pay360 x0 x1) (k0_pay361 x0 x1) (k0_pay362 x0 x1)⟩,
    ⟨r0_66, k0_pay153 (k0_pay359 x0 x1) (k0_pay360 x0 x1) (k0_pay361 x0 x1) (k0_pay362 x0 x1)⟩,
    ⟨r0_65, k0_pay150 (k0_pay362 x0 x1) (k0_pay401 x0 x1)⟩,
    ⟨r0_64, k0_pay149 (k0_pay401 x0 x1) (k0_pay148 (k0_pay362 x0 x1))⟩,
    ⟨r0_63, k0_pay146 (k0_pay362 x0 x1) (k0_pay399 x0 x1) (k0_pay400 x0 x1)⟩,
    ⟨r0_62, k0_pay145 (k0_pay362 x0 x1) (k0_pay399 x0 x1) (k0_pay400 x0 x1)⟩,
    ⟨r0_61, k0_pay140 (k0_pay359 x0 x1) (k0_pay362 x0 x1) (k0_pay397 x0 x1) (k0_pay398 x0 x1)⟩,
    ⟨r0_60, k0_pay139 (k0_pay359 x0 x1) (k0_pay362 x0 x1) (k0_pay397 x0 x1) (k0_pay398 x0 x1)⟩,
    ⟨r0_59, k0_pay136 (k0_pay359 x0 x1) (k0_pay360 x0 x1) (k0_pay361 x0 x1) (k0_pay362 x0 x1)⟩,
    ⟨r0_58, k0_pay135 (k0_pay359 x0 x1) (k0_pay360 x0 x1) (k0_pay361 x0 x1) (k0_pay362 x0 x1)⟩,
    ⟨r0_57, k0_pay132 (k0_pay362 x0 x1) (k0_pay130 (F := F) (k0_pay359 x0 x1) (k0_pay360 x0 x1) (k0_pay393 x0 x1))⟩,
    ⟨r0_56, k0_pay131 (k0_pay359 x0 x1) (k0_pay360 x0 x1) (k0_pay362 x0 x1) (k0_pay393 x0 x1)⟩,
    ⟨r0_55, k0_pay129 (k0_pay362 x0 x1) (k0_pay394 x0 x1) (k0_pay395 x0 x1) (k0_pay396 x0 x1)⟩,
    ⟨r0_54, k0_pay128 (k0_pay362 x0 x1) (k0_pay394 x0 x1) (k0_pay395 x0 x1) (k0_pay396 x0 x1)⟩,
    ⟨r0_53, k0_pay121 (k0_pay359 x0 x1) (k0_pay362 x0 x1) (k0_pay389 x0 x1) (k0_pay390 x0 x1) (k0_pay391 x0 x1) (k0_pay392 x0 x1)⟩,
    ⟨r0_52, k0_pay120 (k0_pay359 x0 x1) (k0_pay362 x0 x1) (k0_pay389 x0 x1) (k0_pay390 x0 x1) (k0_pay391 x0 x1) (k0_pay392 x0 x1)⟩,
    ⟨r0_51, k0_pay115 (k0_pay359 x0 x1) (k0_pay360 x0 x1) (k0_pay361 x0 x1) (k0_pay362 x0 x1)⟩,
    ⟨r0_50, k0_pay114 (k0_pay359 x0 x1) (k0_pay360 x0 x1) (k0_pay361 x0 x1) (k0_pay362 x0 x1)⟩,
    ⟨r0_49, k0_pay111 (k0_pay359 x0 x1) (k0_pay360 x0 x1) (k0_pay362 x0 x1) (k0_pay387 x0 x1)⟩,
    ⟨r0_48, k0_pay110 (k0_pay359 x0 x1) (k0_pay360 x0 x1) (k0_pay362 x0 x1) (k0_pay387 x0 x1)⟩,
    ⟨r0_47, k0_pay108 (k0_pay362 x0 x1) (k0_pay388 x0 x1)⟩,
    ⟨r0_46, k0_pay107 (k0_pay388 x0 x1) (k0_pay106 (k0_pay362 x0 x1))⟩,
    ⟨r0_45, k0_pay103 (k0_pay362 x0 x1) (k0_pay386 x0 x1) 2155905152#32⟩,
    ⟨r0_44, k0_pay102 (k0_pay362 x0 x1) (k0_pay386 x0 x1) 2155905152#32⟩,
    ⟨r0_43, k0_pay99 (k0_pay359 x0 x1) (k0_pay360 x0 x1) (k0_pay362 x0 x1) (k0_pay385 x0 x1) 0#32⟩,
    ⟨r0_42, k0_pay98 (k0_pay359 x0 x1) (k0_pay360 x0 x1) (k0_pay362 x0 x1) (k0_pay385 x0 x1) 0#32⟩,
    ⟨r0_41, k0_pay95 (k0_pay359 x0 x1) (k0_pay360 x0 x1) (k0_pay362 x0 x1) (k0_pay384 x0 x1)⟩,
    ⟨r0_40, k0_pay94 (k0_pay359 x0 x1) (k0_pay360 x0 x1) (k0_pay362 x0 x1) (k0_pay384 x0 x1)⟩,
    ⟨r0_39, k0_pay92 (k0_pay362 x0 x1) (k0_pay90 (F := F) (k0_pay359 x0 x1) (k0_pay360 x0 x1) (k0_pay361 x0 x1))⟩,
    ⟨r0_38, k0_pay91 (k0_pay359 x0 x1) (k0_pay360 x0 x1) (k0_pay361 x0 x1) (k0_pay362 x0 x1)⟩,
    ⟨r0_37, k0_pay88 (k0_pay362 x0 x1) (k0_pay382 x0 x1) (k0_pay383 x0 x1) 471604252#32⟩,
    ⟨r0_36, k0_pay87 (k0_pay362 x0 x1) (k0_pay382 x0 x1) (k0_pay383 x0 x1) 471604252#32⟩,
    ⟨r0_35, k0_pay82 (k0_pay359 x0 x1) (k0_pay362 x0 x1) (k0_pay379 x0 x1) (k0_pay380 x0 x1) (k0_pay381 x0 x1) 128#32⟩,
    ⟨r0_34, k0_pay81 (k0_pay359 x0 x1) (k0_pay362 x0 x1) (k0_pay379 x0 x1) (k0_pay380 x0 x1) (k0_pay381 x0 x1) 128#32⟩,
    ⟨r0_33, k0_pay76 (k0_pay359 x0 x1) (k0_pay360 x0 x1) (k0_pay362 x0 x1) (k0_pay378 x0 x1)⟩,
    ⟨r0_32, k0_pay75 (k0_pay359 x0 x1) (k0_pay360 x0 x1) (k0_pay362 x0 x1) (k0_pay378 x0 x1)⟩,
    ⟨r0_31, k0_pay73 (k0_pay70 (F := F) (k0_pay359 x0 x1) (k0_pay360 x0 x1) (k0_pay361 x0 x1)) (k0_pay72 (k0_pay362 x0 x1))⟩,
    ⟨r0_30, k0_pay71 (k0_pay359 x0 x1) (k0_pay360 x0 x1) (k0_pay361 x0 x1) (k0_pay362 x0 x1)⟩,
    ⟨r0_29, k0_pay68 (k0_pay362 x0 x1) (k0_pay377 x0 x1)⟩,
    ⟨r0_28, k0_pay67 (k0_pay377 x0 x1) (k0_pay66 (k0_pay362 x0 x1))⟩,
    ⟨r0_27, k0_pay64 (k0_pay359 x0 x1) (k0_pay362 x0 x1) (k0_pay376 x0 x1)⟩,
    ⟨r0_26, k0_pay63 (k0_pay359 x0 x1) (k0_pay362 x0 x1) (k0_pay376 x0 x1)⟩,
    ⟨r0_25, k0_pay59 (k0_pay359 x0 x1) (k0_pay360 x0 x1) (k0_pay362 x0 x1) (k0_pay375 x0 x1)⟩,
    ⟨r0_24, k0_pay58 (k0_pay359 x0 x1) (k0_pay360 x0 x1) (k0_pay362 x0 x1) (k0_pay375 x0 x1)⟩,
    ⟨r0_23, k0_pay56 (k0_pay359 x0 x1) (k0_pay360 x0 x1) (k0_pay361 x0 x1) (k0_pay362 x0 x1)⟩,
    ⟨r0_22, k0_pay55 (k0_pay359 x0 x1) (k0_pay360 x0 x1) (k0_pay361 x0 x1) (k0_pay362 x0 x1)⟩,
    ⟨r0_21, k0_pay52 (k0_pay362 x0 x1) (k0_pay50 (F := F) (k0_pay359 x0 x1) (k0_pay360 x0 x1) (k0_pay371 x0 x1))⟩,
    ⟨r0_20, k0_pay51 (k0_pay359 x0 x1) (k0_pay360 x0 x1) (k0_pay362 x0 x1) (k0_pay371 x0 x1)⟩,
    ⟨r0_19, k0_pay49 (k0_pay362 x0 x1) (k0_pay372 x0 x1) (k0_pay373 x0 x1) (k0_pay374 x0 x1)⟩,
    ⟨r0_18, k0_pay48 (k0_pay362 x0 x1) (k0_pay372 x0 x1) (k0_pay373 x0 x1) (k0_pay374 x0 x1)⟩,
    ⟨r0_17, k0_pay42 (k0_pay359 x0 x1) (k0_pay362 x0 x1) (k0_pay368 x0 x1) (k0_pay369 x0 x1) (k0_pay370 x0 x1)⟩,
    ⟨r0_16, k0_pay41 (k0_pay359 x0 x1) (k0_pay362 x0 x1) (k0_pay368 x0 x1) (k0_pay369 x0 x1) (k0_pay370 x0 x1)⟩,
    ⟨r0_15, k0_pay37 (k0_pay359 x0 x1) (k0_pay360 x0 x1) (k0_pay361 x0 x1) (k0_pay362 x0 x1)⟩,
    ⟨r0_14, k0_pay36 (k0_pay359 x0 x1) (k0_pay360 x0 x1) (k0_pay361 x0 x1) (k0_pay362 x0 x1)⟩,
    ⟨r0_13, k0_pay33 (k0_pay30 (F := F) (k0_pay359 x0 x1) (k0_pay360 x0 x1) (k0_pay366 x0 x1)) (k0_pay32 (k0_pay362 x0 x1))⟩,
    ⟨r0_12, k0_pay31 (k0_pay359 x0 x1) (k0_pay360 x0 x1) (k0_pay362 x0 x1) (k0_pay366 x0 x1)⟩,
    ⟨r0_11, k0_pay29 (k0_pay362 x0 x1) (k0_pay367 x0 x1)⟩,
    ⟨r0_10, k0_pay28 (k0_pay362 x0 x1) (k0_pay367 x0 x1)⟩,
    ⟨r0_9, k0_pay24 (k0_pay359 x0 x1) (k0_pay362 x0 x1) (k0_pay364 x0 x1) (k0_pay365 x0 x1)⟩,
    ⟨r0_8, k0_pay23 (k0_pay359 x0 x1) (k0_pay362 x0 x1) (k0_pay364 x0 x1) (k0_pay365 x0 x1)⟩,
    ⟨r0_7, k0_pay20 (k0_pay359 x0 x1) (k0_pay360 x0 x1) (k0_pay361 x0 x1) (k0_pay362 x0 x1)⟩,
    ⟨r0_6, k0_pay19 (k0_pay359 x0 x1) (k0_pay360 x0 x1) (k0_pay361 x0 x1) (k0_pay362 x0 x1)⟩,
    ⟨r0_5, k0_pay16 (k0_pay359 x0 x1) (k0_pay360 x0 x1) (k0_pay362 x0 x1) (k0_pay363 x0 x1)⟩,
    ⟨r0_4, k0_pay15 (k0_pay359 x0 x1) (k0_pay360 x0 x1) (k0_pay362 x0 x1) (k0_pay363 x0 x1)⟩,
    ⟨r0_3, k0_pay13 (k0_pay362 x0 x1) (k0_pay9 (View.ld x0 r0_0))⟩,
    ⟨r0_2, k0_pay12 (k0_pay10 (View.ld x1 r0_1)) (k0_pay11 (View.ld x0 r0_0))⟩]

/-- Its stores tile the buffer (checked by evaluation), so they cover it. -/
theorem cover0_2 (p0 : Vec F S16x128 .bf16) (p1 : Vec F S16x128 .bf16) (p2 : Vec F S16x128 .bf16) (p3 : Vec F S16x128 .bf16) (p4 : Vec F S16x128 .bf16) (p5 : Vec F S16x128 .bf16) (p6 : Vec F S16x128 .bf16) (p7 : Vec F S16x128 .bf16) (p8 : Vec F S16x128 .bf16) (p9 : Vec F S16x128 .bf16) (p10 : Vec F S16x128 .bf16) (p11 : Vec F S16x128 .bf16) (p12 : Vec F S16x128 .bf16) (p13 : Vec F S16x128 .bf16) (p14 : Vec F S16x128 .bf16) (p15 : Vec F S16x128 .bf16) (p16 : Vec F S16x128 .bf16) (p17 : Vec F S16x128 .bf16) (p18 : Vec F S16x128 .bf16) (p19 : Vec F S16x128 .bf16) (p20 : Vec F S16x128 .bf16) (p21 : Vec F S16x128 .bf16) (p22 : Vec F S16x128 .bf16) (p23 : Vec F S16x128 .bf16) (p24 : Vec F S16x128 .bf16) (p25 : Vec F S16x128 .bf16) (p26 : Vec F S16x128 .bf16) (p27 : Vec F S16x128 .bf16) (p28 : Vec F S16x128 .bf16) (p29 : Vec F S16x128 .bf16) (p30 : Vec F S16x128 .bf16) (p31 : Vec F S16x128 .bf16) (p32 : Vec F S16x128 .bf16) (p33 : Vec F S16x128 .bf16) (p34 : Vec F S16x128 .bf16) (p35 : Vec F S16x128 .bf16) (p36 : Vec F S16x128 .bf16) (p37 : Vec F S16x128 .bf16) (p38 : Vec F S16x128 .bf16) (p39 : Vec F S16x128 .bf16) (p40 : Vec F S16x128 .bf16) (p41 : Vec F S16x128 .bf16) (p42 : Vec F S16x128 .bf16) (p43 : Vec F S16x128 .bf16) (p44 : Vec F S16x128 .bf16) (p45 : Vec F S16x128 .bf16) (p46 : Vec F S16x128 .bf16) (p47 : Vec F S16x128 .bf16) (p48 : Vec F S16x128 .bf16) (p49 : Vec F S16x128 .bf16) (p50 : Vec F S16x128 .bf16) (p51 : Vec F S16x128 .bf16) (p52 : Vec F S16x128 .bf16) (p53 : Vec F S16x128 .bf16) (p54 : Vec F S16x128 .bf16) (p55 : Vec F S16x128 .bf16) (p56 : Vec F S16x128 .bf16) (p57 : Vec F S16x128 .bf16) (p58 : Vec F S16x128 .bf16) (p59 : Vec F S16x128 .bf16) (p60 : Vec F S16x128 .bf16) (p61 : Vec F S16x128 .bf16) (p62 : Vec F S16x128 .bf16) (p63 : Vec F S16x128 .bf16) (p64 : Vec F S16x128 .bf16) (p65 : Vec F S16x128 .bf16) (p66 : Vec F S16x128 .bf16) (p67 : Vec F S16x128 .bf16) (p68 : Vec F S16x128 .bf16) (p69 : Vec F S16x128 .bf16) (p70 : Vec F S16x128 .bf16) (p71 : Vec F S16x128 .bf16) (p72 : Vec F S16x128 .bf16) (p73 : Vec F S16x128 .bf16) (p74 : Vec F S16x128 .bf16) (p75 : Vec F S16x128 .bf16) (p76 : Vec F S16x128 .bf16) (p77 : Vec F S16x128 .bf16) (p78 : Vec F S16x128 .bf16) (p79 : Vec F S16x128 .bf16) (p80 : Vec F S16x128 .bf16) (p81 : Vec F S16x128 .bf16) (p82 : Vec F S16x128 .bf16) (p83 : Vec F S16x128 .bf16) (p84 : Vec F S16x128 .bf16) (p85 : Vec F S16x128 .bf16) (p86 : Vec F S16x128 .bf16) (p87 : Vec F S16x128 .bf16) (p88 : Vec F S16x128 .bf16) (p89 : Vec F S16x128 .bf16) (p90 : Vec F S16x128 .bf16) (p91 : Vec F S16x128 .bf16) (p92 : Vec F S16x128 .bf16) (p93 : Vec F S16x128 .bf16) (p94 : Vec F S16x128 .bf16) (p95 : Vec F S16x128 .bf16) (p96 : Vec F S16x128 .bf16) (p97 : Vec F S16x128 .bf16) (p98 : Vec F S16x128 .bf16) (p99 : Vec F S16x128 .bf16) (p100 : Vec F S16x128 .bf16) (p101 : Vec F S16x128 .bf16) (p102 : Vec F S16x128 .bf16) (p103 : Vec F S16x128 .bf16) (p104 : Vec F S16x128 .bf16) (p105 : Vec F S16x128 .bf16) (p106 : Vec F S16x128 .bf16) (p107 : Vec F S16x128 .bf16) (p108 : Vec F S16x128 .bf16) (p109 : Vec F S16x128 .bf16) (p110 : Vec F S16x128 .bf16) (p111 : Vec F S16x128 .bf16) (p112 : Vec F S16x128 .bf16) (p113 : Vec F S16x128 .bf16) (p114 : Vec F S16x128 .bf16) (p115 : Vec F S16x128 .bf16) (p116 : Vec F S16x128 .bf16) (p117 : Vec F S16x128 .bf16) (p118 : Vec F S16x128 .bf16) (p119 : Vec F S16x128 .bf16) (p120 : Vec F S16x128 .bf16) (p121 : Vec F S16x128 .bf16) (p122 : Vec F S16x128 .bf16) (p123 : Vec F S16x128 .bf16) (p124 : Vec F S16x128 .bf16) (p125 : Vec F S16x128 .bf16) (p126 : Vec F S16x128 .bf16) (p127 : Vec F S16x128 .bf16) (p128 : Vec F S16x128 .bf16) (p129 : Vec F S16x128 .bf16) (p130 : Vec F S16x128 .bf16) (p131 : Vec F S16x128 .bf16) (p132 : Vec F S16x128 .bf16) (p133 : Vec F S16x128 .bf16) (p134 : Vec F S16x128 .bf16) (p135 : Vec F S16x128 .bf16) (p136 : Vec F S16x128 .bf16) (p137 : Vec F S16x128 .bf16) (p138 : Vec F S16x128 .bf16) (p139 : Vec F S16x128 .bf16) (p140 : Vec F S16x128 .bf16) (p141 : Vec F S16x128 .bf16) (p142 : Vec F S16x128 .bf16) (p143 : Vec F S16x128 .bf16) (p144 : Vec F S16x128 .bf16) (p145 : Vec F S16x128 .bf16) (p146 : Vec F S16x128 .bf16) (p147 : Vec F S16x128 .bf16) (p148 : Vec F S16x128 .bf16) (p149 : Vec F S16x128 .bf16) (p150 : Vec F S16x128 .bf16) (p151 : Vec F S16x128 .bf16) (p152 : Vec F S16x128 .bf16) (p153 : Vec F S16x128 .bf16) (p154 : Vec F S16x128 .bf16) (p155 : Vec F S16x128 .bf16) (p156 : Vec F S16x128 .bf16) (p157 : Vec F S16x128 .bf16) (p158 : Vec F S16x128 .bf16) (p159 : Vec F S16x128 .bf16) (y : S1280x256.Idx) :
    ∃ pc ∈ ([⟨r0_161, p0⟩, ⟨r0_160, p1⟩, ⟨r0_159, p2⟩, ⟨r0_158, p3⟩, ⟨r0_157, p4⟩, ⟨r0_156, p5⟩, ⟨r0_155, p6⟩, ⟨r0_154, p7⟩, ⟨r0_153, p8⟩, ⟨r0_152, p9⟩, ⟨r0_151, p10⟩, ⟨r0_150, p11⟩, ⟨r0_149, p12⟩, ⟨r0_148, p13⟩, ⟨r0_147, p14⟩, ⟨r0_146, p15⟩, ⟨r0_145, p16⟩, ⟨r0_144, p17⟩, ⟨r0_143, p18⟩, ⟨r0_142, p19⟩, ⟨r0_141, p20⟩, ⟨r0_140, p21⟩, ⟨r0_139, p22⟩, ⟨r0_138, p23⟩, ⟨r0_137, p24⟩, ⟨r0_136, p25⟩, ⟨r0_135, p26⟩, ⟨r0_134, p27⟩, ⟨r0_133, p28⟩, ⟨r0_132, p29⟩, ⟨r0_131, p30⟩, ⟨r0_130, p31⟩, ⟨r0_129, p32⟩, ⟨r0_128, p33⟩, ⟨r0_127, p34⟩, ⟨r0_126, p35⟩, ⟨r0_125, p36⟩, ⟨r0_124, p37⟩, ⟨r0_123, p38⟩, ⟨r0_122, p39⟩, ⟨r0_121, p40⟩, ⟨r0_120, p41⟩, ⟨r0_119, p42⟩, ⟨r0_118, p43⟩, ⟨r0_117, p44⟩, ⟨r0_116, p45⟩, ⟨r0_115, p46⟩, ⟨r0_114, p47⟩, ⟨r0_113, p48⟩, ⟨r0_112, p49⟩, ⟨r0_111, p50⟩, ⟨r0_110, p51⟩, ⟨r0_109, p52⟩, ⟨r0_108, p53⟩, ⟨r0_107, p54⟩, ⟨r0_106, p55⟩, ⟨r0_105, p56⟩, ⟨r0_104, p57⟩, ⟨r0_103, p58⟩, ⟨r0_102, p59⟩, ⟨r0_101, p60⟩, ⟨r0_100, p61⟩, ⟨r0_99, p62⟩, ⟨r0_98, p63⟩, ⟨r0_97, p64⟩, ⟨r0_96, p65⟩, ⟨r0_95, p66⟩, ⟨r0_94, p67⟩, ⟨r0_93, p68⟩, ⟨r0_92, p69⟩, ⟨r0_91, p70⟩, ⟨r0_90, p71⟩, ⟨r0_89, p72⟩, ⟨r0_88, p73⟩, ⟨r0_87, p74⟩, ⟨r0_86, p75⟩, ⟨r0_85, p76⟩, ⟨r0_84, p77⟩, ⟨r0_83, p78⟩, ⟨r0_82, p79⟩, ⟨r0_81, p80⟩, ⟨r0_80, p81⟩, ⟨r0_79, p82⟩, ⟨r0_78, p83⟩, ⟨r0_77, p84⟩, ⟨r0_76, p85⟩, ⟨r0_75, p86⟩, ⟨r0_74, p87⟩, ⟨r0_73, p88⟩, ⟨r0_72, p89⟩, ⟨r0_71, p90⟩, ⟨r0_70, p91⟩, ⟨r0_69, p92⟩, ⟨r0_68, p93⟩, ⟨r0_67, p94⟩, ⟨r0_66, p95⟩, ⟨r0_65, p96⟩, ⟨r0_64, p97⟩, ⟨r0_63, p98⟩, ⟨r0_62, p99⟩, ⟨r0_61, p100⟩, ⟨r0_60, p101⟩, ⟨r0_59, p102⟩, ⟨r0_58, p103⟩, ⟨r0_57, p104⟩, ⟨r0_56, p105⟩, ⟨r0_55, p106⟩, ⟨r0_54, p107⟩, ⟨r0_53, p108⟩, ⟨r0_52, p109⟩, ⟨r0_51, p110⟩, ⟨r0_50, p111⟩, ⟨r0_49, p112⟩, ⟨r0_48, p113⟩, ⟨r0_47, p114⟩, ⟨r0_46, p115⟩, ⟨r0_45, p116⟩, ⟨r0_44, p117⟩, ⟨r0_43, p118⟩, ⟨r0_42, p119⟩, ⟨r0_41, p120⟩, ⟨r0_40, p121⟩, ⟨r0_39, p122⟩, ⟨r0_38, p123⟩, ⟨r0_37, p124⟩, ⟨r0_36, p125⟩, ⟨r0_35, p126⟩, ⟨r0_34, p127⟩, ⟨r0_33, p128⟩, ⟨r0_32, p129⟩, ⟨r0_31, p130⟩, ⟨r0_30, p131⟩, ⟨r0_29, p132⟩, ⟨r0_28, p133⟩, ⟨r0_27, p134⟩, ⟨r0_26, p135⟩, ⟨r0_25, p136⟩, ⟨r0_24, p137⟩, ⟨r0_23, p138⟩, ⟨r0_22, p139⟩, ⟨r0_21, p140⟩, ⟨r0_20, p141⟩, ⟨r0_19, p142⟩, ⟨r0_18, p143⟩, ⟨r0_17, p144⟩, ⟨r0_16, p145⟩, ⟨r0_15, p146⟩, ⟨r0_14, p147⟩, ⟨r0_13, p148⟩, ⟨r0_12, p149⟩, ⟨r0_11, p150⟩, ⟨r0_10, p151⟩, ⟨r0_9, p152⟩, ⟨r0_8, p153⟩, ⟨r0_7, p154⟩, ⟨r0_6, p155⟩, ⟨r0_5, p156⟩, ⟨r0_4, p157⟩, ⟨r0_3, p158⟩, ⟨r0_2, p159⟩] : List (View.Piece (Elt F) S1280x256 .bf16)), y ∈ pc.1.set :=
  View.cover_of_tiled [⟨r0_161, p0⟩, ⟨r0_160, p1⟩, ⟨r0_159, p2⟩, ⟨r0_158, p3⟩, ⟨r0_157, p4⟩, ⟨r0_156, p5⟩, ⟨r0_155, p6⟩, ⟨r0_154, p7⟩, ⟨r0_153, p8⟩, ⟨r0_152, p9⟩, ⟨r0_151, p10⟩, ⟨r0_150, p11⟩, ⟨r0_149, p12⟩, ⟨r0_148, p13⟩, ⟨r0_147, p14⟩, ⟨r0_146, p15⟩, ⟨r0_145, p16⟩, ⟨r0_144, p17⟩, ⟨r0_143, p18⟩, ⟨r0_142, p19⟩, ⟨r0_141, p20⟩, ⟨r0_140, p21⟩, ⟨r0_139, p22⟩, ⟨r0_138, p23⟩, ⟨r0_137, p24⟩, ⟨r0_136, p25⟩, ⟨r0_135, p26⟩, ⟨r0_134, p27⟩, ⟨r0_133, p28⟩, ⟨r0_132, p29⟩, ⟨r0_131, p30⟩, ⟨r0_130, p31⟩, ⟨r0_129, p32⟩, ⟨r0_128, p33⟩, ⟨r0_127, p34⟩, ⟨r0_126, p35⟩, ⟨r0_125, p36⟩, ⟨r0_124, p37⟩, ⟨r0_123, p38⟩, ⟨r0_122, p39⟩, ⟨r0_121, p40⟩, ⟨r0_120, p41⟩, ⟨r0_119, p42⟩, ⟨r0_118, p43⟩, ⟨r0_117, p44⟩, ⟨r0_116, p45⟩, ⟨r0_115, p46⟩, ⟨r0_114, p47⟩, ⟨r0_113, p48⟩, ⟨r0_112, p49⟩, ⟨r0_111, p50⟩, ⟨r0_110, p51⟩, ⟨r0_109, p52⟩, ⟨r0_108, p53⟩, ⟨r0_107, p54⟩, ⟨r0_106, p55⟩, ⟨r0_105, p56⟩, ⟨r0_104, p57⟩, ⟨r0_103, p58⟩, ⟨r0_102, p59⟩, ⟨r0_101, p60⟩, ⟨r0_100, p61⟩, ⟨r0_99, p62⟩, ⟨r0_98, p63⟩, ⟨r0_97, p64⟩, ⟨r0_96, p65⟩, ⟨r0_95, p66⟩, ⟨r0_94, p67⟩, ⟨r0_93, p68⟩, ⟨r0_92, p69⟩, ⟨r0_91, p70⟩, ⟨r0_90, p71⟩, ⟨r0_89, p72⟩, ⟨r0_88, p73⟩, ⟨r0_87, p74⟩, ⟨r0_86, p75⟩, ⟨r0_85, p76⟩, ⟨r0_84, p77⟩, ⟨r0_83, p78⟩, ⟨r0_82, p79⟩, ⟨r0_81, p80⟩, ⟨r0_80, p81⟩, ⟨r0_79, p82⟩, ⟨r0_78, p83⟩, ⟨r0_77, p84⟩, ⟨r0_76, p85⟩, ⟨r0_75, p86⟩, ⟨r0_74, p87⟩, ⟨r0_73, p88⟩, ⟨r0_72, p89⟩, ⟨r0_71, p90⟩, ⟨r0_70, p91⟩, ⟨r0_69, p92⟩, ⟨r0_68, p93⟩, ⟨r0_67, p94⟩, ⟨r0_66, p95⟩, ⟨r0_65, p96⟩, ⟨r0_64, p97⟩, ⟨r0_63, p98⟩, ⟨r0_62, p99⟩, ⟨r0_61, p100⟩, ⟨r0_60, p101⟩, ⟨r0_59, p102⟩, ⟨r0_58, p103⟩, ⟨r0_57, p104⟩, ⟨r0_56, p105⟩, ⟨r0_55, p106⟩, ⟨r0_54, p107⟩, ⟨r0_53, p108⟩, ⟨r0_52, p109⟩, ⟨r0_51, p110⟩, ⟨r0_50, p111⟩, ⟨r0_49, p112⟩, ⟨r0_48, p113⟩, ⟨r0_47, p114⟩, ⟨r0_46, p115⟩, ⟨r0_45, p116⟩, ⟨r0_44, p117⟩, ⟨r0_43, p118⟩, ⟨r0_42, p119⟩, ⟨r0_41, p120⟩, ⟨r0_40, p121⟩, ⟨r0_39, p122⟩, ⟨r0_38, p123⟩, ⟨r0_37, p124⟩, ⟨r0_36, p125⟩, ⟨r0_35, p126⟩, ⟨r0_34, p127⟩, ⟨r0_33, p128⟩, ⟨r0_32, p129⟩, ⟨r0_31, p130⟩, ⟨r0_30, p131⟩, ⟨r0_29, p132⟩, ⟨r0_28, p133⟩, ⟨r0_27, p134⟩, ⟨r0_26, p135⟩, ⟨r0_25, p136⟩, ⟨r0_24, p137⟩, ⟨r0_23, p138⟩, ⟨r0_22, p139⟩, ⟨r0_21, p140⟩, ⟨r0_20, p141⟩, ⟨r0_19, p142⟩, ⟨r0_18, p143⟩, ⟨r0_17, p144⟩, ⟨r0_16, p145⟩, ⟨r0_15, p146⟩, ⟨r0_14, p147⟩, ⟨r0_13, p148⟩, ⟨r0_12, p149⟩, ⟨r0_11, p150⟩, ⟨r0_10, p151⟩, ⟨r0_9, p152⟩, ⟨r0_8, p153⟩, ⟨r0_7, p154⟩, ⟨r0_6, p155⟩, ⟨r0_5, p156⟩, ⟨r0_4, p157⟩, ⟨r0_3, p158⟩, ⟨r0_2, p159⟩] S16x128.size (by rfl) y

/-! ## The body's triple -/

set_option maxHeartbeats 1804000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S1280x128 .i8) (harg2 : arg2.IsWhole) (arg3 : Memref sig .tc .vmem S80x256 .fp8e4m3) (harg3 : arg3.IsWhole) (arg4 : Memref sig .tc .vmem S1280x256 .bf16) (harg4 : arg4.IsWhole)
    (x0 : Vec F S1280x128 .i8) (x1 : Vec F S80x256 .fp8e4m3) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0_decode i arg2 harg2 arg3 harg3 arg4 harg4) K := by
  simp only [cc0_decode_eq_skeleton]; unfold cc0_decode_skel
  simp only [k0_part63_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Ideal.Region1.lean ====
/- Region 1 of the program, the quantisation of the activations and the product: what its body computes (`quantCodes`, `quantAct`,
   `quantScale`, `rowScale`, `product`), the two triples of the body (first column of a row of the grid, later columns), the
   proof data with the scratch buffers tracked from one grid point to the next, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.VecWindow
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the body computes -/

/-- The fp8 codes of a block of activations. -/
def quantCodes (x : Vec F S512x5120 .bf16) : Vec F S512x5120 .fp8e4m3 := k1_pay1 (k1_pay8 x) (Scalar.ofBits .f32 0x43E00000#32) k1_pay9
/-- The same codes as the product reads them, in bf16. -/
def quantAct (x : Vec F S512x5120 .bf16) : Vec F S512x5120 .bf16 := k1_pay2 (k1_pay8 x) (Scalar.ofBits .f32 0x43E00000#32) k1_pay9
/-- The scale of each row, as it is returned. -/
def quantScale (x : Vec F S512x5120 .bf16) : Vec F S512x1 .f32 := k1_pay3 (F := F) (k1_pay7 x)
/-- The scale of each row, as the product reads it. -/
def rowScale (x : Vec F S512x5120 .bf16) : Vec F S512x1 .f32 := k1_pay4 (F := F) (k1_pay7 x)
/-- One block of the product: the codes `a` times the weights `w`, scaled by the row scales `b` and the global scale. -/
def product (g : Vec F S1 .f32) (a : Vec F S512x5120 .bf16) (w : Vec F S5120x1280 .bf16) (b : Vec F S512x1 .f32) : Vec F S512x1280 .bf16 :=
  k1_pay5 a w b (g (Shape.Idx.first (Nat.lt_of_lt_of_eq Nat.one_pos numel1_S1.symm)))

/-- The body's one branch: taken at the first column of the grid. -/
abbrev cond1_0 (i : grid1.Coords) : Prop := k1_cond1 i = 1#1

/-- It is taken at every fourth point. -/
theorem hcond1_0 : ∀ t : Fin cfg1.N, cond1_0 (grid1.coords t) ↔ t.val % 4 = 0 :=
  (fun t => by
    have ht : t.val < 96 := Nat.lt_of_lt_of_eq t.isLt N_1
    have e0 : (grid1.coords t 0).val = t.val / 4 % 24 := Pipeline.Grid.coords_val t 0 (by decide) rfl
    have e1 : (grid1.coords t 1).val = t.val / 1 % 4 := Pipeline.Grid.coords_val t 1 (by decide) rfl
    simp only [cond1_0, k1_cond1, e0, e1]
    word_cmp
   : ∀ t : Fin grid1.N, cond1_0 (grid1.coords t) ↔ t.val % 4 = 0)

section Regions

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x5120 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5120x1280 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1280 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x5120 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S512x5120 .bf16 := Memref.whole cc1_scratch0
abbrev scM1_1 : Memref sig .tc .vmem S512x1 .f32 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- Equal arguments give equal values, for four arguments. -/
theorem congrArg₄ {α β γ δ ε : Sort _} (f : α → β → γ → δ → ε) {a a' : α} {b b' : β} {c c' : γ} {d d' : δ} (h1 : a = a') (h2 : b = b')
    (h3 : c = c') (h4 : d = d') : f a b c d = f a' b' c' d' := by subst h1 h2 h3 h4; rfl

-- (the run's proof term is large)
set_option maxHeartbeats 1000000 in
/-- The body at the first column: it quantises the block `x1`, keeps the codes and scales in the scratch buffers, and multiplies. -/
theorem run1_A (c : Dev nD) (i : grid1.Coords) (arg2 : Memref sig .tc .smem S1 .f32) (harg2 : arg2.IsWhole) (arg3 : Memref sig .tc .vmem S512x5120 .bf16) (harg3 : arg3.IsWhole) (arg4 : Memref sig .tc .vmem S5120x1280 .bf16) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S512x1 .f32) (harg7 : arg7.IsWhole) (arg8 : Memref sig .tc .vmem S512x5120 .bf16) (harg8 : arg8.IsWhole) (arg9 : Memref sig .tc .vmem S512x1 .f32) (harg9 : arg9.IsWhole) (hc0 : cond1_0 i)
    (x0 : Vec F S1 .f32) (x1 : Vec F S512x5120 .bf16) (x2 : Vec F S5120x1280 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare (product x0 (quantAct x1) x2 (rowScale x1)) ∗ owns (c : Thread nD τ) arg6 fullShare (quantCodes x1) ∗ owns (c : Thread nD τ) arg7 fullShare (quantScale x1) ∗ owns (c : Thread nD τ) arg8 fullShare (quantAct x1) ∗ owns (c : Thread nD τ) arg9 fullShare (rowScale x1)) -∗ K ⟨⟩))
      ⊢ wp frame (wpE (defs₀ (F := F)) Variants.none c none) E (cc1_quant_matmul i arg2 harg2 arg3 harg3 arg4 harg4 arg5 harg5 arg6 harg6 arg7 harg7 arg8 harg8 arg9 harg9) K := by
  simp only [cc1_quant_matmul_eq_skeleton]; unfold cc1_quant_matmul_skel
  simp only [k1_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
  obtain rfl := harg2.eq_unread hf0; obtain rfl := harg3.eq_unread hf1; obtain rfl := harg4.eq_unread hf2
  sl_exec (disch := first | sl_exact hc0)
  sl_step
  have ex : run1_A.sl.r c arg3 harg3 x1 = k1_pay7 x1 := congrArg k1_pay7 ((View.readAt_full _ _ _).trans hf1)
  have ex' : run1_A.sl.r_1 c arg3 harg3 x1 = k1_pay8 x1 := congrArg k1_pay8 ((View.readAt_full _ _ _).trans hf1)
  have e6 : k1_pay1 (run1_A.sl.r_1 c arg3 harg3 x1) run1_A.sl.cst_20 k1_pay9 = quantCodes (F := F) x1 := by rw [ex']; rfl
  have e8 : k1_pay2 (run1_A.sl.r_1 c arg3 harg3 x1) run1_A.sl.cst_20 k1_pay9 = quantAct (F := F) x1 := by rw [ex']; rfl
  have e7 : k1_pay3 (F := F) (run1_A.sl.r c arg3 harg3 x1) = quantScale x1 := by rw [ex]; rfl
  have e9 : k1_pay4 (F := F) (run1_A.sl.r c arg3 harg3 x1) = rowScale x1 := by rw [ex]; rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_full _ _ _ _ _).trans ?_
    unfold run1_A.sl.v3 run1_A.sl.v7 run1_A.sl.HS0_1 run1_A.sl.HS1_1
    exact congrArg₄ k1_pay5 ((View.readCov_full _ _ _ _ _).trans e8) ((View.readAt_full _ _ _).trans hf2) ((View.readCov_full _ _ _ _ _).trans e9)
      (congrFun ((View.readAt_full _ _ _).trans hf0) _)
  isplitl [H4]
  · iexists _; isplitr; swap; · iexact H4
    ipureintro
    exact (View.read_writes_full _ _ _ _ _).trans e6
  isplitl [H5]
  · iexists _; isplitr; swap; · iexact H5
    ipureintro
    exact (View.read_writes_full _ _ _ _ _).trans e7
  isplitl [HS0]
  · iexists _; isplitr; swap; · iexact HS0
    ipureintro
    exact (View.read_writes_full _ _ _ _ _).trans e8
  iexists _; isplitr; swap; · iexact HS1
  ipureintro
  exact (View.read_writes_full _ _ _ _ _).trans e9

set_option maxHeartbeats 1000000 in
/-- The body at a later column: it multiplies with the codes and scales the scratch buffers hold. -/
theorem run1_B (c : Dev nD) (i : grid1.Coords) (arg2 : Memref sig .tc .smem S1 .f32) (harg2 : arg2.IsWhole) (arg3 : Memref sig .tc .vmem S512x5120 .bf16) (harg3 : arg3.IsWhole) (arg4 : Memref sig .tc .vmem S5120x1280 .bf16) (harg4 : arg4.IsWhole) (arg5 : Memref sig .tc .vmem S512x1280 .bf16) (harg5 : arg5.IsWhole) (arg6 : Memref sig .tc .vmem S512x5120 .fp8e4m3) (harg6 : arg6.IsWhole) (arg7 : Memref sig .tc .vmem S512x1 .f32) (harg7 : arg7.IsWhole) (arg8 : Memref sig .tc .vmem S512x5120 .bf16) (harg8 : arg8.IsWhole) (arg9 : Memref sig .tc .vmem S512x1 .f32) (harg9 : arg9.IsWhole) (hc0 : ¬cond1_0 i)
    (x0 : Vec F S1 .f32) (x1 : Vec F S512x5120 .bf16) (x2 : Vec F S5120x1280 .bf16) (a : Vec F S512x5120 .bf16) (b : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg8 fullShare a ∗ owns (c : Thread nD τ) arg9 fullShare b
        ∗ (iprop(owns (c : Thread nD τ) arg2 fullShare x0 ∗ owns (c : Thread nD τ) arg3 fullShare x1 ∗ owns (c : Thread nD τ) arg4 fullShare x2 ∗ owns (c : Thread nD τ) arg5 fullShare (product x0 a x2 b) ∗ owns (c : Thread nD τ) arg8 fullShare a ∗ owns (c : Thread nD τ) arg9 fullShare b) -∗ K ⟨⟩))
      ⊢ wp frame (wpE (defs₀ (F := F)) Variants.none c none) E (cc1_quant_matmul i arg2 harg2 arg3 harg3 arg4 harg4 arg5 harg5 arg6 harg6 arg7 harg7 arg8 harg8 arg9 harg9) K := by
  simp only [cc1_quant_matmul_eq_skeleton]; unfold cc1_quant_matmul_skel
  unfold owns
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, Hk⟩
  obtain rfl := harg2.eq_unread hf0; obtain rfl := harg3.eq_unread hf1; obtain rfl := harg4.eq_unread hf2
  obtain rfl := harg8.eq_unread hs0; obtain rfl := harg9.eq_unread hs1
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_full _ _ _ _ _).trans ?_
    exact congrArg₄ k1_pay5 ((View.readAt_full _ _ _).trans hs0) ((View.readAt_full _ _ _).trans hf2) ((View.readAt_full _ _ _).trans hs1)
      (congrFun ((View.readAt_full _ _ _).trans hf0) _)
  isplitl [HS0]
  · iexists _; isplitr; · ipureintro; exact harg8.read_unread _
    iexact HS0
  iexists _; isplitr; · ipureintro; exact harg9.read_unread _
  iexact HS1

/-! ## What stays from one point to the next -/

omit [FloatOps F] in
/-- An output window stored only at the first of every four points and written back at the last one is found, at the later
    points, as it is to be left there. -/
theorem before_carry {c : Dev nD} (dat : Dat τ (Elt F) Unit ℕ (UR sig nD τ) ℕ cfg1 c) (w : Fin cfg1.W) (hw : (cfg1.win w).isOut = true)
    (hclip : ∀ (i : cfg1.grid.Coords) a, (cfg1.win w).clip i a = none)
    (hflush : ∀ t : Fin cfg1.N, (cfg1.win w).flush t = true → t.val % 4 = 3)
    (hidle : ∀ t : Fin cfg1.N, cfg1.idle w (cfg1.grid.coords t) = true → t.val % 4 ≠ 0)
    (hafter : ∀ t : Fin cfg1.N, t.val % 4 ≠ 0 → dat.after w t = dat.after w ⟨t.val - 1, Nat.lt_of_le_of_lt (Nat.sub_le _ _) t.isLt⟩) :
    ∀ (n : ℕ) (t : Fin cfg1.N), t.val = n → t.val % 4 ≠ 0 → ∀ d, dat.before w t d = dat.after w t
  | 0, t, h, ht, d => absurd (by rw [h]) ht
  | n + 1, t, h, ht, d => by
    have hf : (cfg1.win w).flush ⟨t.val - 1, Nat.lt_of_le_of_lt (Nat.sub_le _ _) t.isLt⟩ = false :=
      Bool.eq_false_iff.mpr fun e => by have := hflush _ e; dsimp only at this; omega
    rw [dat.before_of_pos w t (by omega) ((cfg1.win w).fetch_out hw t), hf, if_neg Bool.false_ne_true, hafter t ht]
    unfold Dat.left
    split
    · next hi =>
      exact before_carry dat w hw hclip hflush hidle hafter n _ (by dsimp only; omega) (hidle _ hi) d
    · unfold Dat.kept
      rw [Pipeline.fill_of_clip_none w _ (hclip _) d (dat.after w _), Window.fill_cut]

omit [FloatOps F] in
/-- A buffer at the window's contents for the point is left as the obligation asks, if at an idle point these are what was found. -/
theorem leaves_of_after {c : Dev nD} (dat : Dat τ (Elt F) Unit ℕ (UR sig nD τ) ℕ cfg1 c) (w : Fin cfg1.W) (t : Fin cfg1.N) (d)
    (h : cfg1.idle w (cfg1.grid.coords t) = true → dat.before w t d = dat.after w t) :
    owns (c : Thread nD τ) ((cfg1.win w).stage (cfg1.slots t w)) fullShare (dat.after w t) ⊢ dat.leavesExact w t := by
  unfold Dat.leavesExact
  split
  · next hi =>
    split
    · rw [← h hi]; iintro H; iexists d; iexact H
    · exact .rfl
  · exact .rfl

/-- The invariant's buffers with the scratch at given contents. -/
def restAt1 (c : Dev nD) (a : Vec F S512x5120 .bf16) (b : Vec F S512x1 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare a ∗ owns (c : Thread nD τ) scM1_1 fullShare b) ∗ (∃ r, prngReg c r))

/-- The scratch buffers' contents are forgotten. -/
theorem restAt1_PhiA (c : Dev nD) (a : Vec F S512x5120 .bf16) (b : Vec F S512x1 .f32) : restAt1 c a b ⊢ (Pipeline.ΦA spec1 c : sProp 𝕄) := by
  rw [PhiA1_eq]; unfold restAt1
  iintro ⟨⟨HR0, HR1, HR2, HR3, HR4, HR5, HS0, HS1⟩, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    iexists _; iexact HS1
  iexact Hg

/-- The invariant before point `n`: at the first of every four points the scratch buffers hold anything, at the others the codes and
    scales of the block of the point before. -/
def PhiS1 (c : Dev nD) (n : ℕ) (h : n ≤ cfg1.N) : sProp 𝕄 :=
  if hn : n % 4 = 0 then Pipeline.ΦA spec1 c
  else restAt1 c (quantAct (iblk1 V c 1 ⟨n - 1, by omega⟩)) (rowScale (iblk1 V c 1 ⟨n - 1, by omega⟩))

theorem PhiS1_first (c : Dev nD) (n : ℕ) (h : n ≤ cfg1.N) (hn : n % 4 = 0) : PhiS1 V c n h = Pipeline.ΦA spec1 c := by
  unfold PhiS1; rw [dif_pos hn]

theorem PhiS1_later (c : Dev nD) (n : ℕ) (h : n ≤ cfg1.N) (hn : n % 4 ≠ 0) :
    PhiS1 V c n h = restAt1 c (quantAct (iblk1 V c 1 ⟨n - 1, by omega⟩)) (rowScale (iblk1 V c 1 ⟨n - 1, by omega⟩)) := by
  unfold PhiS1; rw [dif_neg hn]

/-- What a point leaves is the invariant before the next. -/
theorem PhiS1_next (c : Dev nD) (t : Fin cfg1.N) :
    restAt1 c (quantAct (iblk1 V c 1 t)) (rowScale (iblk1 V c 1 t)) ⊢ PhiS1 V c (t.val + 1) t.isLt := by
  by_cases hn : (t.val + 1) % 4 = 0
  · rw [PhiS1_first V c _ _ hn]; exact restAt1_PhiA c _ _
  · rw [PhiS1_later V c _ _ hn]; exact .rfl

/-! ## The pipeline's proof data -/

/-- The proof data of pipeline 1 on core `c`: the arrays as the region finds them (`V`); after the body at
    point `t` each input's buffer at its block and each output's at what the body computes from the blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => product (iblk1 V c 0 t) (quantAct (iblk1 V c 1 t)) (iblk1 V c 2 t) (rowScale (iblk1 V c 1 t))
    | ⟨4, _⟩ => quantCodes (iblk1 V c 1 t)
    | ⟨5, _⟩ => quantScale (iblk1 V c 1 t)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = product (iblk1 V c 0 t) (quantAct (iblk1 V c 1 t)) (iblk1 V c 2 t) (rowScale (iblk1 V c 1 t)) := by dsimp only [dat1]
theorem after1_4 (c : Dev nD) (t : Fin cfg1.N) : (dat1 V c).after 4 t = quantCodes (iblk1 V c 1 t) := by dsimp only [dat1]
theorem after1_5 (c : Dev nD) (t : Fin cfg1.N) : (dat1 V c).after 5 t = quantScale (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The block of activations changes only at the first of every four points. -/
theorem iblk1_1_keep (c : Dev nD) (t : Fin cfg1.N) (ht : t.val % 4 ≠ 0) :
    iblk1 V c 1 t = iblk1 V c 1 ⟨t.val - 1, Nat.lt_of_le_of_lt (Nat.sub_le _ _) t.isLt⟩ := by
  have d : (cfg1.win 1).block.Idx → Elt F (cfg1.win 1).elt := iblk1 V c 1 t
  rw [← before1_1 V c t d, (dat1 V c).before_unfetched_in 1 rfl t (Bool.eq_false_iff.mpr fun e => ht ((fetch1_1 t).mp e)) (fun _ => rfl) d]
  unfold Dat.kept
  rw [Pipeline.fill_of_clip_none 1 _ (fun _ => rfl) d ((dat1 V c).after 1 _), Window.fill_cut, after1_1]

/-- The outputs kept from the first column are found, at the later ones, as they are to be left. -/
theorem before1_4 (c : Dev nD) (t : Fin cfg1.N) (ht : t.val % 4 ≠ 0) (d) : (dat1 V c).before 4 t d = (dat1 V c).after 4 t :=
  before_carry (dat1 V c) 4 rfl (fun _ _ => rfl) (fun t => (flush1_4 t).mp) idle4 (fun t ht => by rw [after1_4, after1_4, iblk1_1_keep V c t ht]) t.val t rfl ht d
where
  /-- (idle points are later columns) -/
  idle4 (t : Fin cfg1.N) (h : cfg1.idle 4 (cfg1.grid.coords t) = true) : t.val % 4 ≠ 0 := fun e => by
    have hc : k1_cond1 (grid1.coords t) = 1#1 := (hcond1_0 t).mpr e
    have h' : (!(k1_cond1 (grid1.coords t) == 1#1)) = true := h
    rw [hc] at h'; exact absurd h' (by decide)
theorem before1_5 (c : Dev nD) (t : Fin cfg1.N) (ht : t.val % 4 ≠ 0) (d) : (dat1 V c).before 5 t d = (dat1 V c).after 5 t :=
  before_carry (dat1 V c) 5 rfl (fun _ _ => rfl) (fun t => (flush1_5 t).mp) before1_4.idle4 (fun t ht => by rw [after1_5, after1_5, iblk1_1_keep V c t ht]) t.val t rfl ht d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ (dat1 V c).leavesExact 4 t
    ∗ (dat1 V c).leavesExact 5 t)

theorem Phi1_castSucc (c : Dev nD) (t : Fin cfg1.N) : (dat1 V c).Φ t.castSucc = PhiS1 V c t.val (Nat.le_of_lt t.isLt) := by
  dsimp only [dat1]; exact Pipeline.Dat.Φ_castSucc (PhiS1 V c) t

theorem Phi1_succ (c : Dev nD) (t : Fin cfg1.N) : (dat1 V c).Φ t.succ = PhiS1 V c (t.val + 1) t.isLt := by
  dsimp only [dat1]; exact at_succ (PhiS1 V c) t
where
  /-- (at a variable bound) -/
  at_succ {α : Sort _} {N : Nat} (S : (n : Nat) → n ≤ N → α) (t : Fin N) :
    S (Fin.succ t).val (Nat.le_of_lt_succ (Fin.succ t).isLt) = S (t.val + 1) t.isLt := rfl

/-- After the last point the scratch buffers hold anything. -/
theorem Phi1_last (c : Dev nD) : (dat1 V c).Φ (Fin.last cfg1.N) = Pipeline.ΦA spec1 c := by
  dsimp only [dat1]
  exact (at_last (PhiS1 V c)).trans (PhiS1_first V c _ _ (by show grid1.N % 4 = 0; rw [N_1]))
where
  /-- (at a variable bound) -/
  at_last {α : Sort _} {N : Nat} (S : (n : Nat) → n ≤ N → α) : S (Fin.last N).val (Nat.le_of_lt_succ (Fin.last N).isLt) = S N (Nat.le_refl N) := rfl

/-- Before the first point as well. -/
theorem Phi1_zero (c : Dev nD) : (dat1 V c).Φ 0 = Pipeline.ΦA spec1 c := by
  dsimp only [dat1]
  exact PhiS1_first V c _ _ rfl

set_option maxHeartbeats 800000 in
/-- The body at the first of every four points. -/
theorem sound_body1_A (c : Dev nD) (t : Fin cfg1.N) (ht : t.val % 4 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl, after1_0, after1_1, after1_2, after1_3,
    Phi1_castSucc, Phi1_succ, PhiS1_first V c _ _ ht, PhiA1_eq]
  have hi : ∀ d, cfg1.idle 4 (cfg1.grid.coords t) = true → (dat1 V c).before 4 t d = (dat1 V c).after 4 t := fun d h =>
    absurd ht (before1_4.idle4 t h)
  have hi' : ∀ d, cfg1.idle 5 (cfg1.grid.coords t) = true → (dat1 V c).before 5 t d = (dat1 V c).after 5 t := fun d h =>
    absurd ht (before1_4.idle4 t h)
  iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩⟩
  iapply (run1_A c (grid1.coords t) _ _ _ _ _ _ _ _ _ _ _ _ _ _ _ _ ((hcond1_0 t).mpr ht) (iblk1 V c 0 t) (iblk1 V c 1 t) (iblk1 V c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HR0 HR1 HR2 HR3 HR4 HR5 HS0 HS1 Hg]
  · iapply (PhiS1_next V c t)
    unfold restAt1
    isplitr [Hg]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]
  · iapply (leaves_of_after (dat1 V c) 4 t d4 (hi d4))
    rw [after1_4]; iexact H4
  iapply (leaves_of_after (dat1 V c) 5 t d5 (hi' d5))
  rw [after1_5]; iexact H5

set_option maxHeartbeats 800000 in
/-- The body at the other points. -/
theorem sound_body1_B (c : Dev nD) (t : Fin cfg1.N) (ht : t.val % 4 ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_4 V c t ht, before1_5 V c t ht]
  rw [show (dat1 V c).owesAt () t.succ = (dat1 V c).owesAt () t.castSucc from rfl, after1_0, after1_1, after1_2, after1_3,
    Phi1_castSucc, Phi1_succ, PhiS1_later V c _ _ ht, ← iblk1_1_keep V c t ht]
  unfold restAt1
  iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩⟩
  iapply (run1_B c (grid1.coords t) _ _ _ _ _ _ _ _ _ (hs1_4 t) _ (hs1_5 t) _ _ _ _ (fun h => ht ((hcond1_0 t).mp h)) (iblk1 V c 0 t) (iblk1 V c 1 t) (iblk1 V c 2 t)
    (quantAct (iblk1 V c 1 t)) (rowScale (iblk1 V c 1 t)) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HR0 HR1 HR2 HR3 HR4 HR5 HS0 HS1 Hg]
  · iapply (PhiS1_next V c t)
    unfold restAt1
    isplitr [Hg]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]
  · iapply (leaves_of_after (dat1 V c) 4 t d4 (fun _ => before1_4 V c t ht d4))
    iexact H4
  iapply (leaves_of_after (dat1 V c) 5 t d5 (fun _ => before1_5 V c t ht d5))
  iexact H5

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  by_cases ht : t.val % 4 = 0
  · exact sound_body1_A V c t ht
  · exact sound_body1_B V c t ht

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Ideal.Run.lean ====
/- The run of the whole program: the contents of the buffers between its three segments (the decoder, the host reshapes, the
   product), the segments as the library's records, and the run: it terminates, the arguments end as launched, every counter
   ends at zero, and each result array ends as the second region's write-backs leave it. The text follows the generated
   certificates. -/
module

public import proofs.«01_k».proof.Proof.Ideal.Region0
public import proofs.«01_k».proof.Proof.Ideal.Region1

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1, main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1_zero (V2 m ρ) c]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from Phi1_last (V2 m ρ) c]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: at the compiled mesh, from any memory with zero counters, every weakly fair execution of @main terminates, nothing
    faulting, and every final state has the result arrays at the second region's write-backs, the argument arrays as launched and
    every semaphore counter at zero. -/
theorem runs : θ_run defs (onTc (τ := τ) (main (F := F))) ⟨m, fun _ => 0, ρ⟩ (fun r => (∀ c : Dev nD,
      r.2.mem ((c.tc : Thread nD τ).loc main_v3_0) = (dat1 (V2 m ρ) c).arrAt 3 cfg1.N
      ∧ r.2.mem ((c.tc : Thread nD τ).loc main_v3_1) = (dat1 (V2 m ρ) c).arrAt 4 cfg1.N
      ∧ r.2.mem ((c.tc : Thread nD τ).loc main_v3_2) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_v3_0 (by decide))).trans (W3_arr m ρ c 3),
       (h c _ (mem_uc main_v3_1 (by decide))).trans (W3_arr m ρ c 4),
       (h c _ (mem_uc main_v3_2 (by decide))).trans (W3_arr m ρ c 5),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩), funext fun g => hz g (.inr (no_unscoped g.2))⟩)

/-- The frame: the run without the results. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2.2, h.2⟩) (runs m ρ)

end Cert.KernelIdeal.Gen

end
-- ==== Proof.Ideal.BlockCodes.lean ====
/- The codes and the scale of a block, entry by entry. -/
module

public import proofs.«01_k».proof.Proof.Ideal.Region1
public import Idealize.ShloMosaic.Lib.Pointwise

@[expose] public section

set_option maxRecDepth 16384

noncomputable section

namespace Cert.KernelIdeal.Gen

open Idealize.ShloMosaic

/-- The code at row `r`, column `j`: the entry times the reciprocal scale, clipped to ±448. -/
theorem act_apply (x : Vec Ideal S512x5120 .bf16) (r : Fin 512) (j : Fin 5120) :
    quantAct x (ix2 r j) = min (Ideal.ofBits .f32 0x43E00000#32) (max (Ideal.ofBits .f32 0xC3E00000#32)
      (x (ix2 r j) * Ideal.ofBits .f32 (IntOp.shli .vector (IntOp.subi 127#32 (k1_pay7 x (ix2 r 0))) 23#32))) := by
  unfold quantAct k1_pay2 k1_pay1 k1_pay8 k1_pay9 k1_pay6
  pointwise []

/-- The stored codes and the codes kept for the product are one array. -/
theorem codes_apply (x : Vec Ideal S512x5120 .bf16) (r : Fin 512) (j : Fin 5120) :
    quantCodes x (ix2 r j) = quantAct x (ix2 r j) := by
  unfold quantCodes quantAct k1_pay2
  pointwise []

/-- The scale of row `r`. -/
theorem scale_apply (x : Vec Ideal S512x5120 .bf16) (r : Fin 512) (j : Fin 1) :
    quantScale x (ix2 r j) = Ideal.ofBits .f32 (IntOp.shli .vector (IntOp.addi (k1_pay7 x (ix2 r j)) 127#32) 23#32) := by
  unfold quantScale k1_pay3
  pointwise []

theorem rowScale_apply (x : Vec Ideal S512x5120 .bf16) (r : Fin 512) (j : Fin 1) :
    rowScale x (ix2 r j) = quantScale x (ix2 r j) := by
  unfold rowScale quantScale k1_pay4
  pointwise []

/-- The product's block at row `r`, column `j`. -/
theorem product_apply (g : Vec Ideal S1 .f32) (a : Vec Ideal S512x5120 .bf16) (w : Vec Ideal S5120x1280 .bf16) (b : Vec Ideal S512x1 .f32)
    (r : Fin 512) (j : Fin 1280) :
    product g a w b (ix2 r j) = (∑ k : Fin 5120, a (ix2 r k) * w (ix2 k j)) * b (ix2 r 0) * g (ix1 0) := by
  unfold product k1_pay5
  pointwise []
  rw [show (Shape.Idx.first (Nat.lt_of_lt_of_eq Nat.one_pos numel1_S1.symm) : S1.Idx) = ix1 0 from by
    rw [eq_ix1 (Shape.Idx.first _)]; exact congrArg ix1 (Subsingleton.elim (α := Fin 1) _ _)]

end Cert.KernelIdeal.Gen

end
-- ==== Proof.Exponent.lean ====
/- The arithmetic of the power-of-two scale, over the extended reals and free of any program: the word the kernel counts out of
   a row's value (`word`), the exponent the reference takes from a logarithm (`logExponent`), and the equality of both with one
   integer, `expo`. -/
module

public import Idealize.ShloMosaic.PureOps.Ideal
public import Idealize.ShloMosaic.PureOps.Ideal.Laws
public import Idealize.ShloMosaic.Lib.IdealHost
public import Idealize.ShloMosaic.Lib.Pointwise

@[expose] public section

noncomputable section

namespace Cert.Exponent

open Idealize.ShloMosaic

/-! ## The integer both programs mean -/

/-- The floor of the logarithm to base 2. -/
def ilog (r : ℝ) : ℤ := ⌊Real.log r / Real.log 2⌋

theorem zpow_le_iff {r : ℝ} (hr : 0 < r) (x : ℤ) : (2 : ℝ) ^ x ≤ r ↔ x ≤ ilog r := by
  have hl : 0 < Real.log 2 := Real.log_pos (by norm_num)
  rw [ilog, Int.le_floor, le_div_iff₀ hl, ← Real.log_zpow, Real.log_le_log_iff (by positivity) hr]

/-- The exponent `e` with `2 ^ (e - 1) ≤ r < 2 ^ e` of a positive real that is a normal number of the 32-bit format, and 0 below
    the least normal number. -/
def expo (r : ℝ) : ℤ := if r < (2 : ℝ) ^ (-126 : ℤ) then 0 else ilog r + 1

theorem expo_bounds {r : ℝ} (h : r < (2 : ℝ) ^ (120 : ℤ)) : -125 ≤ expo r ∧ expo r ≤ 120 := by
  unfold expo
  split
  · omega
  · rename_i hr
    have hpos : 0 < r := lt_of_lt_of_le (by positivity) (not_lt.mp hr)
    have h1 : (-126 : ℤ) ≤ ilog r := (zpow_le_iff hpos _).mp (not_lt.mp hr)
    have h2 : ¬ (120 : ℤ) ≤ ilog r := fun hle => absurd ((zpow_le_iff hpos _).mpr hle) (not_le.mpr h)
    omega

/-! ## The words that are powers of two -/

theorem shifted_fields : ∀ k : Fin 256,
    ((IntOp.shli .vector (BitVec.ofNat 32 k) 23#32).extractLsb' 31 1 = 0#1) ∧
    ((IntOp.shli .vector (BitVec.ofNat 32 k) 23#32).extractLsb' 23 8).toNat = k.val ∧
    ((IntOp.shli .vector (BitVec.ofNat 32 k) 23#32).extractLsb' 0 23).toNat = 0 := by
  decide +kernel

/-- A word with a clear sign and an empty fraction is a power of two, infinity or zero by its exponent field. -/
theorem ieee_power (b : BitVec 32) (k : ℕ) (hs : b.extractLsb' 31 1 = 0#1) (he : (b.extractLsb' 23 8).toNat = k)
    (hf : (b.extractLsb' 0 23).toNat = 0) :
    Ideal.ofBits .f32 b = if k = 255 then ⊤ else if k = 0 then 0 else (((2 : ℝ) ^ ((k : ℤ) - 127) : ℝ) : EReal) := by
  have hu : Ideal.ofBits .f32 b = Ideal.ieee 8 23 b := rfl
  rw [hu]
  unfold Ideal.ieee
  simp only [show (8 + 23 : ℕ) = 31 from rfl, hs, he, hf]
  by_cases h255 : k = 255
  · subst h255; simp
  · by_cases h0 : k = 0
    · subst h0; simp
    · rw [if_neg (by omega), if_neg h0, if_neg h255, if_neg h0]
      congr 1
      have : ((k : ℤ) - 127) = 23 + ((k : ℤ) - (2 ^ (8 - 1) - 1) - (23 : ℕ)) := by norm_num
      rw [this, zpow_add₀ (by norm_num : (2 : ℝ) ≠ 0)]
      norm_num

/-- The word with exponent field `k` and nothing else is the power of two `2 ^ (k - 127)`. -/
theorem bits_shifted {k : ℕ} (h1 : 1 ≤ k) (h2 : k ≤ 254) :
    Ideal.ofBits .f32 (IntOp.shli .vector (BitVec.ofNat 32 k) 23#32) = (((2 : ℝ) ^ ((k : ℤ) - 127) : ℝ) : EReal) := by
  obtain ⟨hs, he, hf⟩ := shifted_fields ⟨k, by omega⟩
  rw [ieee_power _ k hs he hf, if_neg (by omega), if_neg (by omega)]

theorem bits_shifted_255 : Ideal.ofBits .f32 (IntOp.shli .vector (BitVec.ofNat 32 255) 23#32) = ⊤ := by
  obtain ⟨hs, he, hf⟩ := shifted_fields ⟨255, by omega⟩
  rw [ieee_power _ 255 hs he hf, if_pos rfl]

/-! ## The kernel's count -/

/-- How many of the powers of two with exponent fields 1 … 255 a value reaches. -/
def count (v : EReal) : EReal := ∑ k : Fin 256,
  Scalar.select (IntOp.andi (BitVec.ofBool (decide (Ideal.ofBits .f32 (IntOp.shli .vector (BitVec.ofNat 32 k) 23#32) ≤ v)))
    (IntOp.cmpi .sge (BitVec.ofNat 32 k) 1#32)) 1 0

/-- The kernel's exponent: the count less 126, or 0 where the count is 0 or 255. -/
def word (v : EReal) : BitVec 32 :=
  Scalar.select (IntOp.ori (IntOp.cmpi .eq (Ideal.fptosi 32 (count v)) 0#32) (IntOp.cmpi .eq (Ideal.fptosi 32 (count v)) 255#32))
    0#32 (IntOp.subi (Ideal.fptosi 32 (count v)) 126#32)

theorem sge_one : ∀ k : Fin 256, IntOp.cmpi .sge (BitVec.ofNat 32 k) 1#32 = BitVec.ofBool (decide (1 ≤ k.val)) := by
  decide +kernel

theorem select_and (a b : Bool) : Scalar.select (IntOp.andi (BitVec.ofBool a) (BitVec.ofBool b)) (1 : EReal) 0 = if a = true ∧ b = true then 1 else 0 := by
  cases a <;> cases b <;> simp [Scalar.select, IntOp.andi]

/-- The count of a value that reaches exactly the powers with fields 1 … `m` is `m`. -/
theorem count_eq {v : EReal} {m : ℕ} (hm : m ≤ 255)
    (h : ∀ k : Fin 256, 1 ≤ k.val → (Ideal.ofBits .f32 (IntOp.shli .vector (BitVec.ofNat 32 k) 23#32) ≤ v ↔ k.val ≤ m)) :
    count v = ((m : ℝ) : EReal) := by
  unfold count
  have : ∀ k : Fin 256, Scalar.select (IntOp.andi (BitVec.ofBool (decide (Ideal.ofBits .f32 (IntOp.shli .vector (BitVec.ofNat 32 k) 23#32) ≤ v)))
      (IntOp.cmpi .sge (BitVec.ofNat 32 k) 1#32)) (1 : EReal) 0 = (fun n : ℕ => if 1 ≤ n ∧ n ≤ m then (1 : EReal) else 0) k.val := by
    intro k
    rw [sge_one, select_and]
    simp only [decide_eq_true_eq]
    by_cases hk : 1 ≤ k.val
    · simp [hk, h k hk]
    · simp [hk]
  rw [Finset.sum_congr rfl fun k _ => this k, Fin.sum_univ_eq_sum_range (fun n : ℕ => if 1 ≤ n ∧ n ≤ m then (1 : EReal) else 0) 256,
    Finset.sum_boole]
  have hc : (Finset.range 256).filter (fun n => 1 ≤ n ∧ n ≤ m) = Finset.Icc 1 m := by
    ext n; simp only [Finset.mem_filter, Finset.mem_range, Finset.mem_Icc]; omega
  rw [hc, Nat.card_Icc]
  simp

theorem fptosi_nat {m : ℕ} (hm : m ≤ 255) : Ideal.fptosi 32 ((m : ℝ) : EReal) = BitVec.ofNat 32 m := by
  unfold Ideal.fptosi
  have : Ideal.toIntClamped (-(2 ^ (32 - 1) : ℕ)) ((2 ^ (32 - 1) : ℕ) - 1) ((m : ℝ) : EReal) = (m : ℤ) := by
    show max _ (min _ (if (0 : ℝ) ≤ (m : ℝ) then ⌊(m : ℝ)⌋ else ⌈(m : ℝ)⌉)) = _
    rw [if_pos (Nat.cast_nonneg m), Int.floor_natCast]
    norm_num
    omega
  rw [this, BitVec.ofInt_natCast]

theorem word_of_count {v : EReal} {m : ℕ} (hm : m ≤ 254) (h : count v = ((m : ℝ) : EReal)) :
    word v = if m = 0 then 0#32 else BitVec.ofInt 32 ((m : ℤ) - 126) := by
  unfold word
  rw [h, fptosi_nat (by omega)]
  have key : ∀ m : Fin 255, Scalar.select (IntOp.ori (IntOp.cmpi .eq (BitVec.ofNat 32 m) 0#32) (IntOp.cmpi .eq (BitVec.ofNat 32 m) 255#32))
      0#32 (IntOp.subi (BitVec.ofNat 32 m) 126#32) = if m.val = 0 then 0#32 else BitVec.ofInt 32 ((m.val : ℤ) - 126) := by
    decide +kernel
  exact key ⟨m, by omega⟩

/-- THE KERNEL'S EXPONENT of a value below `2 ^ 120` is `expo`. -/
theorem word_eq {r : ℝ} (h : r < (2 : ℝ) ^ (120 : ℤ)) : word (r : EReal) = BitVec.ofInt 32 (expo r) := by
  by_cases hr : r < (2 : ℝ) ^ (-126 : ℤ)
  · have hc : count (r : EReal) = (((0 : ℕ) : ℝ) : EReal) := by
      refine count_eq (by omega) fun k hk => ?_
      by_cases h5 : k.val = 255
      · rw [h5, bits_shifted_255]; simp
      · rw [bits_shifted hk (by omega), EReal.coe_le_coe_iff]
        refine ⟨fun hle => absurd hle (not_le.mpr (lt_of_lt_of_le hr ?_)), fun h0 => absurd h0 (by omega)⟩
        exact zpow_le_zpow_right₀ (by norm_num) (by omega)
    rw [word_of_count (by omega) hc, expo, if_pos hr]; rfl
  · have hpos : 0 < r := lt_of_lt_of_le (by positivity) (not_lt.mp hr)
    have hb := expo_bounds h
    rw [expo, if_neg hr] at hb
    obtain ⟨m, hm⟩ : ∃ m : ℕ, (m : ℤ) = ilog r + 127 := ⟨(ilog r + 127).toNat, by omega⟩
    have hc : count (r : EReal) = ((m : ℝ) : EReal) := by
      refine count_eq (by omega) fun k hk => ?_
      by_cases h5 : k.val = 255
      · rw [h5, bits_shifted_255]; simp; omega
      · rw [bits_shifted hk (by omega), EReal.coe_le_coe_iff]
        rw [zpow_le_iff hpos]; omega
    rw [word_of_count (by omega) hc, expo, if_neg hr, if_neg (by omega)]
    congr 1; omega

/-- The kernel's scale: the word `e + 127` in the exponent field. -/
theorem scale_eq {r : ℝ} (h : r < (2 : ℝ) ^ (120 : ℤ)) :
    Ideal.ofBits .f32 (IntOp.shli .vector (IntOp.addi (word (r : EReal)) 127#32) 23#32) = (((2 : ℝ) ^ expo r : ℝ) : EReal) := by
  have hb := expo_bounds h
  obtain ⟨k, hk⟩ : ∃ k : ℕ, (k : ℤ) = expo r + 127 := ⟨(expo r + 127).toNat, by omega⟩
  have : IntOp.addi (word (r : EReal)) 127#32 = BitVec.ofNat 32 k := by
    rw [word_eq h, ← BitVec.ofInt_natCast (n := k), hk, BitVec.ofInt_add]; rfl
  rw [this, bits_shifted (by omega) (by omega)]
  congr 2; omega

/-- The kernel's reciprocal of the scale: the word `127 - e` in the exponent field. -/
theorem inverse_eq {r : ℝ} (h : r < (2 : ℝ) ^ (120 : ℤ)) :
    Ideal.ofBits .f32 (IntOp.shli .vector (IntOp.subi 127#32 (word (r : EReal))) 23#32) = (((2 : ℝ) ^ (-expo r) : ℝ) : EReal) := by
  have hb := expo_bounds h
  obtain ⟨k, hk⟩ : ∃ k : ℕ, (k : ℤ) = 127 - expo r := ⟨(127 - expo r).toNat, by omega⟩
  have : IntOp.subi 127#32 (word (r : EReal)) = BitVec.ofNat 32 k := by
    rw [word_eq h, ← BitVec.ofInt_natCast (n := k), hk, sub_eq_add_neg, BitVec.ofInt_add, BitVec.ofInt_neg, ← BitVec.sub_eq_add_neg]; rfl
  rw [this, bits_shifted (by omega) (by omega)]
  congr 2; omega

/-! ## The reference's logarithm -/

theorem bits_two : Ideal.ofBits .f32 0x40000000#32 = ((2 : ℝ) : EReal) := by
  have := bits_shifted (k := 128) (by omega) (by omega)
  rw [show IntOp.shli .vector (BitVec.ofNat 32 128) 23#32 = 0x40000000#32 from by decide +kernel] at this
  rw [this]; norm_num

theorem bits_tiny : Ideal.ofBits .f32 0x00800000#32 = (((2 : ℝ) ^ (-126 : ℤ) : ℝ) : EReal) := by
  have := bits_shifted (k := 1) (by omega) (by omega)
  rw [show IntOp.shli .vector (BitVec.ofNat 32 1) 23#32 = 0x00800000#32 from by decide +kernel] at this
  rw [this]; norm_num

/-- A value below the least normal number taken as 0. -/
def flush (v : EReal) : EReal :=
  Scalar.select (BitVec.ofBool (decide (v < Ideal.ofBits .f32 0x00800000#32))) 0 v

/-- The reference's exponent: the floor of the logarithm to base 2, plus one; 0 at 0. -/
def logExponent (v : EReal) : EReal :=
  Scalar.select (BitVec.ofBool (decide (flush v = 0))) 0
    (Ideal.liftRound Int.floor (Ideal.div (Ideal.log (flush v)) (Ideal.log (Ideal.ofBits .f32 0x40000000#32))) + 1)

theorem select_ofBool {α : Type} (b : Bool) (x y : α) : Scalar.select (BitVec.ofBool b) x y = if b = true then x else y := by
  cases b <;> rfl

/-- THE REFERENCE'S EXPONENT is `expo`. -/
theorem logExponent_eq {r : ℝ} : logExponent (r : EReal) = (((expo r : ℤ) : ℝ) : EReal) := by
  unfold logExponent flush
  simp only [select_ofBool, decide_eq_true_eq, bits_tiny, EReal.coe_lt_coe_iff]
  by_cases hr : r < (2 : ℝ) ^ (-126 : ℤ)
  · rw [if_pos hr, if_pos rfl, expo, if_pos hr]; simp
  · have hpos : 0 < r := lt_of_lt_of_le (by positivity) (not_lt.mp hr)
    rw [if_neg hr, if_neg (by exact_mod_cast hpos.ne'), bits_two]
    have h2 : Ideal.log ((2 : ℝ) : EReal) = ((Real.log 2 : ℝ) : EReal) := by
      show (if (2 : ℝ) ≤ 0 then (⊥ : EReal) else _) = _
      rw [if_neg (by norm_num)]
    have h1 : Ideal.log (r : EReal) = ((Real.log r : ℝ) : EReal) := by
      show (if r ≤ 0 then (⊥ : EReal) else _) = _
      rw [if_neg (not_le.mpr hpos)]
    have hl : Real.log 2 ≠ 0 := (Real.log_pos (by norm_num)).ne'
    rw [h1, h2, Ideal.div_coe hl, ← EReal.coe_mul, mul_one_div]
    show ((((⌊Real.log r / Real.log 2⌋ : ℤ) : ℝ) : ℝ) : EReal) + 1 = _
    rw [expo, if_neg hr, ilog]
    push_cast
    rfl

/-- A power of two with an integer exponent, as the host's `power` gives it. -/
theorem pow_two (e : ℤ) : Ideal.pow (Ideal.ofBits .f32 0x40000000#32) (((e : ℤ) : ℝ) : EReal) = (((2 : ℝ) ^ e : ℝ) : EReal) := by
  rw [bits_two]
  show ((Real.rpow 2 (e : ℝ) : ℝ) : EReal) = _
  congr 1
  exact Real.rpow_intCast 2 e

end Cert.Exponent

end
-- ==== Proof.Ideal.BlockScale.lean ====
/- What the quantising part of region 1's body computes from a block of 512 rows, entry by entry at the ideal reading: the word of
   a row's exponent, the scale and the clipped codes. -/
module

public import proofs.«01_k».proof.Proof.Ideal.Region1
public import proofs.«01_k».proof.Proof.Exponent
public import Idealize.ShloMosaic.Lib.Pointwise

@[expose] public section

set_option maxRecDepth 16384

noncomputable section

namespace Cert.KernelIdeal.Gen

open Idealize.ShloMosaic

/-- A row's largest magnitude times the 32-bit constant nearest 1/448. -/
def rowValue (f : Fin 5120 → EReal) : EReal :=
  Finset.fold max (Ideal.ofBits .bf16 0xFF80#16) (fun k => FloatOps.absf (F := Ideal) (φ := .bf16) (f k)) Finset.univ * Ideal.ofBits .f32 0x3B124925#32

/-- The exponent of row `r` of the block, as the word the body keeps. -/
theorem exponent_apply (x : Vec Ideal S512x5120 .bf16) (r : Fin 512) (j : Fin 1) :
    k1_pay7 x (ix2 r j) = Cert.Exponent.word (rowValue fun k => x (ix2 r k)) := by
  unfold_payloads
  pointwise []
  rfl

end Cert.KernelIdeal.Gen

end
-- ==== Proof.Ideal.QuantArrays.lean ====
/- What region 1 leaves in its three result arrays, entry by entry, from the arrays it is entered with. -/
module

public import proofs.«01_k».proof.Proof.Ideal.BlockCodes
public import proofs.«01_k».proof.Proof.Ideal.BlockScale
public import Idealize.ShloMosaic.Lib.Pipeline.ValueKit

@[expose] public section

set_option maxRecDepth 16384

noncomputable section

namespace Cert.KernelIdeal.Gen

open Idealize.ShloMosaic Idealize.ShloMosaic.TcCoe
open Idealize.ShloMosaic.Pipeline (Dat)

/-- A row's scale, from its entries: the power of two whose exponent the body finds. -/
def scaleOf (f : Fin 5120 → EReal) : EReal :=
  Ideal.ofBits .f32 (IntOp.shli .vector (IntOp.addi (Cert.Exponent.word (rowValue f)) 127#32) 23#32)

/-- An entry's code: the entry times the inverse power of two, clipped. -/
def codeOf (f : Fin 5120 → EReal) (k : Fin 5120) : EReal :=
  min (Ideal.ofBits .f32 0x43E00000#32) (max (Ideal.ofBits .f32 0xC3E00000#32)
    (f k * Ideal.ofBits .f32 (IntOp.shli .vector (IntOp.subi 127#32 (Cert.Exponent.word (rowValue f))) 23#32)))

theorem act_row (x : Vec Ideal S512x5120 .bf16) (r : Fin 512) (j : Fin 5120) :
    quantAct x (ix2 r j) = codeOf (fun k => x (ix2 r k)) j := by
  rw [act_apply, exponent_apply]; rfl

theorem scale_row (x : Vec Ideal S512x5120 .bf16) (r : Fin 512) (j : Fin 1) :
    quantScale x (ix2 r j) = scaleOf fun k => x (ix2 r k) := by
  rw [scale_apply, exponent_apply]; rfl

variable (V : (c : Dev nD) → (b : Ref sig .tc) → Buf (Elt Ideal) ((c : Thread nD τ).loc b))

theorem index1_1 : ∀ t : Fin cfg1.N, win1_1.index t = ![(grid1.coords t 0).val, 0] := by decide +kernel
theorem index1_2 : ∀ t : Fin cfg1.N, win1_2.index t = ![0, (grid1.coords t 1).val] := by decide +kernel
theorem index1_3 : ∀ t : Fin cfg1.N, win1_3.index t = ![(grid1.coords t 0).val, (grid1.coords t 1).val] := by decide +kernel
theorem index1_4 : ∀ t : Fin cfg1.N, win1_4.index t = ![(grid1.coords t 0).val, 0] := by decide +kernel
theorem index1_5 : ∀ t : Fin cfg1.N, win1_5.index t = ![(grid1.coords t 0).val, 0] := by decide +kernel
theorem index1_0 : ∀ t : Fin cfg1.N, win1_0.index t = ![0] := by decide +kernel

theorem coords1 (t : Fin cfg1.N) : (grid1.coords t 0).val < 24 ∧ (grid1.coords t 1).val < 4 := ⟨(grid1.coords t 0).isLt, (grid1.coords t 1).isLt⟩

theorem block1_1 (c : Dev nD) (t : Fin cfg1.N) (a : Fin 512) (k : Fin 5120) (r : Fin 12288) (hr : r.val = (grid1.coords t 0).val * 512 + a) :
    iblk1 V c 1 t (ix2 a k) = V c main_v2 (ix2 r k) := by
  blk_ext [iblk1, index1_1 t]

theorem block1_2 (c : Dev nD) (t : Fin cfg1.N) (k : Fin 5120) (b : Fin 1280) (j : Fin 5120) (hj : j.val = (grid1.coords t 1).val * 1280 + b) :
    iblk1 V c 2 t (ix2 k b) = V c main_v0 (ix2 k j) := by
  blk_ext [iblk1, index1_2 t]

theorem block1_0 (c : Dev nD) (t : Fin cfg1.N) : iblk1 V c 0 t (ix1 0) = V c main_v1 (ix1 0) := by
  blk_ext [iblk1, index1_0 t]

theorem row_eq (c : Dev nD) (t : Fin cfg1.N) (a : Fin 512) (r : Fin 12288) (hr : r.val = (grid1.coords t 0).val * 512 + a) :
    (fun k => iblk1 V c 1 t (ix2 a k)) = fun k => V c main_v2 (ix2 r k) := funext fun k => block1_1 V c t a k r hr

theorem codes_at (c : Dev nD) (t : Fin cfg1.N) (y : S512x5120.Idx) (r : Fin 12288) (j : Fin 5120)
    (hr : r.val = (grid1.coords t 0).val * 512 + (y 0).val) (hj : j.val = (y 1).val) :
    quantCodes (iblk1 V c 1 t) y = codeOf (fun k => V c main_v2 (ix2 r k)) j := by
  rw [eq_ix2 y]
  refine (codes_apply _ _ _).trans ((act_row _ _ _).trans ?_)
  rw [row_eq V c t (y 0) r hr, show (y 1) = j from Fin.ext hj.symm]

theorem scale_at (c : Dev nD) (t : Fin cfg1.N) (y : S512x1.Idx) (r : Fin 12288) (hr : r.val = (grid1.coords t 0).val * 512 + (y 0).val) :
    quantScale (iblk1 V c 1 t) y = scaleOf fun k => V c main_v2 (ix2 r k) := by
  rw [eq_ix2 y]
  refine (scale_row _ _ _).trans ?_
  rw [row_eq V c t (y 0) r hr]

/-- A product's entry, from a row of activations, the weights and the one number that scales everything. -/
def productOf (f : Fin 5120 → EReal) (w : S5120x5120.Idx → EReal) (g : EReal) (j : Fin 5120) : EReal :=
  (∑ k : Fin 5120, codeOf f k * w (ix2 k j)) * scaleOf f * g

theorem product_at (c : Dev nD) (t : Fin cfg1.N) (y : S512x1280.Idx) (r : Fin 12288) (j : Fin 5120)
    (hr : r.val = (grid1.coords t 0).val * 512 + (y 0).val) (hj : j.val = (grid1.coords t 1).val * 1280 + (y 1).val) :
    product (iblk1 V c 0 t) (quantAct (iblk1 V c 1 t)) (iblk1 V c 2 t) (rowScale (iblk1 V c 1 t)) y
      = productOf (fun k => V c main_v2 (ix2 r k)) (V c main_v0) (V c main_v1 (ix1 0)) j := by
  rw [eq_ix2 y]
  refine (product_apply _ _ _ _ _ _).trans ?_
  unfold productOf
  rw [← row_eq V c t (y 0) r hr, block1_0]
  refine congrArg₂ _ (congrArg₂ _ (Finset.sum_congr rfl fun k _ => ?_) ?_) rfl
  · exact congrArg₂ _ (act_row _ (y 0) k) (block1_2 V c t k (y 1) j hj)
  · exact (rowScale_apply _ (y 0) 0).trans (scale_row _ (y 0) 0)

theorem product_array (c : Dev nD) : (dat1 V c).arrAt 3 cfg1.N
    = fun i : S12288x5120.Idx => productOf (fun k => V c main_v2 (ix2 (i 0) k)) (V c main_v0) (V c main_v1 (ix1 0)) (i 1) := by
  refine (dat1 V c).arrAt_eq_of_covers 3 _ (by decide +kernel) fun t hf y => ?_
  blk_simp
  rw [after1_3]
  exact product_at V c t y _ _ (by blk_simp [index1_3 t]) (by blk_simp [index1_3 t])

theorem codes_array (c : Dev nD) : (dat1 V c).arrAt 4 cfg1.N
    = fun i : S12288x5120.Idx => codeOf (fun k => V c main_v2 (ix2 (i 0) k)) (i 1) := by
  refine (dat1 V c).arrAt_eq_of_covers 4 _ (by decide +kernel) fun t hf y => ?_
  blk_simp
  rw [after1_4]
  exact codes_at V c t y _ _ (by blk_simp [index1_4 t]) (by blk_simp [index1_4 t])

theorem scale_array (c : Dev nD) : (dat1 V c).arrAt 5 cfg1.N
    = fun i : S12288x1.Idx => scaleOf fun k => V c main_v2 (ix2 (i 0) k) := by
  refine (dat1 V c).arrAt_eq_of_covers 5 _ (by decide +kernel) fun t hf y => ?_
  blk_simp
  rw [after1_5]
  exact scale_at V c t y _ (by blk_simp [index1_5 t])

end Cert.KernelIdeal.Gen

end
-- ==== Proof.Reference.Host.lean ====
/- What the reference's host operations leave: the row maximum, the scale, the clipped quotient before it is cast, the repeated scales
   of the weights, the global factor. The line is read in two parts, cut just after the row maximum. -/
module

public import proofs.«01_k».proof.Proof.Gen.ReferenceIdeal.Value
public import proofs.«01_k».proof.Proof.Exponent
public import Idealize.ShloMosaic.Lib.Pointwise
public import Idealize.ShloMosaic.Lib.StableHlo.ReadAt

@[expose] public section

set_option maxRecDepth 16384

noncomputable section

namespace Cert.ReferenceIdeal.Gen

open Idealize.ShloMosaic Idealize.ShloMosaic.TcCoe
open Cert.Exponent

variable (m : (ℓ : Loc nD τ sig) → Buf (Elt Ideal) ℓ)

/-- The host operations after the row maximum. -/
abbrev rest : List (HloOp τ sig (Elt Ideal)) :=
  List.flatten [List.drop 5 hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

/-- A line read in two parts. -/
theorem after_two (l k : List (HloOp τ sig (Elt Ideal))) (X : Valuation τ sig (Elt Ideal)) :
    StableHlo.after (l ++ k) X = StableHlo.after k (StableHlo.after l X) := by
  induction l generalizing X with
  | nil => rfl
  | cons op l ih => exact ih _

theorem V_two (c : Dev nD) (b : Ref sig .tc) :
    V m c b = StableHlo.after rest (StableHlo.after (List.take 5 hostOps0) (fun b => m (c, b))) b :=
  congrFun (after_two (List.take 5 hostOps0) rest (fun b => m (c, b))) b

/-- Row `r` of the first argument, its two leading axes taken as one. -/
def row (x : S3x4096x5120.Idx → EReal) (r : Fin 12288) (k : Fin 5120) : EReal := x (ix3 ⟨r.val / 4096, by omega⟩ ⟨r.val % 4096, by omega⟩ k)

/-- The largest magnitude of a row, times 1/448 as a rounded literal. -/
def rowRatio (f : Fin 5120 → EReal) : EReal :=
  Finset.fold max (Ideal.ofBits .f32 0xFF800000#32) (fun k => FloatOps.absf (F := Ideal) (φ := .f32) (f k)) Finset.univ * Ideal.ofBits .f32 0x3B124925#32

theorem head_v3 (c : Dev nD) (r : Fin 12288) :
    (StableHlo.after (List.take 5 hostOps0) (fun b => m (c, b)) main_v3 : S12288.Idx → EReal) (ix1 r)
      = Finset.fold max (Ideal.ofBits .f32 0xFF800000#32)
          (fun k => FloatOps.absf (F := Ideal) (φ := .f32) (row (m (c, Proc.tc.devRef main_arg0)) r k)) Finset.univ := by
  after_reads_at
  rfl

theorem head_v1 (c : Dev nD) (r : Fin 12288) (k : Fin 5120) :
    (StableHlo.after (List.take 5 hostOps0) (fun b => m (c, b)) main_v1 : S12288x5120.Idx → EReal) (ix2 r k)
      = row (m (c, Proc.tc.devRef main_arg0)) r k := by
  after_reads_at
  rfl

theorem rest_v21 (X : Valuation τ sig (Elt Ideal)) (r : Fin 12288) :
    (StableHlo.after rest X main_v21 : S12288x1.Idx → EReal) (ix2 r 0)
      = Ideal.pow (Ideal.ofBits .f32 0x40000000#32)
          (logExponent ((show S12288.Idx → EReal from X main_v3) (ix1 r) * Ideal.ofBits .f32 0x3B124925#32)) := by
  unfold_abbrev_sides
  after_reads_at
  simp only [logExponent, flush, select_ofBool, decide_eq_true_eq]
  simp only [show id (constant (F := Ideal) S_ FTy.f32 0#32) ix0 = (0 : EReal) from Ideal.ofBits_zero_f32]

theorem rest_v27 (X : Valuation τ sig (Elt Ideal)) (r : Fin 12288) (k : Fin 5120) :
    (StableHlo.after rest X main_v27 : S12288x5120.Idx → EReal) (ix2 r k)
      = min (Ideal.ofBits .f32 0x43E00000#32) (max (Ideal.ofBits .f32 0xC3E00000#32)
          ((show S12288x5120.Idx → EReal from X main_v1) (ix2 r k) * Ideal.pow (Ideal.ofBits .f32 0x40000000#32)
            (-logExponent ((show S12288.Idx → EReal from X main_v3) (ix1 r) * Ideal.ofBits .f32 0x3B124925#32)))) := by
  unfold_abbrev_sides
  after_reads_at
  simp only [logExponent, flush, select_ofBool, decide_eq_true_eq]
  simp only [show id (constant (F := Ideal) S_ FTy.f32 0#32) ix0 = (0 : EReal) from Ideal.ofBits_zero_f32]
  rfl

/-- The scale of a row. -/
theorem V_scale (c : Dev nD) (r : Fin 12288) :
    (V m c main_v21 : S12288x1.Idx → EReal) (ix2 r 0)
      = Ideal.pow (Ideal.ofBits .f32 0x40000000#32) (logExponent (rowRatio (row (m (c, Proc.tc.devRef main_arg0)) r))) := by
  rw [V_two]
  exact (rest_v21 _ r).trans (by rw [rowRatio, ← head_v3])

/-- A clipped quotient. -/
theorem V_quotient (c : Dev nD) (r : Fin 12288) (k : Fin 5120) :
    (V m c main_v27 : S12288x5120.Idx → EReal) (ix2 r k)
      = min (Ideal.ofBits .f32 0x43E00000#32) (max (Ideal.ofBits .f32 0xC3E00000#32)
          (row (m (c, Proc.tc.devRef main_arg0)) r k * Ideal.pow (Ideal.ofBits .f32 0x40000000#32)
            (-logExponent (rowRatio (row (m (c, Proc.tc.devRef main_arg0)) r))))) := by
  rw [V_two]
  exact (rest_v27 _ r k).trans (by rw [rowRatio, ← head_v3, ← head_v1])

/-- Each scale of the weights, repeated down sixteen rows. -/
theorem V_weight_scale (c : Dev nD) (k j : Fin 5120) :
    (V m c main_v88 : S5120x5120.Idx → EReal) (ix2 k j)
      = (show S320x5120.Idx → EReal from m (c, Proc.tc.devRef main_arg2)) (ix2 ⟨k.val / 16, by omega⟩ j) := by
  unfold_abbrev_sides
  after_reads_at

/-- The global factor. -/
theorem V_global (c : Dev nD) :
    (V m c main_v89 : S1x1.Idx → EReal) (ix2 0 0) = (show S_.Idx → EReal from m (c, Proc.tc.devRef main_arg3)) ix0 := by
  unfold_abbrev_sides
  after_reads_at

end Cert.ReferenceIdeal.Gen

end
-- ==== Proof.Rows.lean ====
/- One row of the input: with every entry at most the largest bf16 in magnitude, the kernel's scale and codes are the reference's. -/
module

public import proofs.«01_k».proof.Proof.Ideal.QuantArrays
public import proofs.«01_k».proof.Proof.Reference.Host
public import Mathlib.Data.Finset.Fold

@[expose] public section

noncomputable section

namespace Cert.Rows

open Idealize.ShloMosaic
open Cert.Exponent
open Cert.KernelIdeal.Gen (rowValue scaleOf codeOf)
open Cert.ReferenceIdeal.Gen (rowRatio)

/-- Every entry of the row is at most the largest bf16 in magnitude. -/
def Bounded (f : Fin 5120 → EReal) : Prop := ∀ k, max (f k) (-f k) ≤ Ideal.ofBits .bf16 0x7F7F#16

theorem largest : Ideal.ofBits .bf16 0x7F7F#16 = ((255 * 2 ^ 120 : ℝ) : EReal) := by
  rw [show Ideal.ofBits .bf16 0x7F7F#16 = Ideal.ieee 8 7 (0x7F7F#16) from rfl]
  unfold Ideal.ieee
  simp [-EReal.coe_mul]

theorem lowest_bf16 : Ideal.ofBits .bf16 0xFF80#16 = ⊥ := by
  rw [show Ideal.ofBits .bf16 0xFF80#16 = Ideal.ieee 8 7 (0xFF80#16) from rfl]
  unfold Ideal.ieee
  simp

theorem lowest_f32 : Ideal.ofBits .f32 0xFF800000#32 = ⊥ := by
  rw [show Ideal.ofBits .f32 0xFF800000#32 = Ideal.ieee 8 23 (0xFF800000#32) from rfl]
  unfold Ideal.ieee
  simp

/-- The literal 1/448 as it is rounded. -/
theorem ratio : Ideal.ofBits .f32 0x3B124925#32 = ((9586981 / 2 ^ 32 : ℝ) : EReal) := by
  rw [show Ideal.ofBits .f32 0x3B124925#32 = Ideal.ieee 8 23 (0x3B124925#32) from rfl]
  unfold Ideal.ieee
  simp [-EReal.coe_mul]
  norm_num [-EReal.coe_mul]

/-- Both programs take the same maximum. -/
theorem rowRatio_eq (f : Fin 5120 → EReal) : rowRatio f = rowValue f := by
  unfold rowRatio rowValue
  rw [lowest_bf16, lowest_f32]
  rfl

/-- The maximum of a bounded row times the literal is a real number below 2^120. -/
theorem rowValue_real {f : Fin 5120 → EReal} (hf : Bounded f) : ∃ r : ℝ, r < (2 : ℝ) ^ (120 : ℤ) ∧ rowValue f = (r : EReal) := by
  unfold rowValue
  rw [lowest_bf16, ratio]
  set a : EReal := Finset.fold max ⊥ (fun k => FloatOps.absf (F := Ideal) (φ := .bf16) (f k)) Finset.univ with ha
  have hle : a ≤ ((255 * 2 ^ 120 : ℝ) : EReal) := by
    rw [ha, ← largest]
    exact Finset.fold_max_le _ |>.mpr ⟨bot_le, fun k _ => hf k⟩
  have hge : (0 : EReal) ≤ a := by
    rw [ha]
    refine (Finset.le_fold_max _).mpr (Or.inr ⟨0, Finset.mem_univ _, ?_⟩)
    show (0 : EReal) ≤ max (f 0) (-f 0)
    rcases le_total 0 (f 0) with h | h
    · exact le_max_of_le_left h
    · exact le_max_of_le_right (EReal.neg_nonneg.mpr h)
  clear_value a
  induction a with
  | bot => simp at hge
  | top => exact absurd (top_le_iff.mp hle) (EReal.coe_ne_top _)
  | coe a =>
    refine ⟨a * (9586981 / 2 ^ 32), ?_, (EReal.coe_mul _ _).symm⟩
    have h1 : a ≤ 255 * 2 ^ 120 := by exact_mod_cast hle
    calc a * (9586981 / 2 ^ 32) ≤ (255 * 2 ^ 120) * (9586981 / 2 ^ 32) := by gcongr
      _ < (2 : ℝ) ^ (120 : ℤ) := by norm_num

/-- The scales agree. -/
theorem scale_same {f : Fin 5120 → EReal} (hf : Bounded f) :
    scaleOf f = Ideal.pow (Ideal.ofBits .f32 0x40000000#32) (logExponent (rowRatio f)) := by
  obtain ⟨r, hr, h⟩ := rowValue_real hf
  rw [scaleOf, rowRatio_eq, h, scale_eq hr, logExponent_eq, pow_two]

/-- The codes agree. -/
theorem code_same {f : Fin 5120 → EReal} (hf : Bounded f) (k : Fin 5120) :
    codeOf f k = min (Ideal.ofBits .f32 0x43E00000#32) (max (Ideal.ofBits .f32 0xC3E00000#32)
      (f k * Ideal.pow (Ideal.ofBits .f32 0x40000000#32) (-logExponent (rowRatio f)))) := by
  obtain ⟨r, hr, h⟩ := rowValue_real hf
  rw [codeOf, rowRatio_eq, h, inverse_eq hr, logExponent_eq, ← EReal.coe_neg, ← Int.cast_neg, pow_two]

end Cert.Rows

end
-- ==== Proof.Nibble.lean ====
/- Four-bit floats (one sign bit, two exponent bits, one fraction bit), two in a byte: the number a nibble stands for, and the
   eight-bit float that stands for a 64th of it. -/
module

public import Idealize.ShloMosaic.PureOps.Ideal.Laws
public import Idealize.ShloMosaic.Lib.BitcastFour
public import Mathlib.Tactic.NormNum
public import Mathlib.Tactic.IntervalCases
public import Mathlib.Tactic.FinCases

@[expose] public section

noncomputable section

namespace Cert.Nibble

open Idealize.ShloMosaic

/-- The magnitude of a four-bit float, from its exponent's two bits and its fraction's one. -/
def magnitude (e1 e0 f : Bool) : ℝ :=
  if e1 then (if e0 then (if f then 6 else 4) else (if f then 3 else 2)) else (if e0 then (if f then 3 / 2 else 1) else (if f then 1 / 2 else 0))

/-- The number a nibble (the low four bits of `n`) stands for. -/
def value (n : BitVec 8) : ℝ :=
  if n.getLsbD 3 then -magnitude (n.getLsbD 2) (n.getLsbD 1) (n.getLsbD 0) else magnitude (n.getLsbD 2) (n.getLsbD 1) (n.getLsbD 0)

/-- The lower nibble of a byte, or the upper one. -/
def pick (b : BitVec 8) (upper : Bool) : BitVec 8 := if upper then b >>> 4 else b &&& 15#8

/-- The byte moved so that the picked nibble is in its upper half; then the nibble's sign kept where it is and the three bits below it
    two places lower. -/
def spread (c : BitVec 8) (s : ℕ) : BitVec 8 := ((c <<< s) &&& 0x80#8) ||| (((c <<< s) >>> 2) &&& 0x1C#8)

/-- The same, from the nibble. -/
def code (n : BitVec 8) : BitVec 8 := ((n <<< 4) &&& 0x80#8) ||| ((n <<< 2) &&& 0x1C#8)

theorem spread_four : ∀ b : BitVec 8, spread b 4 = code (pick b false) := by decide +kernel
theorem spread_zero : ∀ b : BitVec 8, spread b 0 = code (pick b true) := by decide +kernel

theorem pick_lt : ∀ (b : BitVec 8) (u : Bool), (pick b u).toNat < 16 := by decide +kernel

theorem e4m3_code (n : Fin 16) : Ideal.ofBits .fp8e4m3 (code (BitVec.ofNat 8 n)) = ((value (BitVec.ofNat 8 n) / 64 : ℝ) : EReal) := by
  show Ideal.e4m3fn _ = _
  unfold Ideal.e4m3fn
  fin_cases n <;> simp [code, value, magnitude, -EReal.coe_mul, -EReal.coe_neg] <;> norm_num [-EReal.coe_mul, -EReal.coe_neg]

/-- The eight-bit float of a nibble is a 64th of the nibble's number. -/
theorem e4m3_pick (b : BitVec 8) (u : Bool) : Ideal.ofBits .fp8e4m3 (code (pick b u)) = ((value (pick b u) / 64 : ℝ) : EReal) := by
  have := e4m3_code ⟨(pick b u).toNat, pick_lt b u⟩
  rwa [show BitVec.ofNat 8 ((⟨(pick b u).toNat, pick_lt b u⟩ : Fin 16) : ℕ) = pick b u from by simp] at this

theorem bits_64 : Ideal.ofBits .f32 0x42800000#32 = ((64 : ℝ) : EReal) := by
  show Ideal.ieee 8 23 (0x42800000#32) = _
  unfold Ideal.ieee
  simp [-EReal.coe_mul]
  norm_num

/-- A 64th of a number times 64 times a factor is the number times the factor, whatever the factor. -/
theorem scaled (v : ℝ) (s : EReal) : ((v / 64 : ℝ) : EReal) * (s * ((64 : ℝ) : EReal)) = (v : EReal) * s := by
  rw [mul_comm s, ← mul_assoc, ← EReal.coe_mul, div_mul_cancel₀ v (by norm_num)]

/-- Reading words as bytes: byte `q / 8` of a word whose bytes are shifted, masked and joined is `spread` of that byte. -/
theorem word_spread (w : BitVec 32) (s : ℕ) (hs : s = 0 ∨ s = 4) (b : ℕ) (hb : b < 4) :
    ((((w <<< s) &&& 2155905152#32) ||| (((w <<< s) >>> 2) &&& 471604252#32))).extractLsb' (8 * b) 8 = spread (w.extractLsb' (8 * b) 8) s := by
  apply BitVec.eq_of_getLsbD_eq
  intro i hi
  rcases hs with rfl | rfl <;> interval_cases b <;> interval_cases i <;> simp [spread]

end Cert.Nibble

end
-- ==== Proof.Ideal.DecodeChunk.lean ====
/- One stored piece of region 0: sixteen rows of 128 decoded weights. The piece is stated once, with the places it is cut from as
   parameters, and read entry by entry at the ideal reading. -/
module

public import proofs.«01_k».proof.Proof.Ideal.Region0
public import proofs.«01_k».proof.Proof.Nibble
public import Idealize.ShloMosaic.Lib.Pointwise
public import Idealize.ShloMosaic.Lib.BitcastFour
public import Idealize.ShloMosaic.Lib.Pipeline.ValueKit.Basic

@[expose] public section

set_option maxRecDepth 16384

noncomputable section

namespace Cert.KernelIdeal.Gen

open Idealize.ShloMosaic

/-- The lane a byte is gathered from: half of the own lane, plus `h`; an index below zero would have 128 added. -/
def gatherLane (h : BitVec 32) : IVec S8x128 32 :=
  select (cmpi .slt (addi k0_pay5 (broadcast S8x128 h)) (broadcast S8x128 0#32))
    (addi (addi k0_pay5 (broadcast S8x128 h)) (broadcast S8x128 128#32)) (addi k0_pay5 (broadcast S8x128 h))

/-- Words of four bytes, gathered along the lanes and shifted, so that every byte holds its nibble in its upper half. -/
def shifted (words : IVec S320x128 32) (o : ℕ) (ho : S320x128.Slices ![o, 0] S8x128) (h : BitVec 32) : IVec S8x128 32 :=
  shli (dynamicGather 1 (extractStridedSlice S8x128 ![o, 0] words ho)
    (shapeCast S8x128 (shapeCast S8x128x1 (gatherLane h) shapeCasts_S8x128_S8x128x1) shapeCasts_S8x128x1_S8x128)) k0_pay4

/-- The eight-bit floats: a nibble's sign, and its exponent and fraction moved to where an eight-bit float has them. -/
def floats (words : IVec S320x128 32) (o : ℕ) (ho : S320x128.Slices ![o, 0] S8x128) (h : BitVec 32) : FVec Ideal S32x128 .fp8e4m3 :=
  bitcastToFloat .fp8e4m3 (bitcast S32x128 8 (ori (andi (shifted words o ho h) (broadcast S8x128 2155905152#32))
    (andi (shrui (shifted words o ho h) (broadcast S8x128 2#32)) (broadcast S8x128 471604252#32))) bitcasts_S8x128_w32_S32x128_w8)

/-- Sixteen rows of decoded weights: the floats times their block's scale. -/
def chunk (words : IVec S320x128 32) (sc : FVec Ideal S80x256 .f32) (o : ℕ) (ho : S320x128.Slices ![o, 0] S8x128) (h : BitVec 32)
    (q : ℕ) (hq : S32x128.Slices ![q, 0] S16x128) (s c : ℕ) (hs : S80x256.Slices ![s, c] S1x128) : FVec Ideal S16x128 .bf16 :=
  mulf (extractStridedSlice S16x128 ![q, 0] (extf .bf16 (floats words o ho h) bitsLt_fp8e4m3_bf16) hq)
    (truncf .bf16 (broadcastTo S16x128 (shapeCast S1x128 (extractStridedSlice S1x128 ![s, c] sc hs) shapeCasts_S1x128_S1x128)
      broadcasts_S1x128_S16x128) bitsLt_bf16_f32)

/-- A row of 32-bit words read as four rows of bytes. -/
theorem bytes_apply {r : ℕ} {R : ℕ} {n : ℕ} (x : (⟨2, ![r, n]⟩ : Shape).Idx → BitVec 32) (h : (⟨2, ![r, n]⟩ : Shape).Bitcasts 32 ⟨2, ![R, n]⟩ 8)
    (i : Fin R) (l : Fin n) (hi : i.val / 4 < r) :
    bitcast ⟨2, ![R, n]⟩ 8 x h (ix2 i l) = (x (ix2 ⟨i.val / 4, hi⟩ l)).extractLsb' (8 * (i.val % 4)) 8 := by
  apply BitVec.eq_of_getLsbD_eq
  intro q hq
  rw [bitcast_getLsbD x h _ q hq (by decide)]
  have hrow : (⟨2, ![R, n]⟩ : Shape).row (ix2 i l) = i.val := rfl
  have e1 : ((⟨2, ![R, n]⟩ : Shape).row (ix2 i l) * 8 + q) / 32 = i.val / 4 := by rw [hrow]; omega
  have e2 : ((⟨2, ![R, n]⟩ : Shape).row (ix2 i l) * 8 + q) % 32 = 8 * (i.val % 4) + q := by rw [hrow]; omega
  have hp : ∀ c : Fin (⟨2, ![r, n]⟩ : Shape).rank, c.val + 2 = (⟨2, ![r, n]⟩ : Shape).rank → i.val / 4 < (⟨2, ![r, n]⟩ : Shape).size c := by
    intro c hc
    have : c = ⟨0, Nat.zero_lt_two⟩ := Fin.ext (Nat.add_right_cancel (show c.val + 2 = 0 + 2 from hc))
    subst this
    exact hi
  rw [h.srcIdx_congr _ e1 _ hp, e2, BitVec.getLsbD_extractLsb']
  simp only [hq, decide_true, Bool.true_and]
  congr 2
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ (1 + 2 = 2); decide))

/-- A byte of a word made of four rows of bytes. -/
theorem word_byte (x0 : Vec Ideal S1280x128 .i8) (x1 : Vec Ideal S80x256 .fp8e4m3) (a : Fin 320) (l : Fin 128) (b : ℕ) (hb : b < 4)
    (k : Fin 1280) (hk : k.val = 4 * a.val + b) :
    (k0_pay361 x0 x1 (ix2 a l)).extractLsb' (8 * b) 8 = x0 (ix2 k l) := by
  have e : View.ld x0 r0_0 = x0 := View.ld_unit_lit (S := S1280x128) _ x0 (by decide)
  apply BitVec.eq_of_getLsbD_eq
  intro q hq
  unfold k0_pay361 k0_pay6
  rw [e, BitVec.getLsbD_extractLsb']
  simp only [hq, decide_true, Bool.true_and]
  rw [ix2_eq_valueIdx, bitcast_8_32_getLsbD_ix2 x0 _ a l (8 * b + q) (by omega) k (by omega), ix2_eq_valueIdx]
  congr 1
  omega

theorem lane_eq : ∀ l : Fin 128, ∀ u : Fin 2,
    (Scalar.select (IntOp.cmpi CmpIPredicate.slt (IntOp.addi (IntOp.shrsi ArithUnit.vector (BitVec.ofNat 32 ↑l) 1#32) (BitVec.ofNat 32 (64 * u))) 0#32)
      (IntOp.addi (IntOp.addi (IntOp.shrsi ArithUnit.vector (BitVec.ofNat 32 ↑l) 1#32) (BitVec.ofNat 32 (64 * u))) 128#32)
      (IntOp.addi (IntOp.shrsi ArithUnit.vector (BitVec.ofNat 32 ↑l) 1#32) (BitVec.ofNat 32 (64 * u)))).toNat % 128 = l / 2 + 64 * u := by
  decide +kernel

theorem amount_eq : ∀ l : Fin 128,
    Scalar.select (IntOp.cmpi CmpIPredicate.eq (IntOp.andi (BitVec.ofNat 32 ↑l) 1#32) 0#32) 4#32 0#32 = if l.val % 2 = 1 then 0#32 else 4#32 := by
  decide +kernel

theorem shifted_apply (words : IVec S320x128 32) (o : ℕ) (ho : S320x128.Slices ![o, 0] S8x128)
    (u : Fin 2) (a : Fin 8) (l : Fin 128) (ha : o + a.val < 320) :
    shifted words o ho (BitVec.ofNat 32 (64 * u)) (ix2 a l)
      = words (ix2 ⟨o + a, ha⟩ ⟨l / 2 + 64 * u, by omega⟩) <<< (if l.val % 2 = 1 then 0 else 4) := by
  unfold shifted gatherLane
  unfold_payloads
  pointwise []
  rw [amount_eq]
  simp only [lane_eq]
  split <;> rfl

theorem floats_apply (x0 : Vec Ideal S1280x128 .i8) (x1 : Vec Ideal S80x256 .fp8e4m3) (o : ℕ) (ho : S320x128.Slices ![o, 0] S8x128)
    (u : Fin 2) (i : Fin 32) (l : Fin 128) (k : Fin 1280) (hk : k.val = 4 * o + i.val) (ho' : o + 8 ≤ 320) :
    floats (k0_pay361 x0 x1) o ho (BitVec.ofNat 32 (64 * u)) (ix2 i l)
      = ((Nibble.value (Nibble.pick (x0 (ix2 k ⟨l / 2 + 64 * u, by omega⟩)) (l.val % 2 = 1)) / 64 : ℝ) : EReal) := by
  unfold floats
  show Ideal.ofBits .fp8e4m3 (bitcast _ _ _ _ (ix2 i l)) = _
  rw [bytes_apply _ _ i l (show i.val / 4 < 8 by omega), ← Nibble.e4m3_pick]
  congr 1
  show BitVec.extractLsb' _ 8 (((shifted _ o ho _ (ix2 ⟨i.val / 4, _⟩ l)) &&& 2155905152#32)
    ||| (((shifted _ o ho _ (ix2 ⟨i.val / 4, _⟩ l)) >>> 2) &&& 471604252#32)) = _
  rw [shifted_apply _ o ho u _ l (by simp only []; omega), Nibble.word_spread _ _ (by split <;> simp) _ (by omega),
    word_byte x0 x1 _ _ _ (by omega) k (by simp only []; omega)]
  by_cases hl : l.val % 2 = 1
  · simp only [hl, if_true, decide_true, Nibble.spread_zero]
  · simp only [hl, if_false, decide_false, Nibble.spread_four]

/-- The decoded weight at row `k`, column `j` of a block: the nibble's number times the scale of the sixteen rows it is in. -/
def weight (x0 : Vec Ideal S1280x128 .i8) (x1 : Vec Ideal S80x256 .fp8e4m3) (k : Fin 1280) (j : Fin 256) : EReal :=
  (Nibble.value (Nibble.pick (x0 (ix2 k ⟨j / 2, by omega⟩)) (j.val % 2 = 1)) : EReal) * x1 (ix2 ⟨k / 16, by omega⟩ j)

theorem chunk_apply (x0 : Vec Ideal S1280x128 .i8) (x1 : Vec Ideal S80x256 .fp8e4m3) (o : ℕ) (ho : S320x128.Slices ![o, 0] S8x128)
    (u : Fin 2) (q : ℕ) (hq : S32x128.Slices ![q, 0] S16x128) (s c : ℕ) (hs : S80x256.Slices ![s, c] S1x128)
    (a : Fin 16) (l : Fin 128) (k : Fin 1280) (j : Fin 256) (hk : k.val = 4 * o + q + a.val) (hks : s = k.val / 16) (hj : j.val = c + l.val)
    (hc : c = 128 * u.val) (hq' : q + 16 ≤ 32) (ho' : o + 8 ≤ 320) :
    chunk (k0_pay361 x0 x1) (k0_pay362 x0 x1) o ho (BitVec.ofNat 32 (64 * u)) q hq s c hs (ix2 a l) = weight x0 x1 k j := by
  have e : View.ld x1 r0_1 = x1 := View.ld_unit_lit (S := S80x256) _ x1 (by decide)
  unfold chunk k0_pay362 k0_pay7
  rw [e]
  pointwise []
  rw [floats_apply x0 x1 o ho u _ l k (by simp only []; omega) ho', Nibble.bits_64, Nibble.scaled]
  unfold weight
  have h1 : (⟨l / 2 + 64 * u, by omega⟩ : Fin 128) = ⟨j / 2, by omega⟩ := Fin.ext (by simp only []; omega)
  have h2 : (l.val % 2 = 1) = (j.val % 2 = 1) := by rw [hj, hc]; congr 1; omega
  have h4 : ∀ h, (⟨c + l, h⟩ : Fin 256) = j := fun _ => Fin.ext hj.symm
  subst hks
  simp only [h1, h2, h4]

/-- A stored piece, through its rectangle, is the decoded weights there. -/
theorem piece (x0 : Vec Ideal S1280x128 .i8) (x1 : Vec Ideal S80x256 .fp8e4m3) {R C : ℕ} {inb : ∀ a, (![R, C] : Fin 2 → ℕ) a + S16x128.size a ≤ S1280x256.size a}
    {pay : FVec Ideal S16x128 .bf16} (o : ℕ) (ho : S320x128.Slices ![o, 0] S8x128)
    (h : BitVec 32) (q : ℕ) (hq : S32x128.Slices ![q, 0] S16x128) (s c : ℕ) (hs : S80x256.Slices ![s, c] S1x128)
    (e : pay = chunk (k0_pay361 x0 x1) (k0_pay362 x0 x1) o ho h q hq s c hs)
    (hn : R = 4 * o + q ∧ C = c ∧ s = R / 16 ∧ R % 16 = 0 ∧ q + 16 ≤ 32 ∧ o + 8 ≤ 320 ∧ (c = 0 ∧ h = 0#32 ∨ c = 128 ∧ h = 64#32)) :
    ∀ x : S16x128.Idx, pay x = weight x0 x1 ((Rect.unit (s := S1280x256) ![R, C] S16x128.size inb).emb x 0) ((Rect.unit (s := S1280x256) ![R, C] S16x128.size inb).emb x 1) := by
  obtain ⟨rfl, rfl, rfl, h16, hq', ho', hh⟩ := hn
  intro x
  rw [e, eq_ix2 x]
  obtain ⟨u, rfl, hc⟩ : ∃ u : Fin 2, h = BitVec.ofNat 32 (64 * u) ∧ C = 128 * u.val := by
    rcases hh with ⟨rfl, rfl⟩ | ⟨rfl, rfl⟩
    · exact ⟨0, rfl, rfl⟩
    · exact ⟨1, rfl, rfl⟩
  have e0 : ((Rect.unit (s := S1280x256) ![4 * o + q, C] S16x128.size inb).emb (ix2 (x 0) (x 1)) 0 : ℕ) = 4 * o + q + (x 0).val := by
    show 4 * o + q + 1 * (x 0).val = _; omega
  have e1 : ((Rect.unit (s := S1280x256) ![4 * o + q, C] S16x128.size inb).emb (ix2 (x 0) (x 1)) 1 : ℕ) = C + (x 1).val := by
    show C + 1 * (x 1).val = _; omega
  have hx : (x 0).val < 16 := (x 0).isLt
  exact chunk_apply x0 x1 o ho u q hq _ C hs (x 0) (x 1) _ _ e0 (by omega) e1 hc hq' ho'

end Cert.KernelIdeal.Gen

end
-- ==== Proof.Ideal.DecodeBlock.lean ====
/- What region 0 leaves in a block of its result: every entry is the decoded weight there. All 160 stored pieces are instances of one
   lemma, whose parameters are read off from the stored value. -/
module

public import proofs.«01_k».proof.Proof.Ideal.DecodeChunk

@[expose] public section

set_option maxRecDepth 65536

noncomputable section

namespace Cert.KernelIdeal.Gen

open Idealize.ShloMosaic

set_option maxHeartbeats 40000000 in
theorem out0_2_apply (x0 : Vec Ideal S1280x128 .i8) (x1 : Vec Ideal S80x256 .fp8e4m3) (k : Fin 1280) (j : Fin 256) :
    out0_2 x0 x1 (ix2 k j) = weight x0 x1 k j := by
  unfold out0_2
  refine View.canon_apply_of_pieces (Val := Elt Ideal) (S := S1280x256) (e := .bf16) (fun y => weight x0 x1 (y 0) (y 1)) _ ?_ _ (cover0_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  iterate 160
    refine List.forall_mem_cons.2 ⟨?_, ?_⟩
    · refine piece x0 x1 (inb := ?_) ?_ ?_ ?_ ?_ ?_ ?_ ?_ ?_ ?_ ?_
      rotate_left 9
      · unfold chunk floats shifted gatherLane
        unfold_payloads
        rfl
      · decide
      · decide
  exact fun p hp => absurd hp List.not_mem_nil

end Cert.KernelIdeal.Gen

end
-- ==== Proof.Ideal.DecodeArray.lean ====
/- What region 0 leaves in its result array: the decoded weight at every row and column. -/
module

public import proofs.«01_k».proof.Proof.Ideal.DecodeBlock
public import Idealize.ShloMosaic.Lib.Pipeline.ValueKit

@[expose] public section

set_option maxRecDepth 16384

noncomputable section

namespace Cert.KernelIdeal.Gen

open Idealize.ShloMosaic Idealize.ShloMosaic.TcCoe
open Idealize.ShloMosaic.Pipeline (Dat)

variable (V : (c : Dev nD) → (b : Ref sig .tc) → Buf (Elt Ideal) ((c : Thread nD τ).loc b))

/-- The decoded weight at row `k`, column `j`, from the whole arrays of packed bytes and of scales. -/
def decoded (p : S5120x2560.Idx → BitVec 8) (s : S320x5120.Idx → EReal) (k j : Fin 5120) : EReal :=
  (Nibble.value (Nibble.pick (p (ix2 k ⟨j / 2, by omega⟩)) (j.val % 2 = 1)) : EReal) * s (ix2 ⟨k / 16, by omega⟩ j)

theorem index0_0 : ∀ t : Fin cfg0.N, win0_0.index t = ![(grid0.coords t 0).val, (grid0.coords t 1).val] := by decide +kernel
theorem index0_1 : ∀ t : Fin cfg0.N, win0_1.index t = ![(grid0.coords t 0).val, (grid0.coords t 1).val] := by decide +kernel
theorem index0_2 : ∀ t : Fin cfg0.N, win0_2.index t = ![(grid0.coords t 0).val, (grid0.coords t 1).val] := by decide +kernel

theorem coords0 (t : Fin cfg0.N) : (grid0.coords t 0).val < 4 ∧ (grid0.coords t 1).val < 20 := ⟨(grid0.coords t 0).isLt, (grid0.coords t 1).isLt⟩

theorem block0_0 (c : Dev nD) (t : Fin cfg0.N) (k : Fin 1280) (j : Fin 128) :
    iblk0 V c 0 t (ix2 k j) = V c main_arg1 (ix2 ⟨(grid0.coords t 0).val * 1280 + k, by have := coords0 t; omega⟩
      ⟨(grid0.coords t 1).val * 128 + j, by have := coords0 t; omega⟩) := by
  blk_ext [iblk0, index0_0 t]

theorem block0_1 (c : Dev nD) (t : Fin cfg0.N) (k : Fin 80) (j : Fin 256) :
    iblk0 V c 1 t (ix2 k j) = V c main_arg2 (ix2 ⟨(grid0.coords t 0).val * 80 + k, by have := coords0 t; omega⟩
      ⟨(grid0.coords t 1).val * 256 + j, by have := coords0 t; omega⟩) := by
  blk_ext [iblk0, index0_1 t]

theorem decode_point (c : Dev nD) (t : Fin cfg0.N) (a : Fin 1280) (b : Fin 256) (k j : Fin 5120)
    (hk : k.val = (grid0.coords t 0).val * 1280 + a) (hj : j.val = (grid0.coords t 1).val * 256 + b) :
    weight (iblk0 V c 0 t) (iblk0 V c 1 t) a b = decoded (V c main_arg1) (V c main_arg2) k j := by
  unfold weight decoded
  rw [block0_0, block0_1]
  have hc := coords0 t
  have h1 : ∀ h, (⟨(grid0.coords t 0).val * 1280 + a.val, h⟩ : Fin 5120) = k := fun _ => Fin.ext hk.symm
  have h2 : ∀ h h', (⟨(grid0.coords t 1).val * 128 + b.val / 2, h⟩ : Fin 2560) = ⟨j / 2, h'⟩ := fun _ _ => Fin.ext (by simp only []; omega)
  have h3 : ∀ h h', (⟨(grid0.coords t 0).val * 80 + a.val / 16, h⟩ : Fin 320) = ⟨k / 16, h'⟩ := fun _ _ => Fin.ext (by simp only []; omega)
  have h4 : ∀ h, (⟨(grid0.coords t 1).val * 256 + b.val, h⟩ : Fin 5120) = j := fun _ => Fin.ext hj.symm
  have h5 : (b.val % 2 = 1) = (j.val % 2 = 1) := by rw [hj]; exact propext (by omega)
  simp only [h1, h4, h5]
  rw [h2 _ (by omega), h3 _ (by omega)]

theorem out0_2_at (x0 : Vec Ideal S1280x128 .i8) (x1 : Vec Ideal S80x256 .fp8e4m3) (y : S1280x256.Idx) :
    out0_2 x0 x1 y = weight x0 x1 (y 0) (y 1) := by
  rw [eq_ix2 y]; exact out0_2_apply x0 x1 (y 0) (y 1)

theorem decode_array (c : Dev nD) :
    (dat0 V c).arrAt 2 cfg0.N = fun i : S5120x5120.Idx => decoded (V c main_arg1) (V c main_arg2) (i 0) (i 1) := by
  refine (dat0 V c).arrAt_eq_of_covers 2 _ (by decide +kernel) fun t hf y => ?_
  blk_simp
  rw [after0_2]
  refine (out0_2_at (iblk0 V c 0 t) (iblk0 V c 1 t) y).trans (decode_point V c t (y 0) (y 1) _ _ ?_ ?_)
  · blk_simp [index0_2 t]
  · blk_simp [index0_2 t]

end Cert.KernelIdeal.Gen

end
-- ==== Proof.Ideal.KernelValues.lean ====
/- What region 1 is entered with, and so what the kernel leaves in its three results, from its arguments. -/
module

public import proofs.«01_k».proof.Proof.Ideal.Run
public import proofs.«01_k».proof.Proof.Ideal.DecodeArray
public import proofs.«01_k».proof.Proof.Ideal.QuantArrays
public import Idealize.ShloMosaic.Lib.Pointwise
public import Idealize.ShloMosaic.Lib.StableHlo.ReadAt

@[expose] public section

set_option maxRecDepth 16384

noncomputable section

namespace Cert.KernelIdeal.Gen

open Idealize.ShloMosaic Idealize.ShloMosaic.TcCoe

variable (m : (ℓ : Loc nD τ sig) → Buf (Elt Ideal) ℓ) (ρ : Dev nD → PrngReg)

/-- Row `r` of the first argument, its two leading axes taken as one. -/
def argRow (x : S3x4096x5120.Idx → EReal) (r : Fin 12288) (k : Fin 5120) : EReal := x (ix3 ⟨r.val / 4096, by omega⟩ ⟨r.val % 4096, by omega⟩ k)

/-- The host stretch between the regions reshapes the first argument … -/
theorem stretch_rows (X : Valuation τ sig (Elt Ideal)) (r : Fin 12288) (k : Fin 5120) :
    (StableHlo.after hostOps1 X main_v2 : S12288x5120.Idx → EReal) (ix2 r k) = argRow (X main_arg0) r k := by
  after_reads_at
  rfl

/-- … and the global factor. -/
theorem stretch_global (X : Valuation τ sig (Elt Ideal)) :
    (StableHlo.after hostOps1 X main_v1 : S1.Idx → EReal) (ix1 0) = (show S_.Idx → EReal from X main_arg3) ix0 := by
  after_reads_at

theorem entry_rows (c : Dev nD) (r : Fin 12288) (k : Fin 5120) :
    (V2 m ρ c main_v2 : S12288x5120.Idx → EReal) (ix2 r k) = argRow (m ((c.tc : Thread nD τ).loc main_arg0)) r k :=
  (stretch_rows (W1 m ρ c) r k).trans (congrArg (fun x => argRow x r k) (W1_args m ρ c main_arg0 (by decide)))

theorem entry_global (c : Dev nD) :
    (V2 m ρ c main_v1 : S1.Idx → EReal) (ix1 0) = (show S_.Idx → EReal from m ((c.tc : Thread nD τ).loc main_arg3)) ix0 :=
  (stretch_global (W1 m ρ c)).trans (congrFun (W1_args m ρ c main_arg3 (by decide)) ix0)

theorem entry_weights (c : Dev nD) :
    (V2 m ρ c main_v0 : S5120x5120.Idx → EReal)
      = fun i => decoded (m ((c.tc : Thread nD τ).loc main_arg1)) (m ((c.tc : Thread nD τ).loc main_arg2)) (i 0) (i 1) :=
  (W2_of m ρ c main_v0 (by decide)).trans ((W1_arr m ρ c 2).trans (decode_array (V0 m ρ) c))

/-- The first result. -/
def kernelProduct (x : S3x4096x5120.Idx → EReal) (p : S5120x2560.Idx → BitVec 8) (s : S320x5120.Idx → EReal) (g : S_.Idx → EReal) :
    S12288x5120.Idx → EReal :=
  fun i => productOf (argRow x (i 0)) (fun i => decoded p s (i 0) (i 1)) (g ix0) (i 1)

theorem kernel_product (c : Dev nD) :
    (dat1 (V2 m ρ) c).arrAt 3 cfg1.N = kernelProduct (m ((c.tc : Thread nD τ).loc main_arg0)) (m ((c.tc : Thread nD τ).loc main_arg1))
      (m ((c.tc : Thread nD τ).loc main_arg2)) (m ((c.tc : Thread nD τ).loc main_arg3)) := by
  refine (product_array (V2 m ρ) c).trans (funext fun i => ?_)
  rw [entry_weights, entry_global, funext (entry_rows m ρ c (i 0))]
  rfl

theorem kernel_codes (c : Dev nD) :
    (dat1 (V2 m ρ) c).arrAt 4 cfg1.N = fun i : S12288x5120.Idx => codeOf (argRow (m ((c.tc : Thread nD τ).loc main_arg0)) (i 0)) (i 1) := by
  refine (codes_array (V2 m ρ) c).trans (funext fun i => ?_)
  rw [funext (entry_rows m ρ c (i 0))]

theorem kernel_scales (c : Dev nD) :
    (dat1 (V2 m ρ) c).arrAt 5 cfg1.N = fun i : S12288x1.Idx => scaleOf (argRow (m ((c.tc : Thread nD τ).loc main_arg0)) (i 0)) := by
  refine (scale_array (V2 m ρ) c).trans (funext fun i => ?_)
  rw [funext (entry_rows m ρ c (i 0))]

end Cert.KernelIdeal.Gen

end
-- ==== Proof.Reference.Region.lean ====
/- What the reference's one device step leaves in its three results, from the arrays it is given. -/
module

public import proofs.«01_k».proof.Proof.Gen.ReferenceIdeal.Value
public import Idealize.ShloMosaic.Lib.Pointwise
public import Idealize.ShloMosaic.Lib.Pipeline.ValueKit

@[expose] public section

set_option maxRecDepth 16384

noncomputable section

namespace Cert.ReferenceIdeal.Gen

open Idealize.ShloMosaic Idealize.ShloMosaic.TcCoe
open Idealize.ShloMosaic.Pipeline (Dat)
open Cert.ReferenceIdeal.Value

variable (m : (ℓ : Loc nD τ sig) → Buf (Elt Ideal) ℓ)

/-- The product at row `i`, column `j`: the sum over the columns of the codes, then the row's scale, then the global factor. -/
def productAt (x0 : Vec Ideal S12288x5120 .f32) (x1 : Vec Ideal S12288x1 .f32) (x2 : Vec Ideal S5120x5120 .bf16)
    (x3 : Vec Ideal S5120x5120 .fp8e4m3) (x4 : Vec Ideal S1x1 .f32) (i : Fin 12288) (j : Fin 5120) : EReal :=
  (∑ k : Fin 5120, (x0 (ix2 i k) : EReal) * ((x2 (ix2 k j) : EReal) * (x3 (ix2 k j) : EReal))) * (x1 (ix2 i 0) : EReal) * (x4 (ix2 0 0) : EReal)

theorem pay2_apply (x0 : Vec Ideal S12288x5120 .f32) (x1 : Vec Ideal S12288x1 .f32) (x2 : Vec Ideal S5120x5120 .bf16)
    (x3 : Vec Ideal S5120x5120 .fp8e4m3) (x4 : Vec Ideal S1x1 .f32) (i : Fin 12288) (j : Fin 5120) :
    k0_pay2 x0 x2 x3 x1 x4 (ix2 i j) = productAt x0 x1 x2 x3 x4 i j := by
  unfold_payloads
  unfold productAt
  pointwise []

theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![0, 0] := by decide +kernel
theorem index_7 : ∀ t : Fin cfg0.N, win0_7.index t = ![0, 0] := by decide +kernel

theorem read_0 (c : Dev nD) (A : (b : Ref sig .tc) → Buf (Elt Ideal) ((c : Thread nD τ).loc b)) (t : Fin cfg0.N) (a : Fin 12288) (b : Fin 5120) :
    ((cfg0.win 0).blk t).view.read (Elt Ideal) (A (Pipeline.arrRef spec0 0)) (ix2 a b) = A main_v27 (ix2 a b) := by
  blk_ext [index_0 t]
theorem block_0 (c : Dev nD) (t : Fin cfg0.N) (a : Fin 12288) (b : Fin 5120) : iblk m c 0 t (ix2 a b) = V m c main_v27 (ix2 a b) :=
  read_0 c (V m c) t a b
theorem read_1 (c : Dev nD) (A : (b : Ref sig .tc) → Buf (Elt Ideal) ((c : Thread nD τ).loc b)) (t : Fin cfg0.N) (a : Fin 12288) (b : Fin 1) :
    ((cfg0.win 1).blk t).view.read (Elt Ideal) (A (Pipeline.arrRef spec0 1)) (ix2 a b) = A main_v21 (ix2 a b) := by
  blk_ext [index_1 t]
theorem block_1 (c : Dev nD) (t : Fin cfg0.N) (a : Fin 12288) (b : Fin 1) : iblk m c 1 t (ix2 a b) = V m c main_v21 (ix2 a b) :=
  read_1 c (V m c) t a b
theorem read_2 (c : Dev nD) (A : (b : Ref sig .tc) → Buf (Elt Ideal) ((c : Thread nD τ).loc b)) (t : Fin cfg0.N) (a : Fin 5120) (b : Fin 5120) :
    ((cfg0.win 2).blk t).view.read (Elt Ideal) (A (Pipeline.arrRef spec0 2)) (ix2 a b) = A main_v86 (ix2 a b) := by
  blk_ext [index_2 t]
theorem block_2 (c : Dev nD) (t : Fin cfg0.N) (a : Fin 5120) (b : Fin 5120) : iblk m c 2 t (ix2 a b) = V m c main_v86 (ix2 a b) :=
  read_2 c (V m c) t a b
theorem read_3 (c : Dev nD) (A : (b : Ref sig .tc) → Buf (Elt Ideal) ((c : Thread nD τ).loc b)) (t : Fin cfg0.N) (a : Fin 5120) (b : Fin 5120) :
    ((cfg0.win 3).blk t).view.read (Elt Ideal) (A (Pipeline.arrRef spec0 3)) (ix2 a b) = A main_v88 (ix2 a b) := by
  blk_ext [index_3 t]
theorem block_3 (c : Dev nD) (t : Fin cfg0.N) (a : Fin 5120) (b : Fin 5120) : iblk m c 3 t (ix2 a b) = V m c main_v88 (ix2 a b) :=
  read_3 c (V m c) t a b
theorem read_4 (c : Dev nD) (A : (b : Ref sig .tc) → Buf (Elt Ideal) ((c : Thread nD τ).loc b)) (t : Fin cfg0.N) (a : Fin 1) (b : Fin 1) :
    ((cfg0.win 4).blk t).view.read (Elt Ideal) (A (Pipeline.arrRef spec0 4)) (ix2 a b) = A main_v89 (ix2 a b) := by
  blk_ext [index_4 t]
theorem block_4 (c : Dev nD) (t : Fin cfg0.N) (a : Fin 1) (b : Fin 1) : iblk m c 4 t (ix2 a b) = V m c main_v89 (ix2 a b) :=
  read_4 c (V m c) t a b

theorem product_point (c : Dev nD) (t : Fin cfg0.N) (i : Fin 12288) (j : Fin 5120) :
    productAt (iblk m c 0 t) (iblk m c 1 t) (iblk m c 2 t) (iblk m c 3 t) (iblk m c 4 t) i j
      = productAt (V m c main_v27) (V m c main_v21) (V m c main_v86) (V m c main_v88) (V m c main_v89) i j := by
  unfold productAt
  simp only [block_0, block_1, block_2, block_3, block_4]

theorem out5_at (x0 : Vec Ideal S12288x5120 .f32) (x1 : Vec Ideal S12288x1 .f32) (x2 : Vec Ideal S5120x5120 .bf16)
    (x3 : Vec Ideal S5120x5120 .fp8e4m3) (x4 : Vec Ideal S1x1 .f32) (y : S12288x5120.Idx) :
    out0_5 x0 x1 x2 x3 x4 y = productAt x0 x1 x2 x3 x4 (y 0) (y 1) := by
  refine View.canon_apply_of_pieces (Val := Elt Ideal) (S := S12288x5120) (e := .bf16)
    (fun y => productAt x0 x1 x2 x3 x4 (y 0) (y 1)) _ ?_ y (cover0_5 _ y)
  intro pc hpc
  rcases List.mem_cons.mp hpc with rfl | hpc
  · intro x
    rw [show View.ld x0 r0_0 = x0 from View.ld_unit_lit (S := S12288x5120) _ x0 (by decide),
      show View.ld x1 r0_2 = x1 from View.ld_unit_lit (S := S12288x1) _ x1 (by decide),
      show View.ld x2 r0_1 = x2 from View.ld_unit_lit (S := S5120x5120) _ x2 (by decide),
      show View.ld x3 r0_1 = x3 from View.ld_unit_lit (S := S5120x5120) _ x3 (by decide),
      show View.ld x4 r0_3 = x4 from View.ld_unit_lit (S := S1x1) _ x4 (by decide)]
    refine (congrArg _ (eq_ix2 x)).trans ((pay2_apply x0 x1 x2 x3 x4 (x 0) (x 1)).trans ?_)
    refine congrArg₂ _ (Fin.ext ?_) (Fin.ext ?_)
    · show (x 0).val = 0 + 1 * (x 0).val; omega
    · show (x 1).val = 0 + 1 * (x 1).val; omega
  nomatch hpc

/-- THE FIRST RESULT. -/
theorem arr5 (c : Dev nD) : (dats m 0 c).arrAt 5 cfg0.N = fun i : S12288x5120.Idx =>
    productAt (V m c main_v27) (V m c main_v21) (V m c main_v86) (V m c main_v88) (V m c main_v89) (i 0) (i 1) := by
  refine (dats m 0 c).arrAt_eq_of_covers 5 _ (by decide +kernel) fun t hf y => ?_
  blk_simp
  rw [after0_5]
  refine (out5_at (iblk m c 0 t) (iblk m c 1 t) (iblk m c 2 t) (iblk m c 3 t) (iblk m c 4 t) y).trans ((product_point m c t (y 0) (y 1)).trans ?_)
  refine congrArg₂ _ (Fin.ext ?_) (Fin.ext ?_)
  · blk_simp [index_5 t]
  · blk_simp [index_5 t]

theorem out6_at (x0 : Vec Ideal S12288x5120 .f32) (y : S12288x5120.Idx) : E6 (View.ld x0 r0_0) y = x0 (ix2 (y 0) (y 1)) := by
  rw [show View.ld x0 r0_0 = x0 from View.ld_unit_lit (S := S12288x5120) _ x0 (by decide)]
  show (x0 (ix6_0 y) : EReal) = _
  refine congrArg x0 (funext fun a => ?_)
  match a with | ⟨0, _⟩ => rfl | ⟨1, _⟩ => rfl

/-- THE SECOND RESULT. -/
theorem arr6 (c : Dev nD) : (dats m 0 c).arrAt 6 cfg0.N = fun i : S12288x5120.Idx => (V m c main_v27 : S12288x5120.Idx → EReal) (ix2 (i 0) (i 1)) := by
  refine (dats m 0 c).arrAt_eq_of_covers 6 _ (by decide +kernel) fun t hf y => ?_
  blk_simp
  rw [after0_6]
  refine (canon6_eq _ y).trans ((out6_at (iblk m c 0 t) y).trans ((block_0 m c t (y 0) (y 1)).trans ?_))
  refine congrArg₂ (fun a b => (V m c main_v27 : S12288x5120.Idx → EReal) (ix2 a b)) (Fin.ext ?_) (Fin.ext ?_)
  · blk_simp [index_6 t]
  · blk_simp [index_6 t]

theorem out7_at (x1 : Vec Ideal S12288x1 .f32) (y : S12288x1.Idx) : E7 (View.ld x1 r0_2) y = x1 (ix2 (y 0) 0) := by
  rw [show View.ld x1 r0_2 = x1 from View.ld_unit_lit (S := S12288x1) _ x1 (by decide)]
  show (x1 (ix7_0 y) : EReal) = _
  refine congrArg x1 (funext fun a => ?_)
  match a with | ⟨0, _⟩ => rfl | ⟨1, _⟩ => rfl

/-- THE THIRD RESULT. -/
theorem arr7 (c : Dev nD) : (dats m 0 c).arrAt 7 cfg0.N = fun i : S12288x1.Idx => (V m c main_v21 : S12288x1.Idx → EReal) (ix2 (i 0) 0) := by
  refine (dats m 0 c).arrAt_eq_of_covers 7 _ (by decide +kernel) fun t hf y => ?_
  blk_simp
  rw [after0_7]
  refine (canon7_eq _ y).trans ((out7_at (iblk m c 1 t) y).trans ((block_1 m c t (y 0) 0).trans ?_))
  refine congrArg (fun a => (V m c main_v21 : S12288x1.Idx → EReal) (ix2 a 0)) (Fin.ext ?_)
  blk_simp [index_7 t]

end Cert.ReferenceIdeal.Gen

end
-- ==== Proof.Reference.Tree.lean ====
/- The number of a four-bit float as the reference picks it: one choice per bit, out of sixteen literals. -/
module

public import proofs.«01_k».proof.Proof.Nibble
public import proofs.«01_k».proof.Proof.Exponent

@[expose] public section

noncomputable section

namespace Cert.Nibble

open Idealize.ShloMosaic

/-- Whether a word has a bit of a mask set. -/
abbrev has (n mask : BitVec 32) : BitVec 1 := IntOp.cmpi CmpIPredicate.ne (IntOp.andi n mask) 0#32

/-- The magnitude, chosen by the three lower bits. -/
def treeMagnitude (n : BitVec 32) : EReal :=
  Scalar.select (has n 4#32)
    (Scalar.select (has n 2#32)
      (Scalar.select (has n 1#32) (Ideal.ofBits .bf16 16576#16) (Ideal.ofBits .bf16 16512#16))
      (Scalar.select (has n 1#32) (Ideal.ofBits .bf16 16448#16) (Ideal.ofBits .bf16 16384#16)))
    (Scalar.select (has n 2#32)
      (Scalar.select (has n 1#32) (Ideal.ofBits .bf16 16320#16) 1)
      (Scalar.select (has n 1#32) (Ideal.ofBits .bf16 16128#16) 0))

/-- The number, its sign chosen by the fourth bit. -/
def tree (n : BitVec 32) : EReal := Scalar.select (has n 8#32) (-treeMagnitude n) (treeMagnitude n)

theorem lower_bits : ∀ b : BitVec 8,
    has (IntOp.andi (BitVec.setWidth 32 b) 15#32) 1#32 = BitVec.ofBool ((pick b false).getLsbD 0) ∧
    has (IntOp.andi (BitVec.setWidth 32 b) 15#32) 2#32 = BitVec.ofBool ((pick b false).getLsbD 1) ∧
    has (IntOp.andi (BitVec.setWidth 32 b) 15#32) 4#32 = BitVec.ofBool ((pick b false).getLsbD 2) ∧
    has (IntOp.andi (BitVec.setWidth 32 b) 15#32) 8#32 = BitVec.ofBool ((pick b false).getLsbD 3) := by decide +kernel

theorem upper_bits : ∀ b : BitVec 8,
    has (IntOp.shrsi .host (BitVec.setWidth 32 b) 4#32) 1#32 = BitVec.ofBool ((pick b true).getLsbD 0) ∧
    has (IntOp.shrsi .host (BitVec.setWidth 32 b) 4#32) 2#32 = BitVec.ofBool ((pick b true).getLsbD 1) ∧
    has (IntOp.shrsi .host (BitVec.setWidth 32 b) 4#32) 4#32 = BitVec.ofBool ((pick b true).getLsbD 2) ∧
    has (IntOp.shrsi .host (BitVec.setWidth 32 b) 4#32) 8#32 = BitVec.ofBool ((pick b true).getLsbD 3) := by decide +kernel

theorem bf16_bits (b : BitVec 16) : Ideal.ofBits .bf16 b = Ideal.ieee 8 7 b := rfl

theorem bf16_literals :
    Ideal.ofBits .bf16 16576#16 = ((6 : ℝ) : EReal) ∧ Ideal.ofBits .bf16 16512#16 = ((4 : ℝ) : EReal) ∧
    Ideal.ofBits .bf16 16448#16 = ((3 : ℝ) : EReal) ∧ Ideal.ofBits .bf16 16384#16 = ((2 : ℝ) : EReal) ∧
    Ideal.ofBits .bf16 16320#16 = ((3 / 2 : ℝ) : EReal) ∧ Ideal.ofBits .bf16 16128#16 = ((1 / 2 : ℝ) : EReal) := by
  refine ⟨?_, ?_, ?_, ?_, ?_, ?_⟩ <;>
  · rw [bf16_bits]
    unfold Ideal.ieee
    simp [-EReal.coe_mul]
    norm_num [-EReal.coe_mul]

/-- The choices give the number the nibble stands for. -/
theorem tree_value {n : BitVec 32} {p : BitVec 8} (h : has n 1#32 = BitVec.ofBool (p.getLsbD 0) ∧ has n 2#32 = BitVec.ofBool (p.getLsbD 1) ∧
    has n 4#32 = BitVec.ofBool (p.getLsbD 2) ∧ has n 8#32 = BitVec.ofBool (p.getLsbD 3)) : tree n = (value p : EReal) := by
  obtain ⟨h0, h1, h2, h3⟩ := h
  obtain ⟨c6, c4, c3, c2, c32, c12⟩ := bf16_literals
  unfold tree treeMagnitude value magnitude
  rw [h0, h1, h2, h3, c6, c4, c3, c2, c32, c12]
  simp only [Cert.Exponent.select_ofBool]
  generalize p.getLsbD 0 = b0
  generalize p.getLsbD 1 = b1
  generalize p.getLsbD 2 = b2
  generalize p.getLsbD 3 = b3
  cases b0 <;> cases b1 <;> cases b2 <;> cases b3 <;> simp

theorem tree_lower (b : BitVec 8) : tree (IntOp.andi (BitVec.setWidth 32 b) 15#32) = (value (pick b false) : EReal) := tree_value (lower_bits b)

theorem tree_upper (b : BitVec 8) : tree (IntOp.shrsi .host (BitVec.setWidth 32 b) 4#32) = (value (pick b true) : EReal) := tree_value (upper_bits b)

end Cert.Nibble

end
-- ==== Proof.Reference.Weights.lean ====
/- What the reference's host operations leave of the packed weights: column `j` of row `k` is the number of one nibble of byte `j / 2`,
   the lower nibble for even `j`, the upper one for odd. -/
module

public import proofs.«01_k».proof.Proof.Gen.ReferenceIdeal.Value
public import proofs.«01_k».proof.Proof.Reference.Tree
public import Idealize.ShloMosaic.Lib.Pointwise
public import Idealize.ShloMosaic.Lib.StableHlo.ReadAt

@[expose] public section

set_option maxRecDepth 16384

noncomputable section

namespace Cert.ReferenceIdeal.Gen

open Idealize.ShloMosaic Idealize.ShloMosaic.TcCoe
open Cert.Nibble

variable (m : (ℓ : Loc nD τ sig) → Buf (Elt Ideal) ℓ)

theorem V_weight (c : Dev nD) (k j : Fin 5120) :
    (V m c main_v86 : S5120x5120.Idx → EReal) (ix2 k j)
      = (value (pick ((show S5120x2560.Idx → BitVec 8 from m (c, Proc.tc.devRef main_arg1)) (ix2 k ⟨j.val / 2, by omega⟩))
          (j.val % 2 = 1)) : EReal) := by
  unfold_abbrev_sides
  after_reads_at
  split
  · rename_i h
    after_reads_at
    exact (tree_lower _).trans (by rw [show decide (j.val % 2 = 1) = false from decide_eq_false (by omega)])
  · rename_i h
    after_reads_at
    exact (tree_upper _).trans (by rw [show decide (j.val % 2 = 1) = true from decide_eq_true (by omega)])

end Cert.ReferenceIdeal.Gen

end
-- ==== Proof.Equal.lean ====
/- The two programs' results, entry by entry, from equal arguments. -/
module

public import proofs.«01_k».proof.Defs
public import proofs.«01_k».proof.Proof.Rows
public import proofs.«01_k».proof.Proof.Ideal.KernelValues
public import proofs.«01_k».proof.Proof.Reference.Region
public import proofs.«01_k».proof.Proof.Reference.Weights

@[expose] public section

set_option maxRecDepth 16384

noncomputable section

namespace Cert.Equal

open Idealize.ShloMosaic Idealize.ShloMosaic.TcCoe
open Cert.Rows
open Cert.KernelIdeal.Gen (argRow kernelProduct codeOf scaleOf productOf decoded)

/-- The precondition, read at one entry. -/
theorem entry_bounded [Cert.Pre_finite.Facts] {x : Cert.Pre_finite.S3x4096x5120.Idx → EReal} {p : Cert.Pre_finite.S5120x2560.Idx → BitVec 8}
    {s : Cert.Pre_finite.S320x5120.Idx → EReal} {g : Cert.Pre_finite.S_.Idx → EReal}
    (h : Cert.Pre_finite.fn (F := Ideal) x p s g = fun _ => 1#1) (i : Cert.Pre_finite.S3x4096x5120.Idx) :
    max (x i) (-x i) ≤ Ideal.ofBits .bf16 0x7F7F#16 := by
  have h' : BitVec.ofBool (decide (max (x i) (-x i) ≤ Ideal.ofBits .bf16 0x7F7F#16)) = 1#1 := congrFun h i
  exact of_decide_eq_true ((WordCmp.ofBool_eq_one_iff _).mp h')

/-- Under the precondition every row is bounded. -/
theorem rows_bounded [Cert.Pre_finite.Facts] {m : (ℓ : Loc Cert.KernelIdeal.nD Cert.KernelIdeal.τ Cert.KernelIdeal.sig) → Buf (Elt Ideal) ℓ}
    (h : Cert.Pre_KernelIdeal_finite m) (c : Dev Cert.KernelIdeal.nD) (r : Fin 12288) :
    Bounded (argRow (m ((c.tc : Thread Cert.KernelIdeal.nD Cert.KernelIdeal.τ).loc Cert.KernelIdeal.main_arg0)) r) :=
  fun _ => entry_bounded (h c) _

section

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

open Cert.ReferenceIdeal Cert.ReferenceIdeal.Gen in
/-- The reference's third result, from its first argument. -/
theorem reference_scales (c : Dev Cert.ReferenceIdeal.nD) {x : Cert.ReferenceIdeal.S3x4096x5120.Idx → EReal}
    (h0 : m' (c, Proc.tc.devRef Cert.ReferenceIdeal.main_arg0) = x) (hb : ∀ r, Bounded (argRow x r)) :
    (dats m' 0 c).arrAt 7 cfg0.N = fun i : Cert.ReferenceIdeal.S12288x1.Idx => scaleOf (argRow x (i 0)) := by
  refine (arr7 m' c).trans (funext fun i => ?_)
  rw [scale_same (hb (i 0))]
  refine (V_scale m' c (i 0)).trans ?_
  rw [h0]; rfl

open Cert.ReferenceIdeal Cert.ReferenceIdeal.Gen in
/-- One code of the reference. -/
theorem reference_code (c : Dev Cert.ReferenceIdeal.nD) {x : Cert.ReferenceIdeal.S3x4096x5120.Idx → EReal}
    (h0 : m' (c, Proc.tc.devRef Cert.ReferenceIdeal.main_arg0) = x) (hb : ∀ r, Bounded (argRow x r)) (r : Fin 12288) (k : Fin 5120) :
    (V m' c Cert.ReferenceIdeal.main_v27 : Cert.ReferenceIdeal.S12288x5120.Idx → EReal) (ix2 r k) = codeOf (argRow x r) k := by
  rw [code_same (hb r)]
  refine (V_quotient m' c r k).trans ?_
  rw [h0]; rfl

open Cert.ReferenceIdeal Cert.ReferenceIdeal.Gen in
/-- The reference's second result, from its first argument. -/
theorem reference_codes (c : Dev Cert.ReferenceIdeal.nD) {x : Cert.ReferenceIdeal.S3x4096x5120.Idx → EReal}
    (h0 : m' (c, Proc.tc.devRef Cert.ReferenceIdeal.main_arg0) = x) (hb : ∀ r, Bounded (argRow x r)) :
    (dats m' 0 c).arrAt 6 cfg0.N = fun i : Cert.ReferenceIdeal.S12288x5120.Idx => codeOf (argRow x (i 0)) (i 1) :=
  (arr6 m' c).trans (funext fun i => reference_code m' c h0 hb (i 0) (i 1))

open Cert.ReferenceIdeal Cert.ReferenceIdeal.Gen in
/-- The reference's first result, from its arguments. -/
theorem reference_product (c : Dev Cert.ReferenceIdeal.nD) {x : Cert.ReferenceIdeal.S3x4096x5120.Idx → EReal}
    {p : Cert.ReferenceIdeal.S5120x2560.Idx → BitVec 8} {s : Cert.ReferenceIdeal.S320x5120.Idx → EReal} {g : Cert.ReferenceIdeal.S_.Idx → EReal}
    (h0 : m' (c, Proc.tc.devRef Cert.ReferenceIdeal.main_arg0) = x) (h1 : m' (c, Proc.tc.devRef Cert.ReferenceIdeal.main_arg1) = p)
    (h2 : m' (c, Proc.tc.devRef Cert.ReferenceIdeal.main_arg2) = s) (h3 : m' (c, Proc.tc.devRef Cert.ReferenceIdeal.main_arg3) = g)
    (hb : ∀ r, Bounded (argRow x r)) :
    (dats m' 0 c).arrAt 5 cfg0.N = kernelProduct x p s g := by
  refine (arr5 m' c).trans (funext fun i => ?_)
  have hs : (V m' c Cert.ReferenceIdeal.main_v21 : Cert.ReferenceIdeal.S12288x1.Idx → EReal) (ix2 (i 0) 0) = scaleOf (argRow x (i 0)) := by
    rw [scale_same (hb (i 0))]
    refine (V_scale m' c (i 0)).trans ?_
    rw [h0]; rfl
  unfold productAt kernelProduct productOf
  refine congrArg₂ ((· * ·) : EReal → EReal → EReal) (congrArg₂ ((· * ·) : EReal → EReal → EReal) (Finset.sum_congr rfl fun k _ => ?_) hs) ((V_global m' c).trans (by rw [h3]))
  refine congrArg₂ ((· * ·) : EReal → EReal → EReal) (reference_code m' c h0 hb (i 0) k) ?_
  refine (congrArg₂ ((· * ·) : EReal → EReal → EReal) (V_weight m' c k (i 1)) (V_weight_scale m' c k (i 1))).trans ?_
  rw [h1, h2]
  rfl

end

end Cert.Equal

end
-- ==== Proof.lean ====
module

public import proofs.«01_k».proof.Defs
public import proofs.«01_k».proof.Proof.Gen.Kernel
public import proofs.«01_k».proof.Proof.Machine.Run
public import proofs.«01_k».proof.Proof.Gen.KernelIdeal
public import proofs.«01_k».proof.Proof.Ideal.Run
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_finite
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The two programs leave the same three results, whatever the arguments, as long as every entry of the first is at most the largest bf16
    in magnitude. -/
theorem same : @Cert.algebraic_KernelIdeal_ReferenceIdeal_pre_finite Cert.KernelIdeal.Gen.facts Cert.ReferenceIdeal.Gen.facts Cert.Pre_finite.Gen.facts := by
  intro m g m' g' hpre hargs
  have hb := fun c => Cert.Equal.rows_bounded hpre c
  refine ⟨fun c => Cert.KernelIdeal.Gen.kernelProduct (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => fun i => Cert.KernelIdeal.Gen.codeOf (Cert.KernelIdeal.Gen.argRow
      (m ((c.tc : Thread Cert.KernelIdeal.nD Cert.KernelIdeal.τ).loc Cert.KernelIdeal.main_arg0)) (i 0)) (i 1),
    fun c => fun i => Cert.KernelIdeal.Gen.scaleOf (Cert.KernelIdeal.Gen.argRow
      (m ((c.tc : Thread Cert.KernelIdeal.nD Cert.KernelIdeal.τ).loc Cert.KernelIdeal.main_arg0)) (i 0)),
    (θ_run _ _ _).mono (fun r h c => ?_) (Cert.KernelIdeal.Gen.runs m g),
    (θ_run _ _ _).mono (fun r h c => ?_) (Cert.ReferenceIdeal.Value.run_blocks m' g')⟩
  · obtain ⟨h0, h1, h2, k0, k1, k2, k3⟩ := h.1 c
    exact ⟨h0.trans (Cert.KernelIdeal.Gen.kernel_product m g c), h1.trans (Cert.KernelIdeal.Gen.kernel_codes m g c),
      h2.trans (Cert.KernelIdeal.Gen.kernel_scales m g c), k0, k1, k2, k3⟩
  · obtain ⟨h0, h1, h2, k0, k1, k2, k3⟩ := h c
    obtain ⟨a0, a1, a2, a3⟩ := hargs c
    exact ⟨h0.trans (Cert.Equal.reference_product m' c a0 a1 a2 a3 (hb c)), h1.trans (Cert.Equal.reference_codes m' c a0 (hb c)),
      h2.trans (Cert.Equal.reference_scales m' c a0 (hb c)), k0, k1, k2, k3⟩

theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, same⟩

end Cert.Proof

end
